-- ==== Defs.lean ====
def Pre_Tail [hPre_codes_in_range : Cert.Pre_codes_in_range.Facts] (m : (ℓ : Loc Cert.Tail.nD Cert.Tail.τ Cert.Tail.sig) → Buf (Elt Bits) ℓ) : Prop :=
  ∀ c : Dev Cert.Tail.nD,
    (Cert.Pre_codes_in_range.fn (F := Bits) (m ((c.tc : Thread Cert.Tail.nD Cert.Tail.τ).loc Cert.Tail.main_arg0))) = (fun _ => 1#1)

def Pre_TailIdeal [hPre_codes_in_range : Cert.Pre_codes_in_range.Facts] (m : (ℓ : Loc Cert.TailIdeal.nD Cert.TailIdeal.τ Cert.TailIdeal.sig) → Buf (Elt Ideal) ℓ) : Prop :=
  ∀ c : Dev Cert.TailIdeal.nD,
    (Cert.Pre_codes_in_range.fn (F := Ideal) (m ((c.tc : Thread Cert.TailIdeal.nD Cert.TailIdeal.τ).loc Cert.TailIdeal.main_arg0))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_codes_in_range [hPre_codes_in_range : Cert.Pre_codes_in_range.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_codes_in_range.fn (F := Ideal) (m ((c.tc : Thread Cert.TailReferenceIdeal.nD Cert.TailReferenceIdeal.τ).loc Cert.TailReferenceIdeal.main_arg0))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite_pred [hPre_finite_pred : Cert.Pre_finite_pred.Facts] (m : (ℓ : Loc Cert.KernelIdeal.nD Cert.KernelIdeal.τ Cert.KernelIdeal.sig) → Buf (Elt Ideal) ℓ) : Prop :=
  ∀ c : Dev Cert.KernelIdeal.nD,
    (Cert.Pre_finite_pred.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_pred [hPre_finite_pred : Cert.Pre_finite_pred.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_pred.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Tail [hTail : Cert.Tail.Facts] [hPre_codes_in_range : Cert.Pre_codes_in_range.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (Cert.Tail.threads (F := Bits)) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0))
      ∧ r.2.sem = fun _ => 0)

def quiescent_TailIdeal [hTailIdeal : Cert.TailIdeal.Facts] [hPre_codes_in_range : Cert.Pre_codes_in_range.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (Cert.TailIdeal.threads (F := Ideal)) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0))
      ∧ r.2.sem = fun _ => 0)

def quiescent_TailReferenceIdeal_pre_codes_in_range [hTailReferenceIdeal : Cert.TailReferenceIdeal.Facts] [hPre_codes_in_range : Cert.Pre_codes_in_range.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_codes_in_range m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_pred [hKernelIdeal : Cert.KernelIdeal.Facts] [hPre_finite_pred : Cert.Pre_finite_pred.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_pred m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_pred [hReferenceIdeal : Cert.ReferenceIdeal.Facts] [hPre_finite_pred : Cert.Pre_finite_pred.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_pred m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Tail_TailIdeal : Prop :=
  True

def algebraic_TailIdeal_TailReferenceIdeal [hTailIdeal : Cert.TailIdeal.Facts] [hTailReferenceIdeal : Cert.TailReferenceIdeal.Facts] [hPre_codes_in_range : Cert.Pre_codes_in_range.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)) →
    ∃ (v0 : (c : Dev Cert.TailIdeal.nD) → Buf (Elt Ideal) ((c.tc : Thread Cert.TailIdeal.nD Cert.TailIdeal.τ).loc Cert.TailIdeal.main_v8)),
      θ_run (Cert.TailIdeal.defs (F := Ideal)) (Cert.TailIdeal.threads (F := Ideal)) ⟨m, fun _ => 0, g⟩ (fun r => ∀ c : Dev Cert.TailIdeal.nD,
          r.2.mem ((c.tc : Thread Cert.TailIdeal.nD Cert.TailIdeal.τ).loc Cert.TailIdeal.main_v8) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v111) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0))

def algebraic_KernelIdeal_ReferenceIdeal_pre_finite_pred [hKernelIdeal : Cert.KernelIdeal.Facts] [hReferenceIdeal : Cert.ReferenceIdeal.Facts] [hPre_finite_pred : Cert.Pre_finite_pred.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_pred m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hTail : Cert.Tail.Facts) (hTailIdeal : Cert.TailIdeal.Facts) (hTailReferenceIdeal : Cert.TailReferenceIdeal.Facts) (hKernelIdeal : Cert.KernelIdeal.Facts) (hReferenceIdeal : Cert.ReferenceIdeal.Facts) (hPre_codes_in_range : Cert.Pre_codes_in_range.Facts) (hPre_finite_pred : Cert.Pre_finite_pred.Facts),
    quiescent_Tail (hTail := hTail) (hPre_codes_in_range := hPre_codes_in_range)
    ∧ quiescent_TailIdeal (hTailIdeal := hTailIdeal) (hPre_codes_in_range := hPre_codes_in_range)
    ∧ quiescent_TailReferenceIdeal (hTailReferenceIdeal := hTailReferenceIdeal)
    ∧ quiescent_TailReferenceIdeal_pre_codes_in_range (hTailReferenceIdeal := hTailReferenceIdeal) (hPre_codes_in_range := hPre_codes_in_range)
    ∧ quiescent_KernelIdeal (hKernelIdeal := hKernelIdeal)
    ∧ quiescent_KernelIdeal_pre_finite_pred (hKernelIdeal := hKernelIdeal) (hPre_finite_pred := hPre_finite_pred)
    ∧ quiescent_ReferenceIdeal (hReferenceIdeal := hReferenceIdeal)
    ∧ quiescent_ReferenceIdeal_pre_finite_pred (hReferenceIdeal := hReferenceIdeal) (hPre_finite_pred := hPre_finite_pred)
    ∧ preserves_Tail_TailIdeal
    ∧ algebraic_TailIdeal_TailReferenceIdeal (hTailIdeal := hTailIdeal) (hTailReferenceIdeal := hTailReferenceIdeal) (hPre_codes_in_range := hPre_codes_in_range)
    ∧ algebraic_KernelIdeal_ReferenceIdeal_pre_finite_pred (hKernelIdeal := hKernelIdeal) (hReferenceIdeal := hReferenceIdeal) (hPre_finite_pred := hPre_finite_pred)
-- ==== Pre_codes_in_range.lean ====
abbrev S77824x128 : Shape := ⟨2, ![77824, 128]⟩
abbrev S_ : Shape := ⟨0, ![]⟩

class Facts : Prop where
  bcast_S_S77824x128 : S_.BroadcastsInDim S77824x128 (![] : Fin 0 → Fin S77824x128.rank)

variable [Facts]

def fn {F : FTy → Type} [FloatOps F] (main_arg0 : IVec S77824x128 32) : IVec S77824x128 1 :=
  let main_c : IVec S_ 32 := constantI S_ 32 65535#32
  let main_v0 : IVec S77824x128 32 := broadcastInDim S77824x128 ![] bcast_S_S77824x128 main_c
  let main_v1 : IVec S77824x128 32 := andi main_arg0 main_v0
  let main_c_0 : IVec S_ 32 := constantI S_ 32 38912#32
  let main_v2 : IVec S77824x128 32 := broadcastInDim S77824x128 ![] bcast_S_S77824x128 main_c_0
  let main_v3 : IVec S77824x128 1 := cmpi .slt main_v1 main_v2
  let main_c_1 : IVec S_ 32 := constantI S_ 32 16#32
  let main_v4 : IVec S77824x128 32 := broadcastInDim S77824x128 ![] bcast_S_S77824x128 main_c_1
  let main_v5 : IVec S77824x128 32 := Host.shrui main_arg0 main_v4
  let main_c_2 : IVec S_ 32 := constantI S_ 32 38912#32
  let main_v6 : IVec S77824x128 32 := broadcastInDim S77824x128 ![] bcast_S_S77824x128 main_c_2
  let main_v7 : IVec S77824x128 1 := cmpi .slt main_v5 main_v6
  let main_v8 : IVec S77824x128 1 := andi main_v3 main_v7
  main_v8
-- ==== Pre_finite_pred.lean ====
abbrev S4x19x512x512 : Shape := ⟨4, ![4, 19, 512, 512]⟩
abbrev S4x512x512 : Shape := ⟨3, ![4, 512, 512]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel

variable [Facts]

def fn {F : FTy → Type} [FloatOps F] (main_arg0 : FVec F S4x19x512x512 .f32) (main_arg1 : IVec S4x512x512 32) : IVec S_ 1 :=
  let main_v0 : FVec F S4x19x512x512 .f32 := Host.absf main_arg0
  let main_cst : FVec F S_ .f32 := constant S_ .f32 0x7F800000#32
  let main_v1 : FVec F S4x19x512x512 .f32 := broadcastInDim S4x19x512x512 ![] bcast_S_S4x19x512x512 main_cst
  let main_v2 : IVec S4x19x512x512 1 := cmpf .olt main_v0 main_v1
  let main_c : IVec S_ 1 := constantI S_ 1 1#1
  let main_v3 : IVec S_ 1 := (fun x v => Host.reduce IntOp.andi x v reducesTo_S4x19x512x512_S_d0_1_2_3 h_S_) main_v2 main_c
  main_v3
-- ==== Tail.lean ====
abbrev S77824x128 : Shape := ⟨2, ![77824, 128]⟩
abbrev S9961472 : Shape := ⟨1, ![9961472]⟩
abbrev S32x38912 : Shape := ⟨2, ![32, 38912]⟩
abbrev S16384 : Shape := ⟨1, ![16384]⟩
abbrev S38912 : Shape := ⟨1, ![38912]⟩
abbrev S_ : Shape := ⟨0, ![]⟩
abbrev S16 : Shape := ⟨1, ![16]⟩
abbrev S8192 : Shape := ⟨1, ![8192]⟩
abbrev S1x38912 : Shape := ⟨2, ![1, 38912]⟩
abbrev S1024x1024 : Shape := ⟨2, ![1024, 1024]⟩
abbrev S32x2x19x1024 : Shape := ⟨4, ![32, 2, 19, 1024]⟩
abbrev S1x1 : Shape := ⟨2, ![1, 1]⟩
abbrev S2x19x1024 : Shape := ⟨3, ![2, 19, 1024]⟩
abbrev S1x19x1024 : Shape := ⟨3, ![1, 19, 1024]⟩
abbrev S19x1024 : Shape := ⟨2, ![19, 1024]⟩
abbrev S19x1 : Shape := ⟨2, ![19, 1]⟩
abbrev S19 : Shape := ⟨1, ![19]⟩
abbrev S1x19x1 : Shape := ⟨3, ![1, 19, 1]⟩
abbrev S1 : Shape := ⟨1, ![1]⟩
abbrev S1x1x1 : Shape := ⟨3, ![1, 1, 1]⟩

abbrev nBuf : Table → Nat
  | .hbm => 10
  | .local .tc .vmem => 3
  | .local .scVector .vmem => 2
  | _ => 0

abbrev bufTy : (tb : Table) → Fin (nBuf tb) → BufTy
  | .hbm, ⟨0, _⟩ => ⟨S77824x128, .i32⟩
  | .hbm, ⟨1, _⟩ => ⟨S9961472, .i32⟩
  | .hbm, ⟨2, _⟩ => ⟨S32x38912, .i32⟩
  | .hbm, ⟨3, _⟩ => ⟨S1024x1024, .i32⟩
  | .hbm, ⟨4, _⟩ => ⟨S1024x1024, .i32⟩
  | .hbm, ⟨5, _⟩ => ⟨S1024x1024, .i1⟩
  | .hbm, ⟨6, _⟩ => ⟨S1024x1024, .f32⟩
  | .hbm, ⟨7, _⟩ => ⟨S32x2x19x1024, .i32⟩
  | .hbm, ⟨8, _⟩ => ⟨S1x1, .f32⟩
  | .hbm, ⟨9, _⟩ => ⟨S_, .f32⟩
  | .local .tc .vmem, ⟨0, _⟩ => ⟨S32x2x19x1024, .i32⟩
  | .local .tc .vmem, ⟨1, _⟩ => ⟨S1024x1024, .f32⟩
  | .local .tc .vmem, ⟨2, _⟩ => ⟨S1x1, .f32⟩
  | .local .scVector .vmem, ⟨0, _⟩ => ⟨S16384, .i32⟩
  | .local .scVector .vmem, ⟨1, _⟩ => ⟨S38912, .i32⟩
  | _, _ => ⟨S77824x128, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2432_i32 : BitVec 32 := 2432#32
  let v4 : BitVec 32 := Scalar.addi c0_i32_1 c2432_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32 : BitVec 32 := 16#32
  let v14 : BitVec 32 := Scalar.muli arg8 c16_i32
  let v15 : Index := Scalar.indexCast v14
  ![v15.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_4 : BitVec 32 := 0#32
  let v7 : BitVec 32 := Scalar.addi v2 c0_i32_4
  ![v7.toNat]
@[reducible] def k0_t2_loop : Scf.Loop 32 :=
  let c0_i32_8 : BitVec 32 := 0#32
  let c19_i32 : BitVec 32 := 19#32
  let v12 : BitVec 32 := Scalar.addi c0_i32_8 c19_i32
  let c1_i32_9 : BitVec 32 := 1#32
  ⟨c0_i32_8, v12, c1_i32_9⟩
def k0_off3 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_8 : BitVec 32 := 0#32
  let c1_i32_9 : BitVec 32 := 1#32
  let arg8 : BitVec 32 := Scf.iv c0_i32_8 c1_i32_9 k0_t2
  let c2_i32_11 : BitVec 32 := 2#32
  let v14 : BitVec 32 := Scalar.muli arg8 c2_i32_11
  let c1_i32_12 : BitVec 32 := 1#32
  let v15 : BitVec 32 := Scalar.addi v14 c1_i32_12
  let c8192_i32 : BitVec 32 := 8192#32
  let v16 : BitVec 32 := Scalar.muli v15 c8192_i32
  let v17 : BitVec 32 := Scalar.addi v2 v16
  ![v17.toNat]
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  ![v2.toNat]
@[reducible] def k0_t3_loop : Scf.Loop 32 :=
  let c0_i32_18 : BitVec 32 := 0#32
  let c64_i32 : BitVec 32 := 64#32
  let v26 : BitVec 32 := Scalar.addi c0_i32_18 c64_i32
  let c1_i32_19 : BitVec 32 := 1#32
  ⟨c0_i32_18, v26, c1_i32_19⟩
def k0_off5 (k0_t3 : Fin k0_t3_loop.trips) (c0_i32_31 : BitVec 32) : Fin 1 → Nat :=
  let c0_i32_18 : BitVec 32 := 0#32
  let c1_i32_19 : BitVec 32 := 1#32
  let arg10 : BitVec 32 := Scf.iv c0_i32_18 c1_i32_19 k0_t3
  let c8_i32 : BitVec 32 := 8#32
  let v38 : BitVec 32 := Scalar.muli arg10 c8_i32
  let v39 : BitVec 32 := Scalar.addi v38 c0_i32_31
  let c16_i32 : BitVec 32 := 16#32
  let v40 : BitVec 32 := Scalar.muli v39 c16_i32
  let v42 : Index := Scalar.indexCast v40
  ![v42.toNat]

def k0_chk1 (v87 : IVec S16 32) : Prop :=
  (∀ a x, ((![v87] : Fin 1 → IVec S16 32) a x).toNat < S38912.size a)
theorem k0_idx1_inb : ∀ (v87 : IVec S16 32) (k0_hw1 : k0_chk1 v87), ∀ a x, ((![v87] : Fin 1 → IVec S16 32) a x).toNat < S38912.size a := fun v87 k0_hw1 => k0_hw1

def k0_chk2 (v89 : IVec S16 32) : Prop :=
  (∀ a x, ((![v89] : Fin 1 → IVec S16 32) a x).toNat < S38912.size a)
theorem k0_idx2_inb : ∀ (v89 : IVec S16 32) (k0_hw2 : k0_chk2 v89), ∀ a x, ((![v89] : Fin 1 → IVec S16 32) a x).toNat < S38912.size a := fun v89 k0_hw2 => k0_hw2

def k0_chk3 (v91 : IVec S16 32) : Prop :=
  (∀ a x, ((![v91] : Fin 1 → IVec S16 32) a x).toNat < S38912.size a)
theorem k0_idx3_inb : ∀ (v91 : IVec S16 32) (k0_hw3 : k0_chk3 v91), ∀ a x, ((![v91] : Fin 1 → IVec S16 32) a x).toNat < S38912.size a := fun v91 k0_hw3 => k0_hw3

def k0_chk4 (v93 : IVec S16 32) : Prop :=
  (∀ a x, ((![v93] : Fin 1 → IVec S16 32) a x).toNat < S38912.size a)
theorem k0_idx4_inb : ∀ (v93 : IVec S16 32) (k0_hw4 : k0_chk4 v93), ∀ a x, ((![v93] : Fin 1 → IVec S16 32) a x).toNat < S38912.size a := fun v93 k0_hw4 => k0_hw4

def k0_chk5 (v95 : IVec S16 32) : Prop :=
  (∀ a x, ((![v95] : Fin 1 → IVec S16 32) a x).toNat < S38912.size a)
theorem k0_idx5_inb : ∀ (v95 : IVec S16 32) (k0_hw5 : k0_chk5 v95), ∀ a x, ((![v95] : Fin 1 → IVec S16 32) a x).toNat < S38912.size a := fun v95 k0_hw5 => k0_hw5

def k0_chk6 (v97 : IVec S16 32) : Prop :=
  (∀ a x, ((![v97] : Fin 1 → IVec S16 32) a x).toNat < S38912.size a)
theorem k0_idx6_inb : ∀ (v97 : IVec S16 32) (k0_hw6 : k0_chk6 v97), ∀ a x, ((![v97] : Fin 1 → IVec S16 32) a x).toNat < S38912.size a := fun v97 k0_hw6 => k0_hw6

def k0_chk7 (v99 : IVec S16 32) : Prop :=
  (∀ a x, ((![v99] : Fin 1 → IVec S16 32) a x).toNat < S38912.size a)
theorem k0_idx7_inb : ∀ (v99 : IVec S16 32) (k0_hw7 : k0_chk7 v99), ∀ a x, ((![v99] : Fin 1 → IVec S16 32) a x).toNat < S38912.size a := fun v99 k0_hw7 => k0_hw7

def k0_chk8 (v101 : IVec S16 32) : Prop :=
  (∀ a x, ((![v101] : Fin 1 → IVec S16 32) a x).toNat < S38912.size a)
theorem k0_idx8_inb : ∀ (v101 : IVec S16 32) (k0_hw8 : k0_chk8 v101), ∀ a x, ((![v101] : Fin 1 → IVec S16 32) a x).toNat < S38912.size a := fun v101 k0_hw8 => k0_hw8

def k0_chk9 (v103 : IVec S16 32) : Prop :=
  (∀ a x, ((![v103] : Fin 1 → IVec S16 32) a x).toNat < S38912.size a)
theorem k0_idx9_inb : ∀ (v103 : IVec S16 32) (k0_hw9 : k0_chk9 v103), ∀ a x, ((![v103] : Fin 1 → IVec S16 32) a x).toNat < S38912.size a := fun v103 k0_hw9 => k0_hw9

def k0_chk10 (v105 : IVec S16 32) : Prop :=
  (∀ a x, ((![v105] : Fin 1 → IVec S16 32) a x).toNat < S38912.size a)
theorem k0_idx10_inb : ∀ (v105 : IVec S16 32) (k0_hw10 : k0_chk10 v105), ∀ a x, ((![v105] : Fin 1 → IVec S16 32) a x).toNat < S38912.size a := fun v105 k0_hw10 => k0_hw10

def k0_chk11 (v107 : IVec S16 32) : Prop :=
  (∀ a x, ((![v107] : Fin 1 → IVec S16 32) a x).toNat < S38912.size a)
theorem k0_idx11_inb : ∀ (v107 : IVec S16 32) (k0_hw11 : k0_chk11 v107), ∀ a x, ((![v107] : Fin 1 → IVec S16 32) a x).toNat < S38912.size a := fun v107 k0_hw11 => k0_hw11

def k0_chk12 (v109 : IVec S16 32) : Prop :=
  (∀ a x, ((![v109] : Fin 1 → IVec S16 32) a x).toNat < S38912.size a)
theorem k0_idx12_inb : ∀ (v109 : IVec S16 32) (k0_hw12 : k0_chk12 v109), ∀ a x, ((![v109] : Fin 1 → IVec S16 32) a x).toNat < S38912.size a := fun v109 k0_hw12 => k0_hw12

def k0_chk13 (v111 : IVec S16 32) : Prop :=
  (∀ a x, ((![v111] : Fin 1 → IVec S16 32) a x).toNat < S38912.size a)
theorem k0_idx13_inb : ∀ (v111 : IVec S16 32) (k0_hw13 : k0_chk13 v111), ∀ a x, ((![v111] : Fin 1 → IVec S16 32) a x).toNat < S38912.size a := fun v111 k0_hw13 => k0_hw13

def k0_chk14 (v113 : IVec S16 32) : Prop :=
  (∀ a x, ((![v113] : Fin 1 → IVec S16 32) a x).toNat < S38912.size a)
theorem k0_idx14_inb : ∀ (v113 : IVec S16 32) (k0_hw14 : k0_chk14 v113), ∀ a x, ((![v113] : Fin 1 → IVec S16 32) a x).toNat < S38912.size a := fun v113 k0_hw14 => k0_hw14

def k0_chk15 (v115 : IVec S16 32) : Prop :=
  (∀ a x, ((![v115] : Fin 1 → IVec S16 32) a x).toNat < S38912.size a)
theorem k0_idx15_inb : ∀ (v115 : IVec S16 32) (k0_hw15 : k0_chk15 v115), ∀ a x, ((![v115] : Fin 1 → IVec S16 32) a x).toNat < S38912.size a := fun v115 k0_hw15 => k0_hw15

def k0_chk16 (v117 : IVec S16 32) : Prop :=
  (∀ a x, ((![v117] : Fin 1 → IVec S16 32) a x).toNat < S38912.size a)
theorem k0_idx16_inb : ∀ (v117 : IVec S16 32) (k0_hw16 : k0_chk16 v117), ∀ a x, ((![v117] : Fin 1 → IVec S16 32) a x).toNat < S38912.size a := fun v117 k0_hw16 => k0_hw16
def k0_cond1 (k0_t2 : Fin k0_t2_loop.trips) : BitVec 1 :=
  let c0_i32_8 : BitVec 32 := 0#32
  let c1_i32_9 : BitVec 32 := 1#32
  let arg8 : BitVec 32 := Scf.iv c0_i32_8 c1_i32_9 k0_t2
  let c2_i32_11 : BitVec 32 := 2#32
  let v14 : BitVec 32 := Scalar.muli arg8 c2_i32_11
  let c2_i32_21 : BitVec 32 := 2#32
  let v28 : BitVec 32 := Scalar.addi v14 c2_i32_21
  let c38_i32 : BitVec 32 := 38#32
  let v29 : BitVec 1 := Scalar.cmpi .slt v28 c38_i32
  let v30 : BitVec 32 := Scalar.extui v29
  let c0_i32_22 : BitVec 32 := 0#32
  let v31 : BitVec 1 := Scalar.cmpi .ne v30 c0_i32_22
  v31

def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_8 : BitVec 32 := 0#32
  let c1_i32_9 : BitVec 32 := 1#32
  let arg8 : BitVec 32 := Scf.iv c0_i32_8 c1_i32_9 k0_t2
  let c2_i32_11 : BitVec 32 := 2#32
  let v14 : BitVec 32 := Scalar.muli arg8 c2_i32_11
  let c2_i32_31 : BitVec 32 := 2#32
  let v38 : BitVec 32 := Scalar.addi v14 c2_i32_31
  let c8192_i32_32 : BitVec 32 := 8192#32
  let v39 : BitVec 32 := Scalar.muli v38 c8192_i32_32
  let v40 : BitVec 32 := Scalar.addi v2 v39
  ![v40.toNat]
@[reducible] def k0_t4_loop : Scf.Loop 32 :=
  let c0_i32_26 : BitVec 32 := 0#32
  let c64_i32_27 : BitVec 32 := 64#32
  let v36 : BitVec 32 := Scalar.addi c0_i32_26 c64_i32_27
  let c1_i32_28 : BitVec 32 := 1#32
  ⟨c0_i32_26, v36, c1_i32_28⟩
def k0_off7 (k0_t4 : Fin k0_t4_loop.trips) (c0_i32_31 : BitVec 32) : Fin 1 → Nat :=
  let c0_i32_26 : BitVec 32 := 0#32
  let c1_i32_28 : BitVec 32 := 1#32
  let arg10 : BitVec 32 := Scf.iv c0_i32_26 c1_i32_28 k0_t4
  let c8_i32 : BitVec 32 := 8#32
  let v38 : BitVec 32 := Scalar.muli arg10 c8_i32
  let v39 : BitVec 32 := Scalar.addi v38 c0_i32_31
  let c16_i32 : BitVec 32 := 16#32
  let v40 : BitVec 32 := Scalar.muli v39 c16_i32
  let v42 : Index := Scalar.indexCast v40
  ![v42.toNat]

def k0_chk17 (v87 : IVec S16 32) : Prop :=
  (∀ a x, ((![v87] : Fin 1 → IVec S16 32) a x).toNat < S38912.size a)
theorem k0_idx17_inb : ∀ (v87 : IVec S16 32) (k0_hw17 : k0_chk17 v87), ∀ a x, ((![v87] : Fin 1 → IVec S16 32) a x).toNat < S38912.size a := fun v87 k0_hw17 => k0_hw17

def k0_chk18 (v89 : IVec S16 32) : Prop :=
  (∀ a x, ((![v89] : Fin 1 → IVec S16 32) a x).toNat < S38912.size a)
theorem k0_idx18_inb : ∀ (v89 : IVec S16 32) (k0_hw18 : k0_chk18 v89), ∀ a x, ((![v89] : Fin 1 → IVec S16 32) a x).toNat < S38912.size a := fun v89 k0_hw18 => k0_hw18

def k0_chk19 (v91 : IVec S16 32) : Prop :=
  (∀ a x, ((![v91] : Fin 1 → IVec S16 32) a x).toNat < S38912.size a)
theorem k0_idx19_inb : ∀ (v91 : IVec S16 32) (k0_hw19 : k0_chk19 v91), ∀ a x, ((![v91] : Fin 1 → IVec S16 32) a x).toNat < S38912.size a := fun v91 k0_hw19 => k0_hw19

def k0_chk20 (v93 : IVec S16 32) : Prop :=
  (∀ a x, ((![v93] : Fin 1 → IVec S16 32) a x).toNat < S38912.size a)
theorem k0_idx20_inb : ∀ (v93 : IVec S16 32) (k0_hw20 : k0_chk20 v93), ∀ a x, ((![v93] : Fin 1 → IVec S16 32) a x).toNat < S38912.size a := fun v93 k0_hw20 => k0_hw20

def k0_chk21 (v95 : IVec S16 32) : Prop :=
  (∀ a x, ((![v95] : Fin 1 → IVec S16 32) a x).toNat < S38912.size a)
theorem k0_idx21_inb : ∀ (v95 : IVec S16 32) (k0_hw21 : k0_chk21 v95), ∀ a x, ((![v95] : Fin 1 → IVec S16 32) a x).toNat < S38912.size a := fun v95 k0_hw21 => k0_hw21

def k0_chk22 (v97 : IVec S16 32) : Prop :=
  (∀ a x, ((![v97] : Fin 1 → IVec S16 32) a x).toNat < S38912.size a)
theorem k0_idx22_inb : ∀ (v97 : IVec S16 32) (k0_hw22 : k0_chk22 v97), ∀ a x, ((![v97] : Fin 1 → IVec S16 32) a x).toNat < S38912.size a := fun v97 k0_hw22 => k0_hw22

def k0_chk23 (v99 : IVec S16 32) : Prop :=
  (∀ a x, ((![v99] : Fin 1 → IVec S16 32) a x).toNat < S38912.size a)
theorem k0_idx23_inb : ∀ (v99 : IVec S16 32) (k0_hw23 : k0_chk23 v99), ∀ a x, ((![v99] : Fin 1 → IVec S16 32) a x).toNat < S38912.size a := fun v99 k0_hw23 => k0_hw23

def k0_chk24 (v101 : IVec S16 32) : Prop :=
  (∀ a x, ((![v101] : Fin 1 → IVec S16 32) a x).toNat < S38912.size a)
theorem k0_idx24_inb : ∀ (v101 : IVec S16 32) (k0_hw24 : k0_chk24 v101), ∀ a x, ((![v101] : Fin 1 → IVec S16 32) a x).toNat < S38912.size a := fun v101 k0_hw24 => k0_hw24

def k0_chk25 (v103 : IVec S16 32) : Prop :=
  (∀ a x, ((![v103] : Fin 1 → IVec S16 32) a x).toNat < S38912.size a)
theorem k0_idx25_inb : ∀ (v103 : IVec S16 32) (k0_hw25 : k0_chk25 v103), ∀ a x, ((![v103] : Fin 1 → IVec S16 32) a x).toNat < S38912.size a := fun v103 k0_hw25 => k0_hw25

def k0_chk26 (v105 : IVec S16 32) : Prop :=
  (∀ a x, ((![v105] : Fin 1 → IVec S16 32) a x).toNat < S38912.size a)
theorem k0_idx26_inb : ∀ (v105 : IVec S16 32) (k0_hw26 : k0_chk26 v105), ∀ a x, ((![v105] : Fin 1 → IVec S16 32) a x).toNat < S38912.size a := fun v105 k0_hw26 => k0_hw26

def k0_chk27 (v107 : IVec S16 32) : Prop :=
  (∀ a x, ((![v107] : Fin 1 → IVec S16 32) a x).toNat < S38912.size a)
theorem k0_idx27_inb : ∀ (v107 : IVec S16 32) (k0_hw27 : k0_chk27 v107), ∀ a x, ((![v107] : Fin 1 → IVec S16 32) a x).toNat < S38912.size a := fun v107 k0_hw27 => k0_hw27

def k0_chk28 (v109 : IVec S16 32) : Prop :=
  (∀ a x, ((![v109] : Fin 1 → IVec S16 32) a x).toNat < S38912.size a)
theorem k0_idx28_inb : ∀ (v109 : IVec S16 32) (k0_hw28 : k0_chk28 v109), ∀ a x, ((![v109] : Fin 1 → IVec S16 32) a x).toNat < S38912.size a := fun v109 k0_hw28 => k0_hw28

def k0_chk29 (v111 : IVec S16 32) : Prop :=
  (∀ a x, ((![v111] : Fin 1 → IVec S16 32) a x).toNat < S38912.size a)
theorem k0_idx29_inb : ∀ (v111 : IVec S16 32) (k0_hw29 : k0_chk29 v111), ∀ a x, ((![v111] : Fin 1 → IVec S16 32) a x).toNat < S38912.size a := fun v111 k0_hw29 => k0_hw29

def k0_chk30 (v113 : IVec S16 32) : Prop :=
  (∀ a x, ((![v113] : Fin 1 → IVec S16 32) a x).toNat < S38912.size a)
theorem k0_idx30_inb : ∀ (v113 : IVec S16 32) (k0_hw30 : k0_chk30 v113), ∀ a x, ((![v113] : Fin 1 → IVec S16 32) a x).toNat < S38912.size a := fun v113 k0_hw30 => k0_hw30

def k0_chk31 (v115 : IVec S16 32) : Prop :=
  (∀ a x, ((![v115] : Fin 1 → IVec S16 32) a x).toNat < S38912.size a)
theorem k0_idx31_inb : ∀ (v115 : IVec S16 32) (k0_hw31 : k0_chk31 v115), ∀ a x, ((![v115] : Fin 1 → IVec S16 32) a x).toNat < S38912.size a := fun v115 k0_hw31 => k0_hw31

def k0_chk32 (v117 : IVec S16 32) : Prop :=
  (∀ a x, ((![v117] : Fin 1 → IVec S16 32) a x).toNat < S38912.size a)
theorem k0_idx32_inb : ∀ (v117 : IVec S16 32) (k0_hw32 : k0_chk32 v117), ∀ a x, ((![v117] : Fin 1 → IVec S16 32) a x).toNat < S38912.size a := fun v117 k0_hw32 => k0_hw32
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r0 : BitVec 32 := 0#32
  ![v1.toNat, 0]
abbrev grid1 : Pipeline.Grid := .none

abbrev stage1_0 : Fin 1 → Memref sig .tc .vmem S32x2x19x1024 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TailReferenceIdeal.lean ====
abbrev S77824x128 : Shape := ⟨2, ![77824, 128]⟩
abbrev S_ : Shape := ⟨0, ![]⟩
abbrev S19x1025 : Shape := ⟨2, ![19, 1025]⟩
abbrev S19x1025x1x1 : Shape := ⟨4, ![19, 1025, 1, 1]⟩
abbrev S1x1x77824x128 : Shape := ⟨4, ![1, 1, 77824, 128]⟩
abbrev S19x1025x77824x128 : Shape := ⟨4, ![19, 1025, 77824, 128]⟩
abbrev S19x1 : Shape := ⟨2, ![19, 1]⟩
abbrev S19x1024 : Shape := ⟨2, ![19, 1024]⟩
abbrev S19 : Shape := ⟨1, ![19]⟩

abbrev nBuf : Space → Nat
  | .hbm => 138
  | .vmem => 0
  | .smem => 0
  | _ => 0

abbrev hbmTy0_0 (i : Nat) : BufTy := match i % 128 with
  | 0 => ⟨S77824x128, .i32⟩
  | 1 => ⟨S_, .i32⟩
  | 2 => ⟨S77824x128, .i32⟩
  | 3 => ⟨S77824x128, .i32⟩
  | 4 => ⟨S_, .i32⟩
  | 5 => ⟨S77824x128, .i32⟩
  | 6 => ⟨S77824x128, .i32⟩
  | 7 => ⟨S19x1025, .i32⟩
  | 8 => ⟨S19x1025, .i32⟩
  | 9 => ⟨S_, .i32⟩
  | 10 => ⟨S19x1025, .i32⟩
  | 11 => ⟨S19x1025, .i32⟩
  | 12 => ⟨S_, .i32⟩
  | 13 => ⟨S19x1025, .i32⟩
  | 14 => ⟨S19x1025, .i32⟩
  | 15 => ⟨S19x1025, .i32⟩
  | 16 => ⟨S19x1025x1x1, .i32⟩
  | 17 => ⟨S_, .i32⟩
  | 18 => ⟨S19x1025, .i32⟩
  | 19 => ⟨S19x1025, .i32⟩
  | 20 => ⟨S_, .i32⟩
  | 21 => ⟨S19x1025, .i32⟩
  | 22 => ⟨S19x1025, .i32⟩
  | 23 => ⟨S_, .i32⟩
  | 24 => ⟨S19x1025, .i32⟩
  | 25 => ⟨S19x1025, .i32⟩
  | 26 => ⟨S19x1025x1x1, .i32⟩
  | 27 => ⟨S1x1x77824x128, .i32⟩
  | 28 => ⟨S19x1025x77824x128, .i32⟩
  | 29 => ⟨S19x1025x77824x128, .i32⟩
  | 30 => ⟨S19x1025x77824x128, .i1⟩
  | 31 => ⟨S1x1x77824x128, .i32⟩
  | 32 => ⟨S19x1025x77824x128, .i32⟩
  | 33 => ⟨S19x1025x77824x128, .i32⟩
  | 34 => ⟨S19x1025x77824x128, .i1⟩
  | 35 => ⟨S19x1025x77824x128, .i1⟩
  | 36 => ⟨S19x1025x77824x128, .i32⟩
  | 37 => ⟨S1x1x77824x128, .i32⟩
  | 38 => ⟨S19x1025x77824x128, .i32⟩
  | 39 => ⟨S19x1025x77824x128, .i32⟩
  | 40 => ⟨S19x1025x77824x128, .i1⟩
  | 41 => ⟨S1x1x77824x128, .i32⟩
  | 42 => ⟨S19x1025x77824x128, .i32⟩
  | 43 => ⟨S19x1025x77824x128, .i32⟩
  | 44 => ⟨S19x1025x77824x128, .i1⟩
  | 45 => ⟨S19x1025x77824x128, .i1⟩
  | 46 => ⟨S19x1025x77824x128, .i32⟩
  | 47 => ⟨S19x1025x77824x128, .i32⟩
  | 48 => ⟨S_, .i32⟩
  | 49 => ⟨S19x1025, .i32⟩
  | 50 => ⟨S19x1025, .f32⟩
  | 51 => ⟨S_, .i32⟩
  | 52 => ⟨S19x1025, .i32⟩
  | 53 => ⟨S19x1025, .i32⟩
  | 54 => ⟨S_, .i32⟩
  | 55 => ⟨S19x1025, .i32⟩
  | 56 => ⟨S19x1025, .i32⟩
  | 57 => ⟨S19x1025, .i32⟩
  | 58 => ⟨S19x1025x1x1, .i32⟩
  | 59 => ⟨S_, .i32⟩
  | 60 => ⟨S19x1025, .i32⟩
  | 61 => ⟨S19x1025, .i32⟩
  | 62 => ⟨S_, .i32⟩
  | 63 => ⟨S19x1025, .i32⟩
  | 64 => ⟨S19x1025, .i32⟩
  | 65 => ⟨S_, .i32⟩
  | 66 => ⟨S19x1025, .i32⟩
  | 67 => ⟨S19x1025, .i32⟩
  | 68 => ⟨S19x1025x1x1, .i32⟩
  | 69 => ⟨S1x1x77824x128, .i32⟩
  | 70 => ⟨S19x1025x77824x128, .i32⟩
  | 71 => ⟨S19x1025x77824x128, .i32⟩
  | 72 => ⟨S19x1025x77824x128, .i1⟩
  | 73 => ⟨S1x1x77824x128, .i32⟩
  | 74 => ⟨S19x1025x77824x128, .i32⟩
  | 75 => ⟨S19x1025x77824x128, .i32⟩
  | 76 => ⟨S19x1025x77824x128, .i1⟩
  | 77 => ⟨S19x1025x77824x128, .i1⟩
  | 78 => ⟨S19x1025x77824x128, .i32⟩
  | 79 => ⟨S1x1x77824x128, .i32⟩
  | 80 => ⟨S19x1025x77824x128, .i32⟩
  | 81 => ⟨S19x1025x77824x128, .i32⟩
  | 82 => ⟨S19x1025x77824x128, .i1⟩
  | 83 => ⟨S1x1x77824x128, .i32⟩
  | 84 => ⟨S19x1025x77824x128, .i32⟩
  | 85 => ⟨S19x1025x77824x128, .i32⟩
  | 86 => ⟨S19x1025x77824x128, .i1⟩
  | 87 => ⟨S19x1025x77824x128, .i1⟩
  | 88 => ⟨S19x1025x77824x128, .i32⟩
  | 89 => ⟨S19x1025x77824x128, .i32⟩
  | 90 => ⟨S_, .i32⟩
  | 91 => ⟨S19x1025, .i32⟩
  | 92 => ⟨S19x1025, .f32⟩
  | 93 => ⟨S19x1, .f32⟩
  | 94 => ⟨S19x1025, .f32⟩
  | 95 => ⟨S19x1025, .f32⟩
  | 96 => ⟨S19x1025, .f32⟩
  | 97 => ⟨S19x1025, .f32⟩
  | 98 => ⟨S_, .f32⟩
  | 99 => ⟨S19x1025, .f32⟩
  | 100 => ⟨S19x1025, .i1⟩
  | 101 => ⟨S_, .f32⟩
  | 102 => ⟨S19x1025, .f32⟩
  | 103 => ⟨S19x1025, .f32⟩
  | 104 => ⟨S19x1025, .f32⟩
  | 105 => ⟨S_, .f32⟩
  | 106 => ⟨S19x1025, .f32⟩
  | 107 => ⟨S19x1025, .f32⟩
  | 108 => ⟨S_, .f32⟩
  | 109 => ⟨S19x1025, .f32⟩
  | 110 => ⟨S19x1025, .f32⟩
  | 111 => ⟨S19x1024, .i32⟩
  | 112 => ⟨S19x1024, .f32⟩
  | 113 => ⟨S_, .f32⟩
  | 114 => ⟨S19x1024, .f32⟩
  | 115 => ⟨S19x1024, .f32⟩
  | 116 => ⟨S_, .f32⟩
  | 117 => ⟨S19x1024, .f32⟩
  | 118 => ⟨S19x1024, .f32⟩
  | 119 => ⟨S19x1024, .f32⟩
  | 120 => ⟨S19x1024, .f32⟩
  | 121 => ⟨S19x1024, .f32⟩
  | 122 => ⟨S19x1024, .f32⟩
  | 123 => ⟨S_, .f32⟩
  | 124 => ⟨S19, .f32⟩
  | 125 => ⟨S19, .f32⟩
  | 126 => ⟨S_, .f32⟩
  | 127 => ⟨S19, .f32⟩
  | _ => ⟨S77824x128, .i32⟩

abbrev hbmTy0_1 (i : Nat) : BufTy := match i % 128 with
  | 0 => ⟨S19, .i1⟩
  | 1 => ⟨S19, .f32⟩
  | 2 => ⟨S19, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S77824x128, .i32⟩

abbrev hbmTy (i : Nat) : BufTy := match i / 128 with
  | 0 => hbmTy0_0 i
  | 1 => hbmTy0_1 i
  | _ => ⟨S77824x128, .i32⟩

abbrev bufTy : (tb : Table) → Fin (tcTables nBuf tb) → BufTy
  | .hbm, ⟨i, _⟩ => hbmTy i
  | _, _ => ⟨S77824x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_c_5 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_6 : Ref sig .tc := ⟨.hbm, 48, rfl⟩
abbrev main_v40 : Ref sig .tc := ⟨.hbm, 49, rfl⟩
abbrev main_v41 : Ref sig .tc := ⟨.hbm, 50, rfl⟩
abbrev main_c_7 : Ref sig .tc := ⟨.hbm, 51, rfl⟩
abbrev main_v42 : Ref sig .tc := ⟨.hbm, 52, rfl⟩
abbrev main_v43 : Ref sig .tc := ⟨.hbm, 53, rfl⟩
abbrev main_c_8 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_9 : Ref sig .tc := ⟨.hbm, 59, rfl⟩
abbrev main_v48 : Ref sig .tc := ⟨.hbm, 60, rfl⟩
abbrev main_v49 : Ref sig .tc := ⟨.hbm, 61, rfl⟩
abbrev main_c_10 : Ref sig .tc := ⟨.hbm, 62, rfl⟩
abbrev main_v50 : Ref sig .tc := ⟨.hbm, 63, rfl⟩
abbrev main_v51 : Ref sig .tc := ⟨.hbm, 64, rfl⟩
abbrev main_c_11 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c_12 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_cst : Ref sig .tc := ⟨.hbm, 98, rfl⟩
abbrev main_v83 : Ref sig .tc := ⟨.hbm, 99, rfl⟩
abbrev main_v84 : Ref sig .tc := ⟨.hbm, 100, rfl⟩
abbrev main_cst_13 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_14 : Ref sig .tc := ⟨.hbm, 105, rfl⟩
abbrev main_v88 : Ref sig .tc := ⟨.hbm, 106, rfl⟩
abbrev main_v89 : Ref sig .tc := ⟨.hbm, 107, rfl⟩
abbrev main_cst_15 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_16 : Ref sig .tc := ⟨.hbm, 113, rfl⟩
abbrev main_v94 : Ref sig .tc := ⟨.hbm, 114, rfl⟩
abbrev main_v95 : Ref sig .tc := ⟨.hbm, 115, rfl⟩
abbrev main_cst_17 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_18 : Ref sig .tc := ⟨.hbm, 123, rfl⟩
abbrev main_v102 : Ref sig .tc := ⟨.hbm, 124, rfl⟩
abbrev main_v103 : Ref sig .tc := ⟨.hbm, 125, rfl⟩
abbrev main_cst_19 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_20 : Ref sig .tc := ⟨.hbm, 131, rfl⟩
abbrev main_v108 : Ref sig .tc := ⟨.hbm, 132, rfl⟩
abbrev main_cst_21 : Ref sig .tc := ⟨.hbm, 133, rfl⟩
abbrev main_v109 : Ref sig .tc := ⟨.hbm, 134, rfl⟩
abbrev main_cst_22 : Ref sig .tc := ⟨.hbm, 135, rfl⟩
abbrev main_v110 : Ref sig .tc := ⟨.hbm, 136, rfl⟩
abbrev main_v111 : Ref sig .tc := ⟨.hbm, 137, rfl⟩

abbrev nD : Nat := 1
abbrev τ : Topo := Topo.v7x

variable {F : FTy → Type} [FloatOps F]
-- ==== KernelIdeal.lean ====
abbrev S4x19x512x512 : Shape := ⟨4, ![4, 19, 512, 512]⟩
abbrev S4x512x512 : Shape := ⟨3, ![4, 512, 512]⟩
abbrev S77824x128 : Shape := ⟨2, ![77824, 128]⟩
abbrev S1x19x64x512 : Shape := ⟨4, ![1, 19, 64, 512]⟩
abbrev S1x64x512 : Shape := ⟨3, ![1, 64, 512]⟩
abbrev S2432x128 : Shape := ⟨2, ![2432, 128]⟩
abbrev S19x64x512 : Shape := ⟨3, ![19, 64, 512]⟩
abbrev S64x512 : Shape := ⟨2, ![64, 512]⟩
abbrev S19x32x512 : Shape := ⟨3, ![19, 32, 512]⟩
abbrev S19x32x128 : Shape := ⟨3, ![19, 32, 128]⟩
abbrev S608x128 : Shape := ⟨2, ![608, 128]⟩
abbrev S9961472 : Shape := ⟨1, ![9961472]⟩
abbrev S32x38912 : Shape := ⟨2, ![32, 38912]⟩
abbrev S16384 : Shape := ⟨1, ![16384]⟩
abbrev S38912 : Shape := ⟨1, ![38912]⟩
abbrev S_ : Shape := ⟨0, ![]⟩
abbrev S16 : Shape := ⟨1, ![16]⟩
abbrev S8192 : Shape := ⟨1, ![8192]⟩
abbrev S1x38912 : Shape := ⟨2, ![1, 38912]⟩
abbrev S1024x1024 : Shape := ⟨2, ![1024, 1024]⟩
abbrev S32x2x19x1024 : Shape := ⟨4, ![32, 2, 19, 1024]⟩
abbrev S1x1 : Shape := ⟨2, ![1, 1]⟩
abbrev S2x19x1024 : Shape := ⟨3, ![2, 19, 1024]⟩
abbrev S1x19x1024 : Shape := ⟨3, ![1, 19, 1024]⟩
abbrev S19x1024 : Shape := ⟨2, ![19, 1024]⟩
abbrev S19x1 : Shape := ⟨2, ![19, 1]⟩
abbrev S19 : Shape := ⟨1, ![19]⟩
abbrev S1x19x1 : Shape := ⟨3, ![1, 19, 1]⟩
abbrev S1 : Shape := ⟨1, ![1]⟩
abbrev S1x1x1 : Shape := ⟨3, ![1, 1, 1]⟩

abbrev nBuf : Table → Nat
  | .hbm => 12
  | .local .tc .vmem => 9
  | .local .scVector .vmem => 2
  | _ => 0

abbrev bufTy : (tb : Table) → Fin (nBuf tb) → BufTy
  | .hbm, ⟨0, _⟩ => ⟨S4x19x512x512, .f32⟩
  | .hbm, ⟨1, _⟩ => ⟨S4x512x512, .i32⟩
  | .hbm, ⟨2, _⟩ => ⟨S77824x128, .i32⟩
  | .hbm, ⟨3, _⟩ => ⟨S9961472, .i32⟩
  | .hbm, ⟨4, _⟩ => ⟨S32x38912, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1024x1024, .f32⟩
  | .hbm, ⟨9, _⟩ => ⟨S32x2x19x1024, .i32⟩
  | .hbm, ⟨10, _⟩ => ⟨S1x1, .f32⟩
  | .hbm, ⟨11, _⟩ => ⟨S_, .f32⟩
  | .local .tc .vmem, ⟨0, _⟩ => ⟨S1x19x64x512, .f32⟩
  | .local .tc .vmem, ⟨1, _⟩ => ⟨S1x19x64x512, .f32⟩
  | .local .tc .vmem, ⟨2, _⟩ => ⟨S1x64x512, .i32⟩
  | .local .tc .vmem, ⟨3, _⟩ => ⟨S1x64x512, .i32⟩
  | .local .tc .vmem, ⟨4, _⟩ => ⟨S2432x128, .i32⟩
  | .local .tc .vmem, ⟨5, _⟩ => ⟨S2432x128, .i32⟩
  | .local .tc .vmem, ⟨6, _⟩ => ⟨S32x2x19x1024, .i32⟩
  | .local .tc .vmem, ⟨7, _⟩ => ⟨S1024x1024, .f32⟩
  | .local .tc .vmem, ⟨8, _⟩ => ⟨S1x1, .f32⟩
  | .local .scVector .vmem, ⟨0, _⟩ => ⟨S16384, .i32⟩
  | .local .scVector .vmem, ⟨1, _⟩ => ⟨S38912, .i32⟩
  | _, _ => ⟨S4x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem1_0 : DmaSem sig := 10
abbrev cc2_sem2_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x19x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2432x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_1 : BitVec 32 := 0#32
  let c2432_i32 : BitVec 32 := 2432#32
  let v4 : BitVec 32 := Scalar.addi c0_i32_1 c2432_i32
  let c1_i32 : BitVec 32 := 1#32
  ⟨c0_i32_1, v4, c1_i32⟩
def k1_off1 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32 : BitVec 32 := 16#32
  let v14 : BitVec 32 := Scalar.muli arg8 c16_i32
  let v15 : Index := Scalar.indexCast v14
  ![v15.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_4 : BitVec 32 := 0#32
  let v7 : BitVec 32 := Scalar.addi v2 c0_i32_4
  ![v7.toNat]
@[reducible] def k1_t2_loop : Scf.Loop 32 :=
  let c0_i32_8 : BitVec 32 := 0#32
  let c19_i32 : BitVec 32 := 19#32
  let v12 : BitVec 32 := Scalar.addi c0_i32_8 c19_i32
  let c1_i32_9 : BitVec 32 := 1#32
  ⟨c0_i32_8, v12, c1_i32_9⟩
def k1_off3 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_8 : BitVec 32 := 0#32
  let c1_i32_9 : BitVec 32 := 1#32
  let arg8 : BitVec 32 := Scf.iv c0_i32_8 c1_i32_9 k1_t2
  let c2_i32_11 : BitVec 32 := 2#32
  let v14 : BitVec 32 := Scalar.muli arg8 c2_i32_11
  let c1_i32_12 : BitVec 32 := 1#32
  let v15 : BitVec 32 := Scalar.addi v14 c1_i32_12
  let c8192_i32 : BitVec 32 := 8192#32
  let v16 : BitVec 32 := Scalar.muli v15 c8192_i32
  let v17 : BitVec 32 := Scalar.addi v2 v16
  ![v17.toNat]
def k1_off4 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  ![v2.toNat]
@[reducible] def k1_t3_loop : Scf.Loop 32 :=
  let c0_i32_18 : BitVec 32 := 0#32
  let c64_i32 : BitVec 32 := 64#32
  let v26 : BitVec 32 := Scalar.addi c0_i32_18 c64_i32
  let c1_i32_19 : BitVec 32 := 1#32
  ⟨c0_i32_18, v26, c1_i32_19⟩
def k1_off5 (k1_t3 : Fin k1_t3_loop.trips) (c0_i32_31 : BitVec 32) : Fin 1 → Nat :=
  let c0_i32_18 : BitVec 32 := 0#32
  let c1_i32_19 : BitVec 32 := 1#32
  let arg10 : BitVec 32 := Scf.iv c0_i32_18 c1_i32_19 k1_t3
  let c8_i32 : BitVec 32 := 8#32
  let v38 : BitVec 32 := Scalar.muli arg10 c8_i32
  let v39 : BitVec 32 := Scalar.addi v38 c0_i32_31
  let c16_i32 : BitVec 32 := 16#32
  let v40 : BitVec 32 := Scalar.muli v39 c16_i32
  let v42 : Index := Scalar.indexCast v40
  ![v42.toNat]

def k1_chk1 (v87 : IVec S16 32) : Prop :=
  (∀ a x, ((![v87] : Fin 1 → IVec S16 32) a x).toNat < S38912.size a)
theorem k1_idx1_inb : ∀ (v87 : IVec S16 32) (k1_hw1 : k1_chk1 v87), ∀ a x, ((![v87] : Fin 1 → IVec S16 32) a x).toNat < S38912.size a := fun v87 k1_hw1 => k1_hw1

def k1_chk2 (v89 : IVec S16 32) : Prop :=
  (∀ a x, ((![v89] : Fin 1 → IVec S16 32) a x).toNat < S38912.size a)
theorem k1_idx2_inb : ∀ (v89 : IVec S16 32) (k1_hw2 : k1_chk2 v89), ∀ a x, ((![v89] : Fin 1 → IVec S16 32) a x).toNat < S38912.size a := fun v89 k1_hw2 => k1_hw2

def k1_chk3 (v91 : IVec S16 32) : Prop :=
  (∀ a x, ((![v91] : Fin 1 → IVec S16 32) a x).toNat < S38912.size a)
theorem k1_idx3_inb : ∀ (v91 : IVec S16 32) (k1_hw3 : k1_chk3 v91), ∀ a x, ((![v91] : Fin 1 → IVec S16 32) a x).toNat < S38912.size a := fun v91 k1_hw3 => k1_hw3

def k1_chk4 (v93 : IVec S16 32) : Prop :=
  (∀ a x, ((![v93] : Fin 1 → IVec S16 32) a x).toNat < S38912.size a)
theorem k1_idx4_inb : ∀ (v93 : IVec S16 32) (k1_hw4 : k1_chk4 v93), ∀ a x, ((![v93] : Fin 1 → IVec S16 32) a x).toNat < S38912.size a := fun v93 k1_hw4 => k1_hw4

def k1_chk5 (v95 : IVec S16 32) : Prop :=
  (∀ a x, ((![v95] : Fin 1 → IVec S16 32) a x).toNat < S38912.size a)
theorem k1_idx5_inb : ∀ (v95 : IVec S16 32) (k1_hw5 : k1_chk5 v95), ∀ a x, ((![v95] : Fin 1 → IVec S16 32) a x).toNat < S38912.size a := fun v95 k1_hw5 => k1_hw5

def k1_chk6 (v97 : IVec S16 32) : Prop :=
  (∀ a x, ((![v97] : Fin 1 → IVec S16 32) a x).toNat < S38912.size a)
theorem k1_idx6_inb : ∀ (v97 : IVec S16 32) (k1_hw6 : k1_chk6 v97), ∀ a x, ((![v97] : Fin 1 → IVec S16 32) a x).toNat < S38912.size a := fun v97 k1_hw6 => k1_hw6

def k1_chk7 (v99 : IVec S16 32) : Prop :=
  (∀ a x, ((![v99] : Fin 1 → IVec S16 32) a x).toNat < S38912.size a)
theorem k1_idx7_inb : ∀ (v99 : IVec S16 32) (k1_hw7 : k1_chk7 v99), ∀ a x, ((![v99] : Fin 1 → IVec S16 32) a x).toNat < S38912.size a := fun v99 k1_hw7 => k1_hw7

def k1_chk8 (v101 : IVec S16 32) : Prop :=
  (∀ a x, ((![v101] : Fin 1 → IVec S16 32) a x).toNat < S38912.size a)
theorem k1_idx8_inb : ∀ (v101 : IVec S16 32) (k1_hw8 : k1_chk8 v101), ∀ a x, ((![v101] : Fin 1 → IVec S16 32) a x).toNat < S38912.size a := fun v101 k1_hw8 => k1_hw8

def k1_chk9 (v103 : IVec S16 32) : Prop :=
  (∀ a x, ((![v103] : Fin 1 → IVec S16 32) a x).toNat < S38912.size a)
theorem k1_idx9_inb : ∀ (v103 : IVec S16 32) (k1_hw9 : k1_chk9 v103), ∀ a x, ((![v103] : Fin 1 → IVec S16 32) a x).toNat < S38912.size a := fun v103 k1_hw9 => k1_hw9

def k1_chk10 (v105 : IVec S16 32) : Prop :=
  (∀ a x, ((![v105] : Fin 1 → IVec S16 32) a x).toNat < S38912.size a)
theorem k1_idx10_inb : ∀ (v105 : IVec S16 32) (k1_hw10 : k1_chk10 v105), ∀ a x, ((![v105] : Fin 1 → IVec S16 32) a x).toNat < S38912.size a := fun v105 k1_hw10 => k1_hw10

def k1_chk11 (v107 : IVec S16 32) : Prop :=
  (∀ a x, ((![v107] : Fin 1 → IVec S16 32) a x).toNat < S38912.size a)
theorem k1_idx11_inb : ∀ (v107 : IVec S16 32) (k1_hw11 : k1_chk11 v107), ∀ a x, ((![v107] : Fin 1 → IVec S16 32) a x).toNat < S38912.size a := fun v107 k1_hw11 => k1_hw11

def k1_chk12 (v109 : IVec S16 32) : Prop :=
  (∀ a x, ((![v109] : Fin 1 → IVec S16 32) a x).toNat < S38912.size a)
theorem k1_idx12_inb : ∀ (v109 : IVec S16 32) (k1_hw12 : k1_chk12 v109), ∀ a x, ((![v109] : Fin 1 → IVec S16 32) a x).toNat < S38912.size a := fun v109 k1_hw12 => k1_hw12

def k1_chk13 (v111 : IVec S16 32) : Prop :=
  (∀ a x, ((![v111] : Fin 1 → IVec S16 32) a x).toNat < S38912.size a)
theorem k1_idx13_inb : ∀ (v111 : IVec S16 32) (k1_hw13 : k1_chk13 v111), ∀ a x, ((![v111] : Fin 1 → IVec S16 32) a x).toNat < S38912.size a := fun v111 k1_hw13 => k1_hw13

def k1_chk14 (v113 : IVec S16 32) : Prop :=
  (∀ a x, ((![v113] : Fin 1 → IVec S16 32) a x).toNat < S38912.size a)
theorem k1_idx14_inb : ∀ (v113 : IVec S16 32) (k1_hw14 : k1_chk14 v113), ∀ a x, ((![v113] : Fin 1 → IVec S16 32) a x).toNat < S38912.size a := fun v113 k1_hw14 => k1_hw14

def k1_chk15 (v115 : IVec S16 32) : Prop :=
  (∀ a x, ((![v115] : Fin 1 → IVec S16 32) a x).toNat < S38912.size a)
theorem k1_idx15_inb : ∀ (v115 : IVec S16 32) (k1_hw15 : k1_chk15 v115), ∀ a x, ((![v115] : Fin 1 → IVec S16 32) a x).toNat < S38912.size a := fun v115 k1_hw15 => k1_hw15

def k1_chk16 (v117 : IVec S16 32) : Prop :=
  (∀ a x, ((![v117] : Fin 1 → IVec S16 32) a x).toNat < S38912.size a)
theorem k1_idx16_inb : ∀ (v117 : IVec S16 32) (k1_hw16 : k1_chk16 v117), ∀ a x, ((![v117] : Fin 1 → IVec S16 32) a x).toNat < S38912.size a := fun v117 k1_hw16 => k1_hw16
def k1_cond1 (k1_t2 : Fin k1_t2_loop.trips) : BitVec 1 :=
  let c0_i32_8 : BitVec 32 := 0#32
  let c1_i32_9 : BitVec 32 := 1#32
  let arg8 : BitVec 32 := Scf.iv c0_i32_8 c1_i32_9 k1_t2
  let c2_i32_11 : BitVec 32 := 2#32
  let v14 : BitVec 32 := Scalar.muli arg8 c2_i32_11
  let c2_i32_21 : BitVec 32 := 2#32
  let v28 : BitVec 32 := Scalar.addi v14 c2_i32_21
  let c38_i32 : BitVec 32 := 38#32
  let v29 : BitVec 1 := Scalar.cmpi .slt v28 c38_i32
  let v30 : BitVec 32 := Scalar.extui v29
  let c0_i32_22 : BitVec 32 := 0#32
  let v31 : BitVec 1 := Scalar.cmpi .ne v30 c0_i32_22
  v31

def k1_off6 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c311296_i32 : BitVec 32 := 311296#32
  let v2 : BitVec 32 := Scalar.muli v1 c311296_i32
  let c0_i32_8 : BitVec 32 := 0#32
  let c1_i32_9 : BitVec 32 := 1#32
  let arg8 : BitVec 32 := Scf.iv c0_i32_8 c1_i32_9 k1_t2
  let c2_i32_11 : BitVec 32 := 2#32
  let v14 : BitVec 32 := Scalar.muli arg8 c2_i32_11
  let c2_i32_31 : BitVec 32 := 2#32
  let v38 : BitVec 32 := Scalar.addi v14 c2_i32_31
  let c8192_i32_32 : BitVec 32 := 8192#32
  let v39 : BitVec 32 := Scalar.muli v38 c8192_i32_32
  let v40 : BitVec 32 := Scalar.addi v2 v39
  ![v40.toNat]
@[reducible] def k1_t4_loop : Scf.Loop 32 :=
  let c0_i32_26 : BitVec 32 := 0#32
  let c64_i32_27 : BitVec 32 := 64#32
  let v36 : BitVec 32 := Scalar.addi c0_i32_26 c64_i32_27
  let c1_i32_28 : BitVec 32 := 1#32
  ⟨c0_i32_26, v36, c1_i32_28⟩
def k1_off7 (k1_t4 : Fin k1_t4_loop.trips) (c0_i32_31 : BitVec 32) : Fin 1 → Nat :=
  let c0_i32_26 : BitVec 32 := 0#32
  let c1_i32_28 : BitVec 32 := 1#32
  let arg10 : BitVec 32 := Scf.iv c0_i32_26 c1_i32_28 k1_t4
  let c8_i32 : BitVec 32 := 8#32
  let v38 : BitVec 32 := Scalar.muli arg10 c8_i32
  let v39 : BitVec 32 := Scalar.addi v38 c0_i32_31
  let c16_i32 : BitVec 32 := 16#32
  let v40 : BitVec 32 := Scalar.muli v39 c16_i32
  let v42 : Index := Scalar.indexCast v40
  ![v42.toNat]

def k1_chk17 (v87 : IVec S16 32) : Prop :=
  (∀ a x, ((![v87] : Fin 1 → IVec S16 32) a x).toNat < S38912.size a)
theorem k1_idx17_inb : ∀ (v87 : IVec S16 32) (k1_hw17 : k1_chk17 v87), ∀ a x, ((![v87] : Fin 1 → IVec S16 32) a x).toNat < S38912.size a := fun v87 k1_hw17 => k1_hw17

def k1_chk18 (v89 : IVec S16 32) : Prop :=
  (∀ a x, ((![v89] : Fin 1 → IVec S16 32) a x).toNat < S38912.size a)
theorem k1_idx18_inb : ∀ (v89 : IVec S16 32) (k1_hw18 : k1_chk18 v89), ∀ a x, ((![v89] : Fin 1 → IVec S16 32) a x).toNat < S38912.size a := fun v89 k1_hw18 => k1_hw18

def k1_chk19 (v91 : IVec S16 32) : Prop :=
  (∀ a x, ((![v91] : Fin 1 → IVec S16 32) a x).toNat < S38912.size a)
theorem k1_idx19_inb : ∀ (v91 : IVec S16 32) (k1_hw19 : k1_chk19 v91), ∀ a x, ((![v91] : Fin 1 → IVec S16 32) a x).toNat < S38912.size a := fun v91 k1_hw19 => k1_hw19

def k1_chk20 (v93 : IVec S16 32) : Prop :=
  (∀ a x, ((![v93] : Fin 1 → IVec S16 32) a x).toNat < S38912.size a)
theorem k1_idx20_inb : ∀ (v93 : IVec S16 32) (k1_hw20 : k1_chk20 v93), ∀ a x, ((![v93] : Fin 1 → IVec S16 32) a x).toNat < S38912.size a := fun v93 k1_hw20 => k1_hw20

def k1_chk21 (v95 : IVec S16 32) : Prop :=
  (∀ a x, ((![v95] : Fin 1 → IVec S16 32) a x).toNat < S38912.size a)
theorem k1_idx21_inb : ∀ (v95 : IVec S16 32) (k1_hw21 : k1_chk21 v95), ∀ a x, ((![v95] : Fin 1 → IVec S16 32) a x).toNat < S38912.size a := fun v95 k1_hw21 => k1_hw21

def k1_chk22 (v97 : IVec S16 32) : Prop :=
  (∀ a x, ((![v97] : Fin 1 → IVec S16 32) a x).toNat < S38912.size a)
theorem k1_idx22_inb : ∀ (v97 : IVec S16 32) (k1_hw22 : k1_chk22 v97), ∀ a x, ((![v97] : Fin 1 → IVec S16 32) a x).toNat < S38912.size a := fun v97 k1_hw22 => k1_hw22

def k1_chk23 (v99 : IVec S16 32) : Prop :=
  (∀ a x, ((![v99] : Fin 1 → IVec S16 32) a x).toNat < S38912.size a)
theorem k1_idx23_inb : ∀ (v99 : IVec S16 32) (k1_hw23 : k1_chk23 v99), ∀ a x, ((![v99] : Fin 1 → IVec S16 32) a x).toNat < S38912.size a := fun v99 k1_hw23 => k1_hw23

def k1_chk24 (v101 : IVec S16 32) : Prop :=
  (∀ a x, ((![v101] : Fin 1 → IVec S16 32) a x).toNat < S38912.size a)
theorem k1_idx24_inb : ∀ (v101 : IVec S16 32) (k1_hw24 : k1_chk24 v101), ∀ a x, ((![v101] : Fin 1 → IVec S16 32) a x).toNat < S38912.size a := fun v101 k1_hw24 => k1_hw24

def k1_chk25 (v103 : IVec S16 32) : Prop :=
  (∀ a x, ((![v103] : Fin 1 → IVec S16 32) a x).toNat < S38912.size a)
theorem k1_idx25_inb : ∀ (v103 : IVec S16 32) (k1_hw25 : k1_chk25 v103), ∀ a x, ((![v103] : Fin 1 → IVec S16 32) a x).toNat < S38912.size a := fun v103 k1_hw25 => k1_hw25

def k1_chk26 (v105 : IVec S16 32) : Prop :=
  (∀ a x, ((![v105] : Fin 1 → IVec S16 32) a x).toNat < S38912.size a)
theorem k1_idx26_inb : ∀ (v105 : IVec S16 32) (k1_hw26 : k1_chk26 v105), ∀ a x, ((![v105] : Fin 1 → IVec S16 32) a x).toNat < S38912.size a := fun v105 k1_hw26 => k1_hw26

def k1_chk27 (v107 : IVec S16 32) : Prop :=
  (∀ a x, ((![v107] : Fin 1 → IVec S16 32) a x).toNat < S38912.size a)
theorem k1_idx27_inb : ∀ (v107 : IVec S16 32) (k1_hw27 : k1_chk27 v107), ∀ a x, ((![v107] : Fin 1 → IVec S16 32) a x).toNat < S38912.size a := fun v107 k1_hw27 => k1_hw27

def k1_chk28 (v109 : IVec S16 32) : Prop :=
  (∀ a x, ((![v109] : Fin 1 → IVec S16 32) a x).toNat < S38912.size a)
theorem k1_idx28_inb : ∀ (v109 : IVec S16 32) (k1_hw28 : k1_chk28 v109), ∀ a x, ((![v109] : Fin 1 → IVec S16 32) a x).toNat < S38912.size a := fun v109 k1_hw28 => k1_hw28

def k1_chk29 (v111 : IVec S16 32) : Prop :=
  (∀ a x, ((![v111] : Fin 1 → IVec S16 32) a x).toNat < S38912.size a)
theorem k1_idx29_inb : ∀ (v111 : IVec S16 32) (k1_hw29 : k1_chk29 v111), ∀ a x, ((![v111] : Fin 1 → IVec S16 32) a x).toNat < S38912.size a := fun v111 k1_hw29 => k1_hw29

def k1_chk30 (v113 : IVec S16 32) : Prop :=
  (∀ a x, ((![v113] : Fin 1 → IVec S16 32) a x).toNat < S38912.size a)
theorem k1_idx30_inb : ∀ (v113 : IVec S16 32) (k1_hw30 : k1_chk30 v113), ∀ a x, ((![v113] : Fin 1 → IVec S16 32) a x).toNat < S38912.size a := fun v113 k1_hw30 => k1_hw30

def k1_chk31 (v115 : IVec S16 32) : Prop :=
  (∀ a x, ((![v115] : Fin 1 → IVec S16 32) a x).toNat < S38912.size a)
theorem k1_idx31_inb : ∀ (v115 : IVec S16 32) (k1_hw31 : k1_chk31 v115), ∀ a x, ((![v115] : Fin 1 → IVec S16 32) a x).toNat < S38912.size a := fun v115 k1_hw31 => k1_hw31

def k1_chk32 (v117 : IVec S16 32) : Prop :=
  (∀ a x, ((![v117] : Fin 1 → IVec S16 32) a x).toNat < S38912.size a)
theorem k1_idx32_inb : ∀ (v117 : IVec S16 32) (k1_hw32 : k1_chk32 v117), ∀ a x, ((![v117] : Fin 1 → IVec S16 32) a x).toNat < S38912.size a := fun v117 k1_hw32 => k1_hw32
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r0 : BitVec 32 := 0#32
  ![v1.toNat, 0]
abbrev grid2 : Pipeline.Grid := .none

abbrev stage2_0 : Fin 1 → Memref sig .tc .vmem S32x2x19x1024 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x19x512x512 : Shape := ⟨4, ![4, 19, 512, 512]⟩
abbrev S4x512x512 : Shape := ⟨3, ![4, 512, 512]⟩
abbrev S_ : Shape := ⟨0, ![]⟩
abbrev S4x1x512x512 : Shape := ⟨4, ![4, 1, 512, 512]⟩
abbrev S4x512x512x19 : Shape := ⟨4, ![4, 512, 512, 19]⟩
abbrev S1048576x19 : Shape := ⟨2, ![1048576, 19]⟩
abbrev S1048576 : Shape := ⟨1, ![1048576]⟩
abbrev S1048576x1 : Shape := ⟨2, ![1048576, 1]⟩
abbrev S19 : Shape := ⟨1, ![19]⟩
abbrev S1x19 : Shape := ⟨2, ![1, 19]⟩
abbrev S1048575x19 : Shape := ⟨2, ![1048575, 19]⟩

abbrev nBuf : Space → Nat
  | .hbm => 89
  | .vmem => 0
  | .smem => 0
  | _ => 0

abbrev bufTy : (tb : Table) → Fin (tcTables nBuf tb) → BufTy
  | .hbm, ⟨0, _⟩ => ⟨S4x19x512x512, .f32⟩
  | .hbm, ⟨1, _⟩ => ⟨S4x512x512, .i32⟩
  | .hbm, ⟨2, _⟩ => ⟨S_, .f32⟩
  | .hbm, ⟨3, _⟩ => ⟨S4x512x512, .f32⟩
  | .hbm, ⟨4, _⟩ => ⟨S_, .f32⟩
  | .hbm, ⟨5, _⟩ => ⟨S4x512x512, .f32⟩
  | .hbm, ⟨6, _⟩ => ⟨S4x512x512, .f32⟩
  | .hbm, ⟨7, _⟩ => ⟨S4x1x512x512, .f32⟩
  | .hbm, ⟨8, _⟩ => ⟨S4x19x512x512, .f32⟩
  | .hbm, ⟨9, _⟩ => ⟨S4x19x512x512, .f32⟩
  | .hbm, ⟨10, _⟩ => ⟨S4x19x512x512, .f32⟩
  | .hbm, ⟨11, _⟩ => ⟨S_, .f32⟩
  | .hbm, ⟨12, _⟩ => ⟨S4x512x512, .f32⟩
  | .hbm, ⟨13, _⟩ => ⟨S4x1x512x512, .f32⟩
  | .hbm, ⟨14, _⟩ => ⟨S4x19x512x512, .f32⟩
  | .hbm, ⟨15, _⟩ => ⟨S4x19x512x512, .f32⟩
  | .hbm, ⟨16, _⟩ => ⟨S4x512x512x19, .f32⟩
  | .hbm, ⟨17, _⟩ => ⟨S1048576x19, .f32⟩
  | .hbm, ⟨18, _⟩ => ⟨S1048576, .i32⟩
  | .hbm, ⟨19, _⟩ => ⟨S1048576x1, .i32⟩
  | .hbm, ⟨20, _⟩ => ⟨S19, .i32⟩
  | .hbm, ⟨21, _⟩ => ⟨S1x19, .i32⟩
  | .hbm, ⟨22, _⟩ => ⟨S1048576x19, .i32⟩
  | .hbm, ⟨23, _⟩ => ⟨S1048576x19, .i32⟩
  | .hbm, ⟨24, _⟩ => ⟨S1048576x19, .i1⟩
  | .hbm, ⟨25, _⟩ => ⟨S1048576x19, .f32⟩
  | .hbm, ⟨26, _⟩ => ⟨S1048576x19, .f32⟩
  | .hbm, ⟨27, _⟩ => ⟨S1048576x19, .f32⟩
  | .hbm, ⟨28, _⟩ => ⟨S_, .f32⟩
  | .hbm, ⟨29, _⟩ => ⟨S1048576x19, .f32⟩
  | .hbm, ⟨30, _⟩ => ⟨S1048576x19, .f32⟩
  | .hbm, ⟨31, _⟩ => ⟨S1048576x19, .i32⟩
  | .hbm, ⟨32, _⟩ => ⟨S_, .i32⟩
  | .hbm, ⟨33, _⟩ => ⟨S1048576x19, .i32⟩
  | .hbm, ⟨34, _⟩ => ⟨S1048576x19, .i32⟩
  | .hbm, ⟨35, _⟩ => ⟨S1048576x19, .f32⟩
  | .hbm, ⟨36, _⟩ => ⟨S_, .f32⟩
  | .hbm, ⟨37, _⟩ => ⟨S1048576x19, .f32⟩
  | .hbm, ⟨38, _⟩ => ⟨S1048576x19, .f32⟩
  | .hbm, ⟨39, _⟩ => ⟨S_, .f32⟩
  | .hbm, ⟨40, _⟩ => ⟨S1048576x19, .f32⟩
  | .hbm, ⟨41, _⟩ => ⟨S1048576x19, .f32⟩
  | .hbm, ⟨42, _⟩ => ⟨S1048576x19, .f32⟩
  | .hbm, ⟨43, _⟩ => ⟨S1048576x19, .f32⟩
  | .hbm, ⟨44, _⟩ => ⟨S1048576x19, .f32⟩
  | .hbm, ⟨45, _⟩ => ⟨S1048576x19, .f32⟩
  | .hbm, ⟨46, _⟩ => ⟨S_, .f32⟩
  | .hbm, ⟨47, _⟩ => ⟨S19, .f32⟩
  | .hbm, ⟨48, _⟩ => ⟨S_, .f32⟩
  | .hbm, ⟨49, _⟩ => ⟨S_, .f32⟩
  | .hbm, ⟨50, _⟩ => ⟨S1048576x19, .f32⟩
  | .hbm, ⟨51, _⟩ => ⟨S1x19, .f32⟩
  | .hbm, ⟨52, _⟩ => ⟨S1048576x19, .f32⟩
  | .hbm, ⟨53, _⟩ => ⟨S1048576x19, .f32⟩
  | .hbm, ⟨54, _⟩ => ⟨S_, .f32⟩
  | .hbm, ⟨55, _⟩ => ⟨S1048576x19, .f32⟩
  | .hbm, ⟨56, _⟩ => ⟨S1048576x19, .f32⟩
  | .hbm, ⟨57, _⟩ => ⟨S_, .f32⟩
  | .hbm, ⟨58, _⟩ => ⟨S_, .f32⟩
  | .hbm, ⟨59, _⟩ => ⟨S1048576x19, .f32⟩
  | .hbm, ⟨60, _⟩ => ⟨S1x19, .f32⟩
  | .hbm, ⟨61, _⟩ => ⟨S1048576x19, .f32⟩
  | .hbm, ⟨62, _⟩ => ⟨S1048576x19, .f32⟩
  | .hbm, ⟨63, _⟩ => ⟨S1048576x19, .f32⟩
  | .hbm, ⟨64, _⟩ => ⟨S_, .f32⟩
  | .hbm, ⟨65, _⟩ => ⟨S1048576x19, .f32⟩
  | .hbm, ⟨66, _⟩ => ⟨S1048576x19, .f32⟩
  | .hbm, ⟨67, _⟩ => ⟨S1x19, .f32⟩
  | .hbm, ⟨68, _⟩ => ⟨S1048575x19, .f32⟩
  | .hbm, ⟨69, _⟩ => ⟨S1048575x19, .f32⟩
  | .hbm, ⟨70, _⟩ => ⟨S1048575x19, .f32⟩
  | .hbm, ⟨71, _⟩ => ⟨S1048576x19, .f32⟩
  | .hbm, ⟨72, _⟩ => ⟨S1048576x19, .f32⟩
  | .hbm, ⟨73, _⟩ => ⟨S_, .f32⟩
  | .hbm, ⟨74, _⟩ => ⟨S19, .f32⟩
  | .hbm, ⟨75, _⟩ => ⟨S_, .f32⟩
  | .hbm, ⟨76, _⟩ => ⟨S19, .f32⟩
  | .hbm, ⟨77, _⟩ => ⟨S_, .f32⟩
  | .hbm, ⟨78, _⟩ => ⟨S19, .f32⟩
  | .hbm, ⟨79, _⟩ => ⟨S19, .i1⟩
  | .hbm, ⟨80, _⟩ => ⟨S19, .f32⟩
  | .hbm, ⟨81, _⟩ => ⟨S19, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34_0 : Ref sig .tc := ⟨.hbm, 43, rfl⟩
abbrev main_v34_1 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_call0_call0_cst : Ref sig .tc := ⟨.hbm, 48, rfl⟩
abbrev main_call0_call0_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_call1_call0_cst : Ref sig .tc := ⟨.hbm, 57, rfl⟩
abbrev main_call1_call0_v0 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Proof.Hist.lean ====
/-
  A histogram kept in a buffer of 38912 32-bit counters, the lemmas about it that name no program: a scatter-add of
  ones over sixteen lanes adds to counter `k` the number of lanes whose index is `k`; the packed words' two codes.
-/
module

public import Idealize.ShloMosaic.PureOps.ShapeOps
public import Idealize.ShloMosaic.Lib.StableHlo.Run
public import Mathlib.Algebra.BigOperators.Fin

@[expose] public section

noncomputable section

namespace Cert.Proof.Hist

open Idealize.ShloMosaic

variable {F : FTy → Type} [FloatOps F]

/-- The shape of the counters' buffer. -/
abbrev SH : Shape := ⟨1, ![38912]⟩
/-- The shape of one vector of lanes. -/
abbrev SL : Shape := ⟨1, ![16]⟩

/-- The low code of a packed word. -/
def lo (w : BitVec 32) : ℕ := w.toNat % 65536
/-- The high code of a packed word. -/
def hi (w : BitVec 32) : ℕ := w.toNat / 65536

/-- What the word `w` adds to counter `k`: one for each of its two codes that is `k`. -/
def hits (w : BitVec 32) (k : ℕ) : ℕ := (if lo w = k then 1 else 0) + (if hi w = k then 1 else 0)

/-- Among the `n` words of `x` from `base` on, the number of codes that are `k`. -/
def cnt (x : ℕ → BitVec 32) (base n k : ℕ) : ℕ := ∑ i ∈ Finset.range n, hits (x (base + i)) k

/-- The counters' buffer holding the numbers `f`. -/
def H (f : ℕ → ℕ) : SH.Idx → BitVec 32 := fun j => BitVec.ofNat 32 (f (j 0).val)

/-- Lane `l` of a vector. -/
abbrev lane (l : Fin 16) : SL.Idx := Shape.ofLane (d := ![16]) l

/-- The number of lanes of `v` whose index is `k`. -/
def lanes (v : IVec SL 32) (k : ℕ) : ℕ := ∑ l : Fin 16, if (v (lane l)).toNat = k then 1 else 0

theorem foldl_scatter (v : IVec SL 32) (h : ∀ a x, ((![v] : Fin 1 → IVec SL 32) a x).toNat < SH.size a) (f : ℕ → ℕ) (ls : List (Fin ((![16] : Fin 1 → ℕ) 0))) :
    ls.foldl (fun (g : Vec F SH .i32) k =>
      let x := Shape.ofLane (d := ![16]) k
      if (fun _ : SL.Idx => (1#1 : BitVec 1)) x = 1 then
        let i := idxAt (s := SH) ![v] h x
        let y := if true then Elt.idxAdd (F := F) .i32 (g i) ((fun _ => 1#32 : Vec F SL .i32) x) else (fun _ => 1#32 : Vec F SL .i32) x
        fun j => if (∀ a, (j a).val = (i a).val) then y else g j
      else g) (H f : Vec F SH .i32)
    = (H fun k => f k + (ls.map fun l => if (v (lane l)).toNat = k then 1 else 0).sum : Vec F SH .i32) := by
  induction ls generalizing f with
  | nil => simp
  | cons l ls ih =>
    refine Eq.trans (List.foldl_cons ..) ?_
    have e : (let x := Shape.ofLane (d := ![16]) l
      if (fun _ : SL.Idx => (1#1 : BitVec 1)) x = 1 then
        let i := idxAt (s := SH) ![v] h x
        let y := if true then Elt.idxAdd (F := F) .i32 ((H f : Vec F SH .i32) i) ((fun _ => 1#32 : Vec F SL .i32) x) else (fun _ => 1#32 : Vec F SL .i32) x
        fun j => if (∀ a, (j a).val = (i a).val) then y else (H f : Vec F SH .i32) j
      else (H f : Vec F SH .i32)) = (H fun k => f k + (if (v (lane l)).toNat = k then 1 else 0) : Vec F SH .i32) := by
      funext j
      refine (congrFun (if_pos rfl) j).trans ?_
      have hi : (∀ a, (j a).val = (idxAt (s := SH) ![v] h (Shape.ofLane (d := ![16]) l) a).val) ↔ (v (lane l)).toNat = (j 0).val := by
        constructor
        · intro ha; exact (ha 0).symm
        · intro ha a; obtain rfl : a = 0 := Subsingleton.elim _ _; exact ha.symm
      by_cases hk : (v (lane l)).toNat = (j 0).val
      · refine (if_pos (hi.mpr hk)).trans ?_
        show BitVec.ofNat 32 (f (v (lane l)).toNat) + 1#32 = BitVec.ofNat 32 _
        rw [hk]
        dsimp only
        rw [if_pos rfl, BitVec.ofNat_add]
      · refine (if_neg fun ha => hk (hi.mp ha)).trans ?_
        show BitVec.ofNat 32 _ = BitVec.ofNat 32 _
        simp only [if_neg hk, Nat.add_zero]
    rw [e, ih]
    congr 1
    funext k
    exact (Nat.add_assoc _ _ _).trans (congrArg (f k + ·) (List.sum_cons ..).symm)

/-- A scatter-add of ones adds to every counter the number of lanes that name it. -/
theorem storeIdx_H (v : IVec SL 32) (h : ∀ a x, ((![v] : Fin 1 → IVec SL 32) a x).toNat < SH.size a) (f : ℕ → ℕ) :
    (storeIdx (F := F) (s := SH) (e := .i32) (d := ![16]) (H f) ![v] (fun _ => 1#32) (fun _ => 1#1) true h : Vec F SH .i32)
      = (H fun k => f k + lanes v k : Vec F SH .i32) := by
  unfold storeIdx
  refine (foldl_scatter v h f _).trans ?_
  refine congrArg H ?_
  funext k
  unfold lanes
  rw [← List.sum_ofFn, List.ofFn_eq_map]
  rfl

/-- The first `n + m` words' counts are the first `n`'s and the next `m`'s. -/
theorem cnt_add (x : ℕ → BitVec 32) (base n m k : ℕ) : cnt x base (n + m) k = cnt x base n k + cnt x (base + n) m k := by
  unfold cnt
  rw [Finset.sum_range_add]
  simp only [Nat.add_assoc]

theorem cnt_zero (x : ℕ → BitVec 32) (base k : ℕ) : cnt x base 0 k = 0 := by simp [cnt]

/-- Counting sixteen more words. -/
theorem cnt_add_lanes (x : ℕ → BitVec 32) (base n k : ℕ) :
    cnt x base (n + 16) k = cnt x base n k + ∑ l : Fin 16, hits (x (base + (n + l.val))) k := by
  unfold cnt
  rw [Finset.sum_range_add, Finset.sum_range (n := 16)]

/-- Sixteen words' low codes and high codes, as two vectors of indices, together are the words' hits. -/
theorem lanes_hits (x : ℕ → BitVec 32) (v vl vh : IVec SL 32) (b k : ℕ)
    (hv : ∀ l : Fin 16, v (lane l) = x (b + l.val))
    (hl : ∀ i, (vl i).toNat = lo (v i)) (hh : ∀ i, (vh i).toNat = hi (v i)) :
    lanes vl k + lanes vh k = ∑ l : Fin 16, hits (x (b + l.val)) k := by
  unfold lanes hits
  rw [← Finset.sum_add_distrib]
  refine Finset.sum_congr rfl fun l _ => ?_
  rw [hl, hh, hv]

theorem toNat_and (w : BitVec 32) : (IntOp.andi w 65535#32).toNat = lo w := by
  show (w &&& 65535#32).toNat = _
  rw [BitVec.toNat_and]
  exact Nat.and_two_pow_sub_one_eq_mod w.toNat 16

theorem toNat_shru (u : ArithUnit) (w : BitVec 32) : (IntOp.shrui u w 16#32).toNat = hi w := by
  simp [IntOp.shrui, hi, Nat.shiftRight_eq_div_pow]

end Cert.Proof.Hist

end
-- ==== Proof.Batch.lean ====
/-
  The histogram task's inner work on one vector subcore: the counters' buffer and the two halves of the staging buffer
  as the task addresses them, one scatter, and one trip of each of its two counting loops — eight loads of sixteen
  packed words, sixteen checks, sixteen scatters — as the exact count of the 128 words it has read.
-/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.TailIdeal
public import proofs.«01_k».proof.Proof.Gen.TailIdeal.Skeleton

@[expose] public section

noncomputable section

namespace Cert.Proof.Tail

open Cert.TailIdeal Cert.TailIdeal.Gen
open Cert.Proof.Hist (H cnt hits lanes lane lo hi)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the launch handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

abbrev iV : Memref sig .scVector .hbm S9961472 .i32 := Memref.whole main_v0_scv
abbrev oV : Memref sig .scVector .hbm S32x38912 .i32 := Memref.whole main_v1_scv
abbrev sV : Memref sig .scVector .vmem S16384 .i32 := Memref.whole cc0_scratch0
abbrev hV : Memref sig .scVector .vmem S38912 .i32 := Memref.whole cc0_scratch1

/-- The two halves of the staging buffer. -/
abbrev s0 : Memref sig .scVector .vmem S8192 .i32 := sV.slice (Rect.unit (s := S16384) ![0] S8192.size inb_S16384_S8192_0) (fun _ => rfl)
abbrev s1 : Memref sig .scVector .vmem S8192 .i32 := sV.slice (Rect.unit (s := S16384) ![8192] S8192.size inb_S16384_S8192_8192) (fun _ => rfl)

abbrev cV (L : grid0.Coords) : Fin τ.nSC := (L 0).castLE hcore0
abbrev jV (L : grid0.Coords) : Fin τ.nSub := (L 1).castLE hsub0

variable [FloatOps F] (d : Dev nD) (L : grid0.Coords)

/-- The task's thread. -/
abbrev thr (d : Dev nD) (L : grid0.Coords) : Thread nD τ := V d (cV L) (jV L)

/-- The counters' buffer, held whole. -/
abbrev hPts (f : Buf (Elt F) ((thr d L).loc cc0_scratch1)) : sProp 𝕄 :=
  (hV.access (.whole S38912)).loc (thr d L) ↦[(hV.access (.whole S38912)).set]{fullShare} f

/-- A half of the staging buffer. -/
abbrev sPts (s : Memref sig .scVector .vmem S8192 .i32) (f : Buf (Elt F) (s.view.loc (thr d L))) : sProp 𝕄 :=
  s.view.loc (thr d L) ↦[s.view.set]{fullShare} f

/-- One scatter-add of ones: every counter up by the number of lanes that name it. -/
theorem wp_scat {n : ℕ → ℕ} {v : IVec S16 32} {h : ∀ a x, ((![v] : Fin 1 → IVec S16 32) a x).toNat < S38912.size a}
    {hs : (hV.access (.whole S38912)).Stores Finset.univ} {α : Type} {k : PUnit → Prog (TpuEff nD τ sig (Elt F) Λ₀ (thr d L).2) α} {Q : α → sProp 𝕄} :
    hPts d L (H n) ⊢ iprop((hPts d L (H fun k => n k + lanes v k) -∗ wp frame (wpE (defs₀ (F := F)) 𝒱₀ (thr d L) none) Set.univ (k ⟨⟩) Q)
        -∗ wp frame (wpE (defs₀ (F := F)) 𝒱₀ (thr d L) none) Set.univ (SparseCore.vectorStoreIdx hV ![v] k0_pay2 (fun _ => 1#1) true h hs >>= k) Q) := by
  have e := SparseCore.wp_vectorStoreIdx (defs := defs₀ (F := F)) (U := UU) (Lvl := ℕ) (Ix := HIx 1) (Name := ℕ) 𝒱₀ (thr d L) none Set.univ (Q := Q) (base := hV) (idxs := ![v]) (v := k0_pay2)
    (mask := fun _ => 1#1) (add := true) (h := h) (hs := hs) (k := k) (f := H n)
  have e2 : (hV.access (.whole S38912)).write (Elt F) (H n)
      (storeIdx ((hV.access (.whole S38912)).read (Elt F) (H n)) ![v] k0_pay2 (fun _ => 1#1) true h) Finset.univ
      = H fun k => n k + lanes v k := by
    have e3 : ∀ g : S38912.Idx → BitVec 32, (hV.access (.whole S38912)).read (Elt F) g = g := fun g => by
      funext x; show g ((Rect.whole S38912).emb x) = g x; rw [Rect.emb_whole_apply]
    have e4 : ∀ g w : S38912.Idx → BitVec 32, (hV.access (.whole S38912)).write (Elt F) g w Finset.univ = w := fun g w => by
      have := View.read_write_univ (v := hV.access (.whole S38912)) (Val := Elt F) g w
      rw [e3] at this; exact this
    rw [e3, e4]
    exact Hist.storeIdx_H (F := F) v h n
  rw [e2] at e
  exact e

/-- The counters are the numbers they hold. -/
theorem hPts_congr {n n' : ℕ → ℕ} (h : ∀ k, n k = n' k) : hPts d L (H n) ⊢ (hPts d L (H n') : sProp 𝕄) :=
  Entails.of_eq (by rw [show n = n' from funext h])

/-! ## One trip of a counting loop -/

/-- Sixteen words loaded from a half whose words are `x` from `b` on are `x` from `b + o` on. -/
theorem ld_apply (s : Memref sig .scVector .vmem S8192 .i32) {f : Buf (Elt F) (s.view.loc (thr d L))} {x : ℕ → BitVec 32} {b : ℕ}
    (hf : ∀ j : S8192.Idx, s.view.read (Elt F) f j = x (b + (j 0).val)) {off : Fin 1 → ℕ} {o : ℕ} (ho : off = ![o])
    (inb : ∀ a, off a + S16.size a ≤ S8192.size a) (i : S16.Idx) :
    s.view.readAt (Elt F) (Rect.unit (s := S8192) off S16.size inb).toLoadRect f i = x (b + (o + (i 0).val)) := by
  subst ho
  rw [View.readAt_rect]
  refine (hf ((Rect.unit (s := S8192) ![o] S16.size inb).emb i)).trans ?_
  congr 2
  exact ValueKit.rect_emb_unit_val _ _ _ _ _

/-- A vector of words of `x` whose codes are counters passes the check on its low codes. -/
theorem chk_lo {x : ℕ → BitVec 32} (hx : ∀ i, lo (x i) < 38912 ∧ hi (x i) < 38912) {v : IVec S16 32} (hv : ∀ i : S16.Idx, ∃ m, v i = x m) :
    ∀ a i, ((![andi v (broadcast S16 65535#32)] : Fin 1 → IVec S16 32) a i).toNat < S38912.size a := by
  intro a i
  obtain rfl : a = 0 := Subsingleton.elim _ _
  show (IntOp.andi (v i) 65535#32).toNat < 38912
  obtain ⟨m, e⟩ := hv i
  rw [Hist.toNat_and, e]; exact (hx _).1
/-- And the check on its high codes. -/
theorem chk_hi {x : ℕ → BitVec 32} (hx : ∀ i, lo (x i) < 38912 ∧ hi (x i) < 38912) {v : IVec S16 32} (hv : ∀ i : S16.Idx, ∃ m, v i = x m) :
    ∀ a i, ((![shrui v (broadcast S16 16#32)] : Fin 1 → IVec S16 32) a i).toNat < S38912.size a := by
  intro a i
  obtain rfl : a = 0 := Subsingleton.elim _ _
  show (IntOp.shrui .vector (v i) 16#32).toNat < 38912
  obtain ⟨m, e⟩ := hv i
  rw [Hist.toNat_shru, e]; exact (hx _).2

/-- The lanes of both index vectors of eight loads, one after another, are 128 words' hits. -/
theorem lanes_sum {x : ℕ → BitVec 32} {b n : ℕ} (v : Fin 8 → IVec S16 32) (hv : ∀ r (i : S16.Idx), v r i = x (b + (n + 16 * r.val + (i 0).val))) (k : ℕ) :
    cnt x b (n + 128) k = cnt x b n k + ((∑ r, lanes (andi (v r) (broadcast S16 65535#32)) k) + ∑ r, lanes (shrui (v r) (broadcast S16 16#32)) k) := by
  have e : ∀ r : Fin 8, lanes (andi (v r) (broadcast S16 65535#32)) k + lanes (shrui (v r) (broadcast S16 16#32)) k
      = ∑ l : Fin 16, hits (x (b + (n + 16 * r.val + l.val))) k := fun r => by
    have := Hist.lanes_hits (fun i => x (b + i)) (v r) (andi (v r) (broadcast S16 65535#32)) (shrui (v r) (broadcast S16 16#32)) (n + 16 * r.val) k
      (fun l => hv r _) (fun i => Hist.toNat_and _) (fun i => Hist.toNat_shru _ _)
    exact this
  have c : ∀ m : ℕ, m ≤ 8 → cnt x b (n + 16 * m) k = cnt x b n k + ∑ r ∈ Finset.range m, ∑ l : Fin 16, hits (x (b + (n + 16 * r + l.val))) k := by
    intro m hm
    induction m with
    | zero => simp
    | succ m ih =>
      rw [show n + 16 * (m + 1) = (n + 16 * m) + 16 by ring, Hist.cnt_add_lanes, ih (by omega), Finset.sum_range_succ, add_assoc]
  rw [← Finset.sum_add_distrib, Finset.sum_congr rfl fun r _ => e r, c 8 le_rfl, ← Finset.sum_range (fun r => ∑ l : Fin 16, hits (x (b + (n + 16 * r + l.val))) k)]

set_option maxHeartbeats 4000000 in
/-- One trip over the staging buffer's first half. -/
theorem trip_lo {x : ℕ → BitVec 32} (hx : ∀ i, lo (x i) < 38912 ∧ hi (x i) < 38912) {b : ℕ} {f : Buf (Elt F) (s0.view.loc (thr d L))}
    (hf : ∀ j : S8192.Idx, s0.view.read (Elt F) f j = x (b + (j 0).val)) (c : ℕ → ℕ) (w0 w1 w2 : DmaSems sig S_) (t : Fin k0_t3_loop.trips) (acc : BitVec 32) :
    iprop(sPts d L s0 f ∗ hPts d L (H fun k => c k + cnt x b (128 * t.val) k))
      ⊢ wp frame (wpE (defs₀ (F := F)) 𝒱₀ (thr d L) none) Set.univ
          (k0_t3_body L iV (Memref.isWhole_whole _) oV (Memref.isWhole_whole _) sV (Memref.isWhole_whole _) hV (Memref.isWhole_whole _) w0 w1 w2 t acc)
          fun _ => iprop(sPts d L s0 f ∗ hPts d L (H fun k => c k + cnt x b (128 * (t.val + 1)) k)) := by
  unfold k0_t3_body
  simp only [k0_part1_eq_skeleton, k0_part2_eq_skeleton]
  unfold k0_part1_skel k0_part2_skel
  simp only [Prog.lift, Prog.bind_op, Prog.bind_ret, Prog.pure_eq_ret]
  iintro ⟨Hs, Hh⟩
  have hv : ∀ (r : Fin 8) (i : S16.Idx), s0.view.readAt (Elt F) (Rect.unit (s := S8192) (k0_off5 t (BitVec.ofNat 32 r.val)) S16.size (k0_off5_inb t r)).toLoadRect f i
      = x (b + (128 * t.val + 16 * r.val + (i 0).val)) := fun r i => ld_apply d L s0 hf (k0_off5_eq t r) _ i
  iterate 8 (iapply (wp_load 𝒱₀ (thr d L) none Set.univ (m := s0) (S := s0.view.set) (View.setOn_subset_set _ _)) $$ Hs; iintro Hs)
  have hl : ∀ (off : Fin 1 → ℕ) (inb : ∀ a, off a + S16.size a ≤ S8192.size a) (i : S16.Idx),
      ∃ m, s0.view.readAt (Elt F) (Rect.unit (s := S8192) off S16.size inb).toLoadRect f i = x m :=
    fun off inb i => ⟨_, ld_apply d L s0 hf (o := off 0) (funext fun a => by rw [Subsingleton.elim a 0]; rfl) inb i⟩
  iterate 8 iapply (wp_assume 𝒱₀ (thr d L) none Set.univ (chk_lo hx (hl _ _)))
  iterate 8 iapply (wp_assume 𝒱₀ (thr d L) none Set.univ (chk_hi hx (hl _ _)))
  iterate 16 (iapply (wp_scat d L) $$ Hh; iintro Hh)
  sl_step
  isplitl [Hs]; · iexact Hs
  iapply (hPts_congr d L ?e) $$ Hh
  intro k
  rw [Nat.mul_succ, lanes_sum _ hv k, Fin.sum_univ_eight, Fin.sum_univ_eight]
  simp only [← Nat.add_assoc]
  iterate 16 refine congrArg₂ (· + ·) ?_ rfl
  rfl

set_option maxHeartbeats 4000000 in
/-- One trip over the staging buffer's second half. -/
theorem trip_hi {x : ℕ → BitVec 32} (hx : ∀ i, lo (x i) < 38912 ∧ hi (x i) < 38912) {b : ℕ} {f : Buf (Elt F) (s1.view.loc (thr d L))}
    (hf : ∀ j : S8192.Idx, s1.view.read (Elt F) f j = x (b + (j 0).val)) (c : ℕ → ℕ) (w0 w1 w2 : DmaSems sig S_) (t : Fin k0_t4_loop.trips) (acc : BitVec 32) :
    iprop(sPts d L s1 f ∗ hPts d L (H fun k => c k + cnt x b (128 * t.val) k))
      ⊢ wp frame (wpE (defs₀ (F := F)) 𝒱₀ (thr d L) none) Set.univ
          (k0_t4_body L iV (Memref.isWhole_whole _) oV (Memref.isWhole_whole _) sV (Memref.isWhole_whole _) hV (Memref.isWhole_whole _) w0 w1 w2 t acc)
          fun _ => iprop(sPts d L s1 f ∗ hPts d L (H fun k => c k + cnt x b (128 * (t.val + 1)) k)) := by
  unfold k0_t4_body
  simp only [k0_part3_eq_skeleton, k0_part4_eq_skeleton]
  unfold k0_part3_skel k0_part4_skel
  simp only [Prog.lift, Prog.bind_op, Prog.bind_ret, Prog.pure_eq_ret]
  iintro ⟨Hs, Hh⟩
  have hv : ∀ (r : Fin 8) (i : S16.Idx), s1.view.readAt (Elt F) (Rect.unit (s := S8192) (k0_off7 t (BitVec.ofNat 32 r.val)) S16.size (k0_off7_inb t r)).toLoadRect f i
      = x (b + (128 * t.val + 16 * r.val + (i 0).val)) := fun r i => ld_apply d L s1 hf (k0_off7_eq t r) _ i
  iterate 8 (iapply (wp_load 𝒱₀ (thr d L) none Set.univ (m := s1) (S := s1.view.set) (View.setOn_subset_set _ _)) $$ Hs; iintro Hs)
  have hl : ∀ (off : Fin 1 → ℕ) (inb : ∀ a, off a + S16.size a ≤ S8192.size a) (i : S16.Idx),
      ∃ m, s1.view.readAt (Elt F) (Rect.unit (s := S8192) off S16.size inb).toLoadRect f i = x m :=
    fun off inb i => ⟨_, ld_apply d L s1 hf (o := off 0) (funext fun a => by rw [Subsingleton.elim a 0]; rfl) inb i⟩
  iterate 8 iapply (wp_assume 𝒱₀ (thr d L) none Set.univ (chk_lo hx (hl _ _)))
  iterate 8 iapply (wp_assume 𝒱₀ (thr d L) none Set.univ (chk_hi hx (hl _ _)))
  iterate 16 (iapply (wp_scat d L) $$ Hh; iintro Hh)
  sl_step
  isplitl [Hs]; · iexact Hs
  iapply (hPts_congr d L ?e) $$ Hh
  intro k
  rw [Nat.mul_succ, lanes_sum _ hv k, Fin.sum_univ_eight, Fin.sum_univ_eight]
  simp only [← Nat.add_assoc]
  iterate 16 refine congrArg₂ (· + ·) ?_ rfl
  rfl

end Cert.Proof.Tail

end
-- ==== Proof.Tile.lean ====
/-
  The histogram task on one vector subcore, whole: its counters zeroed, its 311296 words of the packed buckets fetched
  8192 at a time into the two halves of the staging buffer (one half filling while the other is counted), every code
  counted, and the counters written to the task's row of the partial histograms. What the row holds afterwards is
  exactly `parts`: entry `(r, k)` the number of codes equal to `k` among words `311296 r …` of the buffer.
-/
module

public import proofs.«01_k».proof.Proof.Batch
public import Idealize.ShloMosaic.Lib.ValueIdxCoords
public import Idealize.ShloMosaic.Lib.ValueLayout

@[expose] public section

noncomputable section

namespace Cert.Proof.Tail

open Cert.TailIdeal Cert.TailIdeal.Gen
open Cert.Proof.Hist (H cnt hits lanes lane lo hi)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## What a task leaves -/

abbrev iLoc (d : Dev nD) : Loc nD τ sig := (SparseCore.T d).loc main_v0
abbrev oLoc (d : Dev nD) : Loc nD τ sig := (SparseCore.T d).loc main_v1

/-- The packed words in order, zero past the last. -/
def words (X : S9961472.Idx → BitVec 32) (n : ℕ) : BitVec 32 := if h : n < 9961472 then X (ix1 ⟨n, h⟩) else 0#32

/-- The partial histograms: row `r` counts the codes of words `311296 r …`. -/
def parts (X : S9961472.Idx → BitVec 32) : S32x38912.Idx → BitVec 32 :=
  fun j => BitVec.ofNat 32 (cnt (words X) (311296 * (j 0).val) 311296 (j 1).val)

/-- Every code names a counter. -/
def InRange (X : S9961472.Idx → BitVec 32) : Prop := ∀ n, lo (words X n) < 38912 ∧ hi (words X n) < 38912

theorem odiv : 32 ∣ S32x38912.size 0 := ⟨1, rfl⟩
abbrev orow (w : Fin 32) : Rect S32x38912 := Rect.part (s := S32x38912) (a₀ := 0) odiv w
abbrev oRowSet (w : Fin 32) : Finset S32x38912.Idx := ((oV).view.slice (orow w)).set

/-- The row of the task on vector subcore `(c, s)`. -/
abbrev wid (c : Fin 2) (s : Fin 16) : Fin 32 := ⟨2 * s.val + c.val, by omega⟩

section Tile

variable [FloatOps F] (d : Dev nD) (L : grid0.Coords)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)
abbrev wL (L : grid0.Coords) : Fin 32 := wid (cL L) (jL L)

/-- The task's row of the result as it addresses it. -/
abbrev orowK (L : grid0.Coords) : Rect S32x38912 := Rect.unit (s := S32x38912) (k0_off8 L) S1x38912.size (k0_off8_inb L)
abbrev oRowK (L : grid0.Coords) : Memref sig .scVector .hbm S38912 .i32 := ((oV).slice (orowK L) (fun _ => rfl)).squeeze S38912 squeezes_S1x38912_S38912

omit [FloatOps F] in
theorem orowK_eq : orowK L = orow (wL L) := by
  unfold orowK orow Rect.part Rect.block
  congr 1 <;> funext a
  · rw [k0_off8_eq]
    match a with
    | 0 => simp [Shape.partIx, Shape.partSize]
    | 1 => simp [Shape.partIx, Shape.partSize]
  · match a with
    | 0 => simp [Shape.partSize]
    | 1 => simp [Shape.partSize]

omit [FloatOps F] in
theorem set_oRowK : (oRowK L).view.set = oRowSet (wL L) := by
  show (((oV).view.slice (orowK L)).reshape S38912 squeezes_S1x38912_S38912.numel_eq).set = ((oV).view.slice (orow (wL L))).set
  rw [View.set_reshape]
  exact orowK_eq L ▸ rfl

/-- The row's element `k` is element `(w, k)` of the result. -/
theorem emb_oRowK (k : S38912.Idx) : (oRowK L).view.emb k = (ix2 (wL L) (k 0) : S32x38912.Idx) := by
  show (orowK L).emb (Shape.reshapeEquiv squeezes_S1x38912_S38912.numel_eq k) = _
  have e : Shape.reshapeEquiv squeezes_S1x38912_S38912.numel_eq k = (ix2 (0 : Fin 1) (k 0) : S1x38912.Idx) := by
    refine (Shape.reshapeEquiv_cons_one _ k).trans (funext fun a => ?_)
    match a with
    | 0 => rfl
    | 1 => rfl
  rw [e]
  funext a
  refine Fin.ext ((ValueKit.rect_emb_unit_val _ _ _ _ _).trans ?_)
  refine (congrArg (· + _) (congrFun (k0_off8_eq L) a)).trans ?_
  match a with
  | 0 => show 2 * (L 1).val + (L 0).val + 0 = 2 * (L 1).val + (L 0).val; omega
  | 1 => exact Nat.zero_add _

/-! ## One fetch -/

omit [FloatOps F] in
/-- Element `j` of the 8192 words read from `o` on. -/
theorem src_apply (X : S9961472.Idx → BitVec 32) {off : Fin 1 → ℕ} {o : ℕ} (ho : off = ![o]) (inb : ∀ a, off a + S8192.size a ≤ S9961472.size a) (j : S8192.Idx) :
    X ((Rect.unit (s := S9961472) off S8192.size inb).emb j) = words X (o + (j 0).val) := by
  subst ho
  have hj : (j 0).val < 8192 := (j 0).isLt
  have ho : o + 8192 ≤ 9961472 := inb 0
  unfold words
  rw [dif_pos (by omega)]
  refine congrArg X (funext fun a => Fin.ext ?_)
  match a with
  | 0 => exact ValueKit.rect_emb_unit_val _ _ _ _ _

/-- A fetch into half `s` on the semaphore `sem`, in flight: it delivers the half holding words `o …` of the buffer and
    the part of the buffer it reads; the rest of the buffer beside it. -/
def fl (X : S9961472.Idx → BitVec 32) (s : Memref sig .scVector .vmem S8192 .i32) (sem : DmaSem sig) (q : PosShare TreeShare) (o : ℕ) : sProp 𝕄 :=
  iprop(∃ Sx : Finset S9961472.Idx, Transfers.Flight countersEmb (thr d L) (.dma sem) (none : HIx 1) s.view.dmaCredit
      iprop((∃ f, ⌜∀ j : S8192.Idx, s.view.read (Elt F) f j = words X (o + (j 0).val)⌝ ∗ sPts d L s f) ∗ iLoc d ↦[Sx]{q} X)
    ∗ iLoc d ↦[Finset.univ \ Sx]{q} X)

theorem wp_fetch (X : S9961472.Idx → BitVec 32) (s : Memref sig .scVector .vmem S8192 .i32) (sem : DmaSem sig) (q : PosShare TreeShare)
    {off : Fin 1 → ℕ} {o : ℕ} (ho : off = ![o]) (inb : ∀ a, off a + S8192.size a ≤ S9961472.size a)
    {hsrc : (iV.slice (Rect.unit (s := S9961472) off S8192.size inb) (fun _ => rfl)).view.WordExact} {hdst : s.view.WordExact}
    {hsem : DmaTarget.Typed (nD := nD) (τ := τ) (p := (thr d L).2) Space.hbm (SemLoc.dma sem) (.here s)}
    {α : Type} {k : PUnit → Prog (TpuEff nD τ sig (Elt F) Λ₀ (thr d L).2) α} {Q : α → sProp 𝕄} :
    iprop((iLoc d ↦{q} X) ∗ (∃ f, sPts d L s f) ∗ semVal (thr d L, .dma sem) 0)
      ⊢ iprop((fl d L X s sem q o -∗ wp frame (wpE (defs₀ (F := F)) 𝒱₀ (thr d L) none) Set.univ (k ⟨⟩) Q)
        -∗ wp frame (wpE (defs₀ (F := F)) 𝒱₀ (thr d L) none) Set.univ
            (.op (.enqueueDma (iV.slice (Rect.unit (s := S9961472) off S8192.size inb) (fun _ => rfl)) (.here s) (.dma sem) hsrc hdst hsem) k) Q) := by
  iintro ⟨Hx, ⟨%f, Hs⟩, Hv⟩ Hk
  ihave Hx' := (pointsTo_split_subset (q := q) (f := X) (ℓ := iLoc d) (S := Finset.univ) (Finset.subset_univ (iV.slice (Rect.unit (s := S9961472) off S8192.size inb) (fun _ => rfl)).view.set)).1 $$ Hx
  icases Hx' with ⟨Hx, Hr⟩
  iapply (Transfers.wp_dmaLocal countersEmb 𝒱₀ (thr d L) none (none : HIx 1) s.view.dmaCredit rfl (View.dmaCredit_pos _ (by decide)) (subset_rfl)) $$ [Hx Hs Hv]
  · isplitl [Hx]; · iexact Hx
    isplitl [Hs]; · iexact Hs
    iexact Hv
  iintro Hf
  iapply Hk
  unfold fl
  iexists _
  isplitl [Hf]
  · iapply (Transfers.Flight_mono countersEmb (thr d L) ?h) $$ Hf
    iintro ⟨Hs, Hx⟩
    isplitl [Hs]
    · iexists _; isplitr
      swap; · iexact Hs
      ipureintro; intro j
      rw [View.read_write_univ]
      exact src_apply X ho inb j
    · iexact Hx
  · iexact Hr

theorem wp_fetched (X : S9961472.Idx → BitVec 32) (s : Memref sig .scVector .vmem S8192 .i32) (sem : DmaSem sig) (q : PosShare TreeShare) {o : ℕ}
    {srcw : Memref sig .scVector .hbm S8192 .i32} {hsrc : srcw.view.WordExact} {hdst : s.view.WordExact} {O : CellTallies nD τ sig (HIx 1)} {W : Waits sig (HIx 1)}
    {α : Type} {k : PUnit → Prog (TpuEff nD τ sig (Elt F) Λ₀ (thr d L).2) α} {Q : α → sProp 𝕄} :
    iprop(fl d L X s sem q o ∗ owes (thr d L) O W ∗ Transfers.MayWaits (thr d L) (none : HIx 1) O)
      ⊢ iprop((iprop((iLoc d ↦{q} X) ∗ (∃ f, ⌜∀ j : S8192.Idx, s.view.read (Elt F) f j = words X (o + (j 0).val)⌝ ∗ sPts d L s f) ∗ semVal (thr d L, .dma sem) 0
            ∗ owes (thr d L) O (insert (SemLoc.dma sem, (none : HIx 1)) W)) -∗ wp frame (wpE (defs₀ (F := F)) 𝒱₀ (thr d L) none) Set.univ (k ⟨⟩) Q)
        -∗ wp frame (wpE (defs₀ (F := F)) 𝒱₀ (thr d L) none) Set.univ (.op (.waitDma2 sem srcw s hsrc hdst) k) Q) := by
  unfold fl
  iintro ⟨⟨%Sx, Hf, Hr⟩, HO, Hmw⟩ Hk
  iapply (Transfers.wp_waitLocalO countersEmb 𝒱₀ (thr d L) none (none : HIx 1) rfl) $$ [Hf HO Hmw]
  · isplitl [Hf]; · iexact Hf
    isplitl [HO]; · iexact HO
    iapply (Transfers.MayWaits.elim (SemLoc.dma sem)) $$ Hmw
  iintro ⟨⟨Hs, Hx⟩, Hv, HO⟩
  iapply Hk
  isplitl [Hx Hr]
  · iapply (pointsTo_split_subset (q := q) (f := X) (ℓ := iLoc d) (S := Finset.univ) (Finset.subset_univ Sx)).2
    isplitl [Hx] <;> iassumption
  isplitl [Hs]; · iexact Hs
  isplitl [Hv]; · iexact Hv
  iexact HO

/-! ## The counters zeroed -/

omit [FloatOps F] in
theorem set_hV : (hV.access (.whole S38912)).set = Finset.univ :=
  (View.set_slice _ _).trans (by rw [Rect.set_whole]; exact View.set_whole _)

/-- Trip `t` stores zeros over sixteen counters: those before `16 (t + 1)` are zero after it. -/
theorem zero_trip (w0 w1 w2 : DmaSems sig S_) (t : Fin k0_t1_loop.trips) (acc : BitVec 32) :
    iprop(∃ f, ⌜∀ j : S38912.Idx, (j 0).val < 16 * t.val → f j = 0#32⌝ ∗ hPts d L f)
      ⊢ wp frame (wpE (defs₀ (F := F)) 𝒱₀ (thr d L) none) Set.univ
          (k0_t1_body L iV (Memref.isWhole_whole _) oV (Memref.isWhole_whole _) sV (Memref.isWhole_whole _) hV (Memref.isWhole_whole _) w0 w1 w2 t acc)
          fun _ => iprop(∃ f, ⌜∀ j : S38912.Idx, (j 0).val < 16 * (t.val + 1) → f j = 0#32⌝ ∗ hPts d L f) := by
  unfold k0_t1_body
  simp only [Prog.lift, Prog.bind_op, Prog.bind_ret, Prog.pure_eq_ret]
  iintro ⟨%f, %hf, Hh⟩
  iapply (wp_load 𝒱₀ (thr d L) none Set.univ (m := hV) (S := (hV.access (.whole S38912)).set) (by rw [set_hV]; exact Finset.subset_univ _)) $$ Hh
  iintro Hh
  iapply (wp_store 𝒱₀ (thr d L) none Set.univ (m := hV) (r := Rect.unit (s := S38912) (k0_off1 t) S16.size (k0_off1_inb t)) (S := (hV.access (.whole S38912)).set) ?sub) $$ Hh
  case sub => rw [set_hV]; exact Finset.subset_univ _
  iintro Hh
  sl_step
  iexists _; isplitr
  swap; · iexact Hh
  ipureintro; intro j hj
  by_cases h : (j 0).val < 16 * t.val
  · refine (View.write_of_not_mem _ _ _ (fun hm => ?_)).trans (hf j h)
    obtain ⟨i, -, rfl⟩ := Finset.mem_map.mp hm
    have : ((Rect.unit (s := S38912) (k0_off1 t) S16.size (k0_off1_inb t)).emb i 0).val < 16 * t.val := h
    rw [ValueKit.rect_emb_unit_val, congrFun (k0_off1_eq t) 0] at this
    exact absurd this (by simp)
  · have hl : (j 0).val - 16 * t.val < 16 := by omega
    have e : (Rect.unit (s := S38912) (k0_off1 t) S16.size (k0_off1_inb t)).emb (ix1 ⟨(j 0).val - 16 * t.val, hl⟩ : S16.Idx) = j := by
      funext a
      obtain rfl : a = 0 := Subsingleton.elim _ _
      refine Fin.ext ((ValueKit.rect_emb_unit_val _ _ _ _ _).trans ?_)
      refine (congrArg (· + _) (congrFun (k0_off1_eq t) 0)).trans ?_
      show 16 * t.val + ((j 0).val - 16 * t.val) = (j 0).val
      omega
    rw [← e]
    exact View.write_emb_of_mem _ _ (Finset.mem_univ _)

/-! ## One trip of the task's loop -/

/-- The first word of the task. -/
abbrev bL (L : grid0.Coords) : ℕ := 311296 * (wL L).val

omit [FloatOps F] in
theorem bL_eq : 622592 * (L 1).val + 311296 * (L 0).val = bL L := by
  show _ = 311296 * (2 * (L 1).val + (L 0).val); ring

/-- What the task waits for that it did not before. -/
abbrev owing (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem owing_insert {O : CellTallies nD τ sig (HIx 1)} {W W' : Waits sig (HIx 1)} (h : ∀ p ∈ W', p ∈ W ∨ p.2 = none) (sm : SemLoc sig) :
    (owes (thr d L) O (insert (sm, (none : HIx 1)) W') : sProp 𝕄) ⊢ owing d L O W := by
  iintro HO
  iexists _; isplitr
  swap; · iexact HO
  ipureintro; intro p hp
  rcases Finset.mem_insert.mp hp with hp | hp
  · exact .inr (hp ▸ rfl)
  · exact h p hp

/-- Before trip `n`: the counters hold the first `16384 n` words' counts, the second half of the staging buffer is free,
    and the first half is being filled with the next words while there are any. -/
def inv (X : S9961472.Idx → BitVec 32) (q : PosShare TreeShare) (O : CellTallies nD τ sig (HIx 1)) (W : Waits sig (HIx 1)) (n : ℕ) (_ : BitVec 32) : sProp 𝕄 :=
  iprop(Transfers.MayWaits (thr d L) (none : HIx 1) O ∗ owing d L O W ∗ hPts d L (H fun k => cnt (words X) (bL L) (16384 * n) k)
    ∗ (∃ f, sPts d L s1 f) ∗ semVal (thr d L, .dma cc0_scratch3.sem) 0 ∗ (iLoc d ↦{q.right} X)
    ∗ if n < 19 then fl d L X s0 cc0_scratch2.sem q.left (bL L + 16384 * n)
      else iprop((∃ f, sPts d L s0 f) ∗ semVal (thr d L, .dma cc0_scratch2.sem) 0 ∗ iLoc d ↦{q.left} X))

omit [FloatOps F] in
theorem cond1_iff : ∀ t : Fin k0_t2_loop.trips, k0_cond1 t = 1#1 ↔ t.val + 1 < 19 := by decide +kernel

theorem trips2 : k0_t2_loop.trips = 19 := by decide +kernel
theorem trips1 : k0_t1_loop.trips = 2432 := by decide +kernel
theorem trips3 : k0_t3_loop.trips = 64 := by decide +kernel
theorem trips4 : k0_t4_loop.trips = 64 := by decide +kernel

/-- The second half of a trip: the fetch into the staging buffer's second half ends, and its words are counted;
    whatever else is held, `R`, is kept. -/
theorem trip_end {X : S9961472.Idx → BitVec 32} (hX : InRange X) (q : PosShare TreeShare) (O : CellTallies nD τ sig (HIx 1)) (W : Waits sig (HIx 1))
    (w2 : DmaSems sig S_) (n : ℕ) (R : sProp 𝕄)
    {srcw : Memref sig .scVector .hbm S8192 .i32} {hsrc : srcw.view.WordExact} {hdst : s1.view.WordExact} :
    iprop(Transfers.MayWaits (thr d L) (none : HIx 1) O ∗ owing d L O W ∗ hPts d L (H fun k => cnt (words X) (bL L) (16384 * n + 8192) k)
        ∗ fl d L X s1 cc0_scratch3.sem q.right (bL L + 16384 * n + 8192) ∗ R)
      ⊢ wp frame (wpE (defs₀ (F := F)) 𝒱₀ (thr d L) none) Set.univ
          (.op (.waitDma2 cc0_scratch3.sem srcw s1 hsrc hdst) fun _ => do
            let _ ← Scf.Loop.for k0_t4_loop k0_t4_ok 0#32 (k0_t4_body L iV (Memref.isWhole_whole _) oV (Memref.isWhole_whole _) sV (Memref.isWhole_whole _) hV (Memref.isWhole_whole _) cc0_scratch2 cc0_scratch3 w2)
            Prog.ret 0#32)
          fun _ => iprop(Transfers.MayWaits (thr d L) (none : HIx 1) O ∗ owing d L O W ∗ hPts d L (H fun k => cnt (words X) (bL L) (16384 * (n + 1)) k)
            ∗ (∃ f, sPts d L s1 f) ∗ semVal (thr d L, .dma cc0_scratch3.sem) 0 ∗ (iLoc d ↦{q.right} X) ∗ R) := by
  iintro ⟨#Hmw, ⟨%W1, %hW1, HO⟩, Hh, Hf1, HR⟩
  iapply (wp_fetched d L X s1 cc0_scratch3.sem q.right) $$ [Hf1 HO]
  · isplitl [Hf1]; · iexact Hf1
    isplitl [HO]; · iexact HO
    iexact Hmw
  iintro ⟨Hx1, ⟨%f1, %hf1, Hs1⟩, Hv1, HO⟩
  ihave HO' := (owing_insert d L hW1 _) $$ HO
  iapply (Scf.wp_for_bind frame (wpE (defs₀ (F := F)) 𝒱₀ (thr d L) none) Set.univ _ _ _ k0_t4_ok 0#32 _
    (fun m _ => iprop(sPts d L s1 f1 ∗ hPts d L (H fun k => cnt (words X) (bL L) (16384 * n + 8192) k + cnt (words X) (bL L + 16384 * n + 8192) (128 * m) k)))
    (fun k acc => trip_hi d L hX hf1 _ _ _ _ k acc)) $$ [Hs1 Hh]
  · isplitl [Hs1]; · iexact Hs1
    iapply (hPts_congr d L ?e) $$ Hh
    intro k; rw [Nat.mul_zero, Hist.cnt_zero]; exact (Nat.add_zero _).symm
  iintro %_ ⟨Hs1, Hh⟩
  sl_step
  isplitr; · iexact Hmw
  isplitl [HO']; · iexact HO'
  isplitl [Hh]
  · iapply (hPts_congr d L ?e2) $$ Hh
    intro k
    rw [show Scf.trips k0_t4_loop.lb k0_t4_loop.ub k0_t4_loop.st = 64 from trips4, show 16384 * (n + 1) = (16384 * n + 8192) + 8192 by ring,
      Hist.cnt_add _ _ (16384 * n + 8192) 8192, ← Nat.add_assoc (bL L)]
  isplitl [Hs1]; · iexists _; iexact Hs1
  isplitl [Hv1]; · iexact Hv1
  isplitl [Hx1]; · iexact Hx1
  iexact HR

set_option maxHeartbeats 4000000 in
theorem trip {X : S9961472.Idx → BitVec 32} (hX : InRange X) (q : PosShare TreeShare) (O : CellTallies nD τ sig (HIx 1)) (W : Waits sig (HIx 1))
    (w2 : DmaSems sig S_) (t : Fin k0_t2_loop.trips) (acc : BitVec 32) :
    inv d L X q O W t.val acc
      ⊢ wp frame (wpE (defs₀ (F := F)) 𝒱₀ (thr d L) none) Set.univ
          (k0_t2_body L iV (Memref.isWhole_whole _) oV (Memref.isWhole_whole _) sV (Memref.isWhole_whole _) hV (Memref.isWhole_whole _) cc0_scratch2 cc0_scratch3 w2 t acc)
          (inv d L X q O W (t.val + 1)) := by
  have ht : t.val < 19 := trips2 ▸ t.isLt
  unfold k0_t2_body
  simp only [Prog.lift, Prog.bind_op, Prog.bind_ret, Prog.pure_eq_ret]
  unfold inv
  rw [if_pos ht]
  iintro ⟨#Hmw, ⟨%W1, %hW1, HO⟩, Hh, Hs1, Hv1, Hx1, Hf0⟩
  -- the second half's fetch starts; the first half's ends
  iapply (wp_fetch d L X s1 cc0_scratch3.sem q.right ((k0_off3_eq L t).trans (by rw [bL_eq])) (k0_off3_inb L t)) $$ [Hx1 Hs1 Hv1]
  · isplitl [Hx1]; · iexact Hx1
    isplitl [Hs1]; · iexact Hs1
    iexact Hv1
  iintro Hf1
  iapply (wp_fetched d L X s0 cc0_scratch2.sem q.left) $$ [Hf0 HO]
  · isplitl [Hf0]; · iexact Hf0
    isplitl [HO]; · iexact HO
    iexact Hmw
  iintro ⟨Hx0, ⟨%f0, %hf0, Hs0⟩, Hv0, HO⟩
  ihave HO' := (owing_insert d L hW1 _) $$ HO
  icases HO' with ⟨%W2, %hW2, HO⟩
  -- the first half's words counted
  iapply (Scf.wp_for_bind frame (wpE (defs₀ (F := F)) 𝒱₀ (thr d L) none) Set.univ _ _ _ k0_t3_ok 0#32 _
    (fun n _ => iprop(sPts d L s0 f0 ∗ hPts d L (H fun k => cnt (words X) (bL L) (16384 * t.val) k + cnt (words X) (bL L + 16384 * t.val) (128 * n) k)))
    (fun k acc => trip_lo d L hX hf0 _ _ _ _ k acc)) $$ [Hs0 Hh]
  · isplitl [Hs0]; · iexact Hs0
    iapply (hPts_congr d L ?e) $$ Hh
    intro k; rw [Nat.mul_zero, Hist.cnt_zero, Nat.add_zero]
  iintro %_ ⟨Hs0, Hh⟩
  ihave Hh' := (hPts_congr d L (n' := fun k => cnt (words X) (bL L) (16384 * t.val + 8192) k) ?e1) $$ Hh
  case e1 =>
    intro k
    rw [show Scf.trips k0_t3_loop.lb k0_t3_loop.ub k0_t3_loop.st = 64 from trips3, Hist.cnt_add]
  by_cases hc : k0_cond1 t = 1#1
  · -- the first half's next fetch starts
    have ht' : t.val + 1 < 19 := (cond1_iff t).mp hc
    rw [dif_pos hc, if_pos ht']
    iapply (wp_fetch d L X s0 cc0_scratch2.sem q.left (o := bL L + 16384 * (t.val + 1)) ((k0_off6_eq L t).trans (by rw [bL_eq, Nat.mul_succ, Nat.add_assoc])) (k0_off6_inb L t hc)) $$ [Hx0 Hs0 Hv0]
    · isplitl [Hx0]; · iexact Hx0
      isplitl [Hs0]; · iexists _; iexact Hs0
      iexact Hv0
    iintro Hf0
    iapply (trip_end d L hX q O W w2 t.val _)
    isplitr; · iexact Hmw
    isplitl [HO]
    · iexists W2; isplitr
      · ipureintro; exact hW2
      · iexact HO
    isplitl [Hh']; · iexact Hh'
    isplitl [Hf1]; · iexact Hf1
    iexact Hf0
  · rw [dif_neg hc, if_neg (fun h => hc ((cond1_iff t).mpr h))]
    iapply (trip_end d L hX q O W w2 t.val _)
    isplitr; · iexact Hmw
    isplitl [HO]
    · iexists W2; isplitr
      · ipureintro; exact hW2
      · iexact HO
    isplitl [Hh']; · iexact Hh'
    isplitl [Hf1]; · iexact Hf1
    isplitl [Hs0]; · iexists _; iexact Hs0
    isplitl [Hv0]; · iexact Hv0
    iexact Hx0

/-! ## The task whole -/

theorem sdiv : 2 ∣ S16384.size 0 := ⟨8192, rfl⟩
omit [FloatOps F] in
theorem set_half (s : Memref sig .scVector .vmem S8192 .i32) (o : ℕ) (inb : ∀ a, (![o] : Fin 1 → ℕ) a + S8192.size a ≤ S16384.size a)
    (e : s = sV.slice (Rect.unit (s := S16384) ![o] S8192.size inb) (fun _ => rfl)) (w : Fin 2) (hw : o = 8192 * w.val) :
    ∀ i : S16384.Idx, i ∈ (sV.slice (Rect.unit (s := S16384) ![o] S8192.size inb) (fun _ => rfl)).view.set ↔ (8192 * w.val ≤ (i 0).val ∧ (i 0).val < 8192 * w.val + 8192) := by
  subst hw
  intro i
  constructor
  · intro h
    obtain ⟨j, -, rfl⟩ := Finset.mem_map.mp h
    have hj : (j 0).val < 8192 := (j 0).isLt
    have e : ((Rect.unit (s := S16384) ![8192 * w.val] S8192.size inb).emb j 0).val = 8192 * w.val + (j 0).val := ValueKit.rect_emb_unit_val _ _ _ _ _
    show 8192 * w.val ≤ ((Rect.unit (s := S16384) ![8192 * w.val] S8192.size inb).emb j 0).val ∧ ((Rect.unit (s := S16384) ![8192 * w.val] S8192.size inb).emb j 0).val < _
    omega
  · intro ⟨h1, h2⟩
    refine Finset.mem_map.mpr ⟨(ix1 ⟨(i 0).val - 8192 * w.val, by omega⟩ : S8192.Idx), Finset.mem_univ _, ?_⟩
    funext a
    obtain rfl : a = 0 := Subsingleton.elim _ _
    refine Fin.ext ((ValueKit.rect_emb_unit_val _ _ _ _ _).trans ?_)
    show 8192 * w.val + ((i 0).val - 8192 * w.val) = (i 0).val
    omega

omit [FloatOps F] in
theorem halves : (Finset.univ : Finset S16384.Idx) \ s0.view.set = s1.view.set := by
  ext i
  have hi : (i 0).val < 16384 := (i 0).isLt
  have h0 := set_half s0 0 inb_S16384_S8192_0 rfl 0 rfl i
  have h1 := set_half s1 8192 inb_S16384_S8192_8192 rfl 1 rfl i
  rw [Finset.mem_sdiff]
  constructor
  · intro ⟨_, h⟩
    refine h1.mpr ⟨?_, ?_⟩
    · by_contra hc; exact h (h0.mpr ⟨by simp, by simp at hc ⊢; omega⟩)
    · simpa using hi
  · intro h
    refine ⟨Finset.mem_univ _, fun h' => ?_⟩
    have := h1.mp h; have := h0.mp h'
    simp at *; omega

omit [FloatOps F] in
theorem stage_split : iprop(∃ f, (thr d L).loc cc0_scratch0 ↦{fullShare} f) ⊢ (iprop((∃ f, sPts d L s0 f) ∗ ∃ f, sPts d L s1 f) : sProp 𝕄) := by
  iintro ⟨%f, H⟩
  ihave H' := (pointsTo_split_subset (q := fullShare) (f := f) (ℓ := (thr d L).loc cc0_scratch0) (S := Finset.univ) (Finset.subset_univ s0.view.set)).1 $$ H
  icases H' with ⟨H0, H1⟩
  isplitl [H0]; · iexists f; iexact H0
  iexists f
  iapply (Entails.of_eq (show ((thr d L).loc cc0_scratch0 ↦[Finset.univ \ s0.view.set]{fullShare} f : sProp 𝕄) = sPts d L s1 f by rw [halves]))
  iexact H1

omit [FloatOps F] in
theorem stage_join : (iprop((∃ f, sPts d L s0 f) ∗ ∃ f, sPts d L s1 f) : sProp 𝕄) ⊢ iprop(∃ f, (thr d L).loc cc0_scratch0 ↦{fullShare} f) := by
  iintro ⟨⟨%f0, H0⟩, ⟨%f1, H1⟩⟩
  iexists (fun i : S16384.Idx => if i ∈ s0.view.set then (f0 : S16384.Idx → BitVec 32) i else (f1 : S16384.Idx → BitVec 32) i)
  iapply (pointsTo_split_subset (q := fullShare) (ℓ := (thr d L).loc cc0_scratch0) (S := Finset.univ) (Finset.subset_univ s0.view.set)).2
  isplitl [H0]
  · iapply (Entails.of_eq (pointsTo_congr (ℓ := (thr d L).loc cc0_scratch0) (q := fullShare) (f := f0) fun i hi => (if_pos hi).symm)); iexact H0
  · rw [halves]
    iapply (Entails.of_eq (pointsTo_congr (ℓ := (thr d L).loc cc0_scratch0) (q := fullShare) (f := f1) fun i hi =>
      (if_neg (Finset.mem_sdiff.mp (halves ▸ hi)).2).symm)); iexact H1

abbrev cell2 (d : Dev nD) (L : grid0.Coords) : GSem nD τ sig := (thr d L, .dma cc0_scratch2.sem)
abbrev cell3 (d : Dev nD) (L : grid0.Coords) : GSem nD τ sig := (thr d L, .dma cc0_scratch3.sem)
abbrev cellO (d : Dev nD) (L : grid0.Coords) : GSem nD τ sig := (thr d L, .dma cc0_scoped0.sem)

omit [FloatOps F] in
theorem ownSems0_thr :
    (ownSems0 (thr d L) : sProp 𝕄)
      = iprop(semVal (cell2 d L) 0 ∗ semVal (cell3 d L) 0 ∗ semVal (cellO d L) 0
          ∗ bigSep ((((ownCells (thr d L)).erase (cell2 d L)).erase (cell3 d L)).erase (cellO d L)) fun g => semVal g 0) := by
  unfold SparseCore.Cfg.ownSems0
  have own : ∀ s : DmaSem sig, (SemLoc.dma s : SemLoc sig).isScoped .scVector = true → ((thr d L, .dma s) : GSem nD τ sig) ∈ ownCells (thr d L) :=
    fun s h => mem_ownCells.mpr ⟨rfl, h⟩
  rw [SparseCore.bigSep_erase' (own cc0_scratch2.sem (by decide)),
    SparseCore.bigSep_erase' (Finset.mem_erase.mpr ⟨by simp [cell2, cell3]; decide, own cc0_scratch3.sem (by decide)⟩),
    SparseCore.bigSep_erase' (Finset.mem_erase.mpr ⟨by simp [cell3, cellO]; decide, Finset.mem_erase.mpr ⟨by simp [cell2, cellO]; decide, own cc0_scoped0.sem (by decide)⟩⟩)]

omit [FloatOps F] in
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  have own : ∀ b : Ref sig .scVector, ((Proc.scVector (cV L) (jV L)).devRef b : DevRef τ sig).owner = .proc (.scVector (cV L) (jV L)) →
      (Proc.scVector (cV L) (jV L)).devRef b ∈ ownRefs (τ := τ) (.scVector (cV L) (jV L)) := fun b h => SparseCore.Cfg.mem_ownRefs_of_owner h
  refine (SparseCore.bigSep_erase' (own cc0_scratch0 rfl)).trans ?_
  rw [SparseCore.bigSep_erase' (Finset.mem_erase.mpr ⟨fun e => absurd (Proc.devRef_injective _ e) (show (cc0_scratch1 : Ref sig .scVector) ≠ cc0_scratch0 by decide), own cc0_scratch1 rfl⟩)]

omit [FloatOps F] in
theorem pts_hV (f : Buf (Elt F) ((thr d L).loc cc0_scratch1)) : (hPts d L f : sProp 𝕄) = ((thr d L).loc cc0_scratch1 ↦{fullShare} f) := by
  unfold hPts; rw [set_hV]

/-- The counters written over the task's row leave it what `parts` says. -/
theorem row_parts (X : S9961472.Idx → BitVec 32) (fo : S32x38912.Idx → BitVec 32) :
    ((oRowK L).view.loc (thr d L) ↦[(oRowK L).view.set]{fullShare} ((oRowK L).view.write (Elt F) fo
        (hV.view.read (Elt F) (H fun k => cnt (words X) (bL L) 311296 k)) Finset.univ) : sProp 𝕄)
      ⊢ (oLoc d ↦[oRowSet (wL L)]{fullShare} parts X) := by
  refine Entails.of_eq ?_
  rw [← set_oRowK]
  refine pointsTo_congr (Ix := HIx 1) (Name := ℕ) (U := UU) (Lvl := ℕ) (ℓ := oLoc d) (q := fullShare) fun i hi => ?_
  obtain ⟨k, -, rfl⟩ := Finset.mem_map.mp hi
  refine (View.write_emb_of_mem _ _ (Finset.mem_univ k)).trans ?_
  show BitVec.ofNat 32 (cnt (words X) (bL L) 311296 (k 0).val) = parts X ((oRowK L).view.emb k)
  rw [emb_oRowK]
  rfl

/-- The packed words at a share, and a row of the partial histograms. -/
abbrev xPts (d : Dev nD) (q : PosShare TreeShare) (X : S9961472.Idx → BitVec 32) : sProp 𝕄 := iLoc d ↦{q} X
abbrev rowPts (d : Dev nD) (w : Fin 32) (f : S32x38912.Idx → BitVec 32) : sProp 𝕄 := oLoc d ↦[oRowSet w]{fullShare} f

set_option maxHeartbeats 4000000 in
/-- The task on vector subcore `(L 0, L 1)` of device `d`. -/
theorem tile_body {X : S9961472.Idx → BitVec 32} (hX : InRange X) (fo : S32x38912.Idx → BitVec 32) (q : PosShare TreeShare)
    (O : CellTallies nD τ sig (HIx 1)) (W : Waits sig (HIx 1)) (hO : ∀ g, O g none = 0) :
    iprop(levAts (K (F := F)).L (K (F := F)).lev ∗ emp
        ∗ (xPts d q X ∗ rowPts d (wL L) fo)
        ∗ scopedBufs (thr d L) ∗ scopedSems0 (thr d L) ∗ owes (thr d L) O W)
      ⊢ wp frame (wpE (defs₀ (F := F)) 𝒱₀ (thr d L) none) Set.univ
          (cc0__hist_body L iV (Memref.isWhole_whole _) oV (Memref.isWhole_whole _)
            sV (Memref.isWhole_whole _) hV (Memref.isWhole_whole _) cc0_scratch2 cc0_scratch3 cc0_scoped0)
          fun _ => iprop((xPts d q X ∗ rowPts d (wL L) (parts X))
            ∗ scopedBufs (thr d L) ∗ scopedSems0 (thr d L)
            ∗ ∃ W', ⌜∀ p ∈ W', p ∈ W ∨ p.2 = none⌝ ∗ owes (thr d L) O W') := by
  simp only [cc0__hist_body_eq_skeleton]; unfold cc0__hist_body_skel
  rw [(K (F := F)).scopedBufs_V facts d (cV L) (jV L), SparseCore.Cfg.scopedSems0_V (Val := Elt F) d (cV L) (jV L), ownSems0_thr, ownBufs_thr]
  simp only [Prog.lift, Prog.bind_op, Prog.bind_ret, Prog.pure_eq_ret]
  iintro ⟨#Hlv, -, ⟨Hx, Ho⟩, ⟨Hst, ⟨%fh, Hh⟩, Hbufs⟩, ⟨Hv0, Hv1, HvO, Hsems⟩, HO⟩
  ihave #Hmw := (show levAts (K (F := F)).L (K (F := F)).lev ⊢ Transfers.MayWaits (thr d L) (none : HIx 1) O from
    (K (F := F)).mayWaits_none (thr := thr d L) hO) $$ Hlv
  ihave Hst' := (stage_split (F := F) d L) $$ Hst
  icases Hst' with ⟨Hs0, Hs1⟩
  ihave Hh' := (Entails.of_eq (pts_hV (F := F) d L fh).symm) $$ Hh
  ihave Hx' := (pointsTo_share (PosShare.mem_left_op_right q)).1 $$ Hx
  icases Hx' with ⟨Hx0, Hx1⟩
  -- the counters zeroed
  iapply (Scf.wp_for_bind frame (wpE (defs₀ (F := F)) 𝒱₀ (thr d L) none) Set.univ _ _ _ k0_t1_ok 0#32 _
    (fun n _ => iprop(∃ f, ⌜∀ j : S38912.Idx, (j 0).val < 16 * n → f j = 0#32⌝ ∗ hPts d L f))
    (fun k acc => zero_trip d L _ _ _ k acc)) $$ [Hh']
  · iexists fh; isplitr
    · ipureintro; intro j hj; exact absurd hj (by simp)
    · iexact Hh'
  iintro %_ ⟨%fz, %hfz, Hh⟩
  have ez : fz = H fun k => cnt (words X) (bL L) (16384 * 0) k := by
    funext j
    refine (hfz j ?_).trans ?_
    · rw [show Scf.trips k0_t1_loop.lb k0_t1_loop.ub k0_t1_loop.st = 2432 from trips1]; exact (j 0).isLt
    · show _ = BitVec.ofNat 32 (cnt (words X) (bL L) (16384 * 0) (j 0).val)
      rw [Nat.mul_zero, Hist.cnt_zero]
  rw [ez]
  -- the first fetch
  iapply (wp_fetch d L X s0 cc0_scratch2.sem q.left ((k0_off2_eq L).trans (by rw [bL_eq])) (k0_off2_inb L)) $$ [Hx0 Hs0 Hv0]
  · isplitl [Hx0]; · iexact Hx0
    isplitl [Hs0]; · iexact Hs0
    iexact Hv0
  iintro Hf0
  -- the loop
  iapply (Scf.wp_for_bind frame (wpE (defs₀ (F := F)) 𝒱₀ (thr d L) none) Set.univ _ _ _ k0_t2_ok 0#32 _
    (inv d L X q O W) (fun t acc => trip d L hX q O W _ t acc)) $$ [HO Hh Hs1 Hv1 Hx1 Hf0]
  · unfold inv
    isplitr; · iexact Hmw
    isplitl [HO]
    · iexists W; isplitr
      · ipureintro; exact fun p hp => .inl hp
      · iexact HO
    isplitl [Hh]; · iexact Hh
    isplitl [Hs1]; · iexact Hs1
    isplitl [Hv1]; · iexact Hv1
    isplitl [Hx1]; · iexact Hx1
    rw [if_pos (by decide)]
    iexact Hf0
  rw [show Scf.trips k0_t2_loop.lb k0_t2_loop.ub k0_t2_loop.st = 19 from trips2]
  unfold inv
  rw [if_neg (by decide)]
  iintro %_ ⟨-, ⟨%W1, %hW1, HO⟩, Hh, Hs1, Hv1, Hx1, Hs0, Hv0, Hx0⟩
  -- the counters written out
  ihave Ho' := (Entails.of_eq (show (oLoc d ↦[oRowSet (wL L)]{fullShare} fo : sProp 𝕄)
      = (oRowK L).view.loc (thr d L) ↦[(oRowK L).view.set]{fullShare} fo by rw [set_oRowK])) $$ Ho
  iapply (Transfers.wp_dmaLocal countersEmb 𝒱₀ (thr d L) none (src := hV) (dst := oRowK L) (none : HIx 1) (oRowK L).view.dmaCredit rfl (View.dmaCredit_pos _ (by decide)) subset_rfl) $$ [Hh Ho' HvO]
  · isplitl [Hh]
    · iapply (Entails.of_eq (show (hPts d L (H fun k => cnt (words X) (bL L) (16384 * 19) k) : sProp 𝕄)
        = hV.view.loc (thr d L) ↦[hV.view.set]{fullShare} (H fun k => cnt (words X) (bL L) 311296 k) by
          unfold hPts; rw [set_hV, show hV.view.set = Finset.univ from View.set_whole _])); iexact Hh
    isplitl [Ho']; · iexact Ho'
    iexact HvO
  iintro HfO
  iapply (Transfers.wp_waitLocalO countersEmb 𝒱₀ (thr d L) none (none : HIx 1) rfl) $$ [HfO HO]
  · isplitl [HfO]; · iexact HfO
    isplitl [HO]; · iexact HO
    iapply (Transfers.MayWaits.elim (SemLoc.dma cc0_scoped0.sem)) $$ Hmw
  iintro ⟨⟨Ho, Hh⟩, HvO, HO⟩
  ihave HO' := (owing_insert d L hW1 _) $$ HO
  sl_step
  isplitl [Hx0 Hx1 Ho]
  · isplitl [Hx0 Hx1]
    · iapply (pointsTo_share (PosShare.mem_left_op_right q)).2
      isplitl [Hx0] <;> iassumption
    · iapply (row_parts d L X fo); iexact Ho
  isplitl [Hs0 Hs1 Hh Hbufs]
  · isplitl [Hs0 Hs1]
    · iapply (stage_join (F := F) d L); isplitl [Hs0] <;> iassumption
    isplitl [Hh]
    · iexists _
      iapply (Entails.of_eq (show (hV.view.loc (thr d L) ↦[hV.view.set]{fullShare} (H fun k => cnt (words X) (bL L) 311296 k) : sProp 𝕄)
        = ((thr d L).loc cc0_scratch1 ↦{fullShare} (H fun k => cnt (words X) (bL L) 311296 k)) by rw [show hV.view.set = Finset.univ from View.set_whole _]))
      iexact Hh
    iexact Hbufs
  isplitl [Hv0 Hv1 HvO Hsems]
  · isplitl [Hv0]; · iexact Hv0
    isplitl [Hv1]; · iexact Hv1
    isplitl [HvO]; · iexact HvO
    iexact Hsems
  iexact HO'

end Tile

end Cert.Proof.Tail

end
-- ==== Proof.Launch.lean ====
/-
  The SparseCore call as the launch sees it: each SparseCore takes a share of the packed words and sixteen rows of the
  partial histograms, each vector subcore a share of the share and one row; the rows come back as `parts`.
-/
module

public import proofs.«01_k».proof.Proof.Tile

@[expose] public section

noncomputable section

namespace Cert.Proof.Tail

open Cert.TailIdeal Cert.TailIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The handshakes' ghost state, and the pipelines', in the program's. -/
abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- SparseCore `c`'s share of the packed words, and vector subcore `i`'s of that. -/
def qC (c : Fin 2) : PosShare TreeShare := piece fullShare 1 c
def qT (c : Fin 2) (i : Fin 16) : PosShare TreeShare := piece (qC c) 15 i

variable (X : Dev nD → S9961472.Idx → BitVec 32) (fo : Dev nD → S32x38912.Idx → BitVec 32)

/-- SparseCore `c`'s sixteen rows. -/
abbrev rowsPts (d : Dev nD) (c : Fin 2) (f : S32x38912.Idx → BitVec 32) : sProp 𝕄 :=
  bigSep Finset.univ fun i : Fin 16 => rowPts (F := F) d (wid c i) f

theorem nCore_zero : (K (F := F)).nCore 0 = 2 := rfl

def P : (K (F := F)).Pay (nD := nD) (Val := Elt F) (Name := ℕ) (U := UU) where
  st := fun q d c => match q with | 0 => iprop(xPts d (qC (Fin.cast nCore_zero c)) (X d) ∗ rowsPts d (Fin.cast nCore_zero c) (fo d))
  dn := fun q d c => match q with | 0 => iprop(xPts d (qC (Fin.cast nCore_zero c)) (X d) ∗ rowsPts d (Fin.cast nCore_zero c) (parts (X d)))
  go := fun q d c i => match q with
    | 0 => iprop(xPts d (qT (Fin.cast nCore_zero c) (Fin.cast nSub_zero i)) (X d) ∗ rowPts d (wid (Fin.cast nCore_zero c) (Fin.cast nSub_zero i)) (fo d))
  td := fun q d c i => match q with
    | 0 => iprop(xPts d (qT (Fin.cast nCore_zero c) (Fin.cast nSub_zero i)) (X d) ∗ rowPts d (wid (Fin.cast nCore_zero c) (Fin.cast nSub_zero i)) (parts (X d)))
  x := fun _ _ => iprop(emp)

instance P_storable : (P (F := F) X fo).IsStorable where
  st q d c := match q with
    | 0 => (inferInstance : BI.Storable (upEmb : UEmb _ 𝕄) iprop(xPts d (qC (Fin.cast nCore_zero c)) (X d) ∗ rowsPts d (Fin.cast nCore_zero c) (fo d)))
  dn q d c := match q with
    | 0 => (inferInstance : BI.Storable (upEmb : UEmb _ 𝕄) iprop(xPts d (qC (Fin.cast nCore_zero c)) (X d) ∗ rowsPts d (Fin.cast nCore_zero c) (parts (X d))))
  go q d c i := match q with
    | 0 => (inferInstance : BI.Storable (upEmb : UEmb _ 𝕄)
      iprop(xPts d (qT (Fin.cast nCore_zero c) (Fin.cast nSub_zero i)) (X d) ∗ rowPts d (wid (Fin.cast nCore_zero c) (Fin.cast nSub_zero i)) (fo d)))
  td q d c i := match q with
    | 0 => (inferInstance : BI.Storable (upEmb : UEmb _ 𝕄)
      iprop(xPts d (qT (Fin.cast nCore_zero c) (Fin.cast nSub_zero i)) (X d) ∗ rowPts d (wid (Fin.cast nCore_zero c) (Fin.cast nSub_zero i)) (parts (X d))))

/-! ## The task's obligation -/

/-- The coordinates of vector subcore `(c, s)`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__hist_body (coordsV c s)
          iV (Memref.isWhole_whole _) oV (Memref.isWhole_whole _)
          sV (Memref.isWhole_whole _) hV (Memref.isWhole_whole _) cc0_scratch2 cc0_scratch3 cc0_scoped0) ⟨⟩ c s := rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hX : ∀ d, InRange (X d)) : (K (F := F)).TileObl (D (F := F)) 𝒱 (P X fo) v₀ 0 := by
  intro d c i O W hO _ _
  simp only [show (P (F := F) X fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (hX d) (fo d) (qT (Fin.cast nCore_zero c) (Fin.cast nSub_zero i)) O W hO).trans
    (wp_mono frame _ _ fun _ => task_post)

/-! ## Rows and shares -/

theorem oRowSet_eq (w : Fin 32) : oRowSet w = (orow w).set := by
  show ((View.whole (main_v1_scv : Ref sig .scVector)).slice (orow w)).set = _
  rw [View.set_slice]; exact Finset.map_refl

theorem wid_inj {p q : Fin 2 × Fin 16} (h : wid p.1 p.2 = wid q.1 q.2) : p = q := by
  have h1 : 2 * p.2.val + p.1.val = 2 * q.2.val + q.1.val := congrArg Fin.val h
  have := p.1.isLt; have := q.1.isLt
  exact Prod.ext (Fin.ext (by omega)) (Fin.ext (by omega))

theorem wid_surj (w : Fin 32) : ∃ p : Fin 2 × Fin 16, wid p.1 p.2 = w :=
  ⟨(⟨w.val % 2, by omega⟩, ⟨w.val / 2, by omega⟩), Fin.ext (by show 2 * (w.val / 2) + w.val % 2 = w.val; omega)⟩

theorem rows_disjoint : ∀ p ∈ (Finset.univ : Finset (Fin 2 × Fin 16)), ∀ q ∈ (Finset.univ : Finset (Fin 2 × Fin 16)), p ≠ q →
    Disjoint (oRowSet (wid p.1 p.2)) (oRowSet (wid q.1 q.2)) :=
  fun p _ q _ h => by rw [oRowSet_eq, oRowSet_eq]; exact Rect.part_disjoint odiv fun e => h (wid_inj e)

theorem rows_cover : (Finset.univ : Finset (Fin 2 × Fin 16)).biUnion (fun p => oRowSet (wid p.1 p.2)) = Finset.univ := by
  refine Finset.eq_univ_of_forall fun j => ?_
  have hj : j ∈ (Finset.univ : Finset (Fin 32)).biUnion fun w => (orow w).set := by
    rw [Rect.biUnion_part odiv]; exact Finset.mem_univ j
  obtain ⟨w, -, hw⟩ := Finset.mem_biUnion.mp hj
  obtain ⟨p, rfl⟩ := wid_surj w
  exact Finset.mem_biUnion.mpr ⟨p, Finset.mem_univ _, by rw [oRowSet_eq]; exact hw⟩

/-- The partial histograms whole are their rows, SparseCore by SparseCore. -/
theorem rows_split (d : Dev nD) (f : S32x38912.Idx → BitVec 32) :
    (iprop(oLoc d ↦{fullShare} f) : sProp 𝕄) = bigSep Finset.univ fun c : Fin 2 => rowsPts (F := F) d c f := by
  rw [← bigSep_univ_prod (fun p : Fin 2 × Fin 16 => rowPts (F := F) d (wid p.1 p.2) f),
    ← pointsTo_biUnion Finset.univ (ℓ := oLoc d) (fun p : Fin 2 × Fin 16 => oRowSet (wid p.1 p.2)) rows_disjoint, rows_cover]

/-- The packed words at a share are the words at its pieces. -/
theorem pointsTo_split_pieces (d : Dev nD) (f : Buf (Elt F) (iLoc d)) (n : ℕ) (q : PosShare TreeShare) :
    (iprop(iLoc d ↦{q} f) : sProp 𝕄) = bigSep Finset.univ fun k : Fin (n + 1) => iLoc d ↦{piece q n k} f :=
  pointsTo_pieces (Finset.univ : Finset (Idx (iLoc d))) f n q

/-- The packed words whole are the SparseCores' shares, -/
theorem x_cores (d : Dev nD) (f : S9961472.Idx → BitVec 32) :
    (iprop(iLoc d ↦{fullShare} f) : sProp 𝕄) = bigSep Finset.univ fun c : Fin 2 => xPts (F := F) d (qC c) f :=
  pointsTo_split_pieces d f 1 fullShare

/-- and a SparseCore's share its tasks' shares. -/
theorem x_tasks (d : Dev nD) (c : Fin 2) (f : S9961472.Idx → BitVec 32) :
    xPts (F := F) d (qC c) f = bigSep Finset.univ fun i : Fin 16 => xPts (F := F) d (qT c i) f :=
  pointsTo_split_pieces d f 15 (qC c)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands dealt to its tasks and gathered from them. -/
theorem vecSplit : (K (F := F)).VecSplit' (P X fo) 0 := by
  intro d c
  show iprop(xPts d (qC (Fin.cast nCore_zero c)) (X d) ∗ rowsPts d (Fin.cast nCore_zero c) (fo d)) ⊢ |={Set.univ}=> iprop(
      (bigSep Finset.univ fun i : Fin ((K (F := F)).nSub 0) =>
        iprop(xPts d (qT (Fin.cast nCore_zero c) (Fin.cast nSub_zero i)) (X d) ∗ rowPts d (wid (Fin.cast nCore_zero c) (Fin.cast nSub_zero i)) (fo d)))
      ∗ ((bigSep Finset.univ fun i : Fin ((K (F := F)).nSub 0) =>
          iprop(xPts d (qT (Fin.cast nCore_zero c) (Fin.cast nSub_zero i)) (X d) ∗ rowPts d (wid (Fin.cast nCore_zero c) (Fin.cast nSub_zero i)) (parts (X d))))
          -∗ iprop(xPts d (qC (Fin.cast nCore_zero c)) (X d) ∗ rowsPts d (Fin.cast nCore_zero c) (parts (X d)))))
  rw [bigSep_tasks (F := F) (fun i => iprop(xPts d (qT (Fin.cast nCore_zero c) i) (X d) ∗ rowPts d (wid (Fin.cast nCore_zero c) i) (fo d))),
    bigSep_tasks (F := F) (fun i => iprop(xPts d (qT (Fin.cast nCore_zero c) i) (X d) ∗ rowPts d (wid (Fin.cast nCore_zero c) i) (parts (X d)))),
    bigSep_sep', bigSep_sep', x_tasks]
  iintro H; imodintro
  isplitl [H]; · iexact H
  iintro H; iexact H

theorem st0_eq (d : Dev nD) : (bigSep Finset.univ fun c : Fin ((K (F := F)).nCore 0) => (P (F := F) X fo).st 0 d c)
    = iprop((iLoc d ↦{fullShare} X d) ∗ oLoc d ↦{fullShare} fo d) := by
  rw [x_cores, rows_split, ← bigSep_sep']
  exact bigSep_cores (F := F) fun c => iprop(xPts d (qC c) (X d) ∗ rowsPts d c (fo d))
theorem dn0_eq (d : Dev nD) : (bigSep Finset.univ fun c : Fin ((K (F := F)).nCore 0) => (P (F := F) X fo).dn 0 d c)
    = iprop((iLoc d ↦{fullShare} X d) ∗ oLoc d ↦{fullShare} parts (X d)) := by
  rw [x_cores, rows_split, ← bigSep_sep']
  exact bigSep_cores (F := F) fun c => iprop(xPts d (qC c) (X d) ∗ rowsPts d c (parts (X d)))

/-! ## The launch's ghost state -/

/-- No pipeline's tables vary: none has one. -/
abbrev adm : (p : Fin 1) → (pcfgs (F := F) p).Adm := fun p => (cfgs p).toPCfg_adm

end Cert.Proof.Tail

end
-- ==== Proof.Finish.lean ====
/-
  The finish call: its body run once — the partial histograms and the triangle loaded whole, the loss stored — and the
  call as a region of the host program, entered with the unscoped buffers at any contents `V` and left with the loss's
  buffer at `finish` of the two operands.
-/
module

public import proofs.«01_k».proof.Proof.Launch
public import proofs.«01_k».proof.Proof.Gen.TailIdeal.Launch
public import proofs.«01_k».proof.Proof.Gen.TailIdeal.Points
public import Idealize.ShloMosaic.Lib.Pipeline.RegionsLoop
public import Idealize.ShloMosaic.Lib.VecWindow

@[expose] public section

noncomputable section

namespace Cert.Proof.Tail

open Cert.TailIdeal Cert.TailIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-- The loss the finish body stores, from the partial histograms and the triangle. -/
def finish (p : S32x2x19x1024.Idx → BitVec 32) (tri : S1024x1024.Idx → F .f32) : S1x1.Idx → F .f32 :=
  k1_pay1 (k1_pay8 p tri) (k1_pay9 p tri) (k1_pay12 p tri) (k1_pay13 p tri) (k1_pay14 p tri)

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The finish body from its three buffers held whole: the operands kept, the loss stored. -/
theorem fin_run (c : Dev nD) (f0 : Bf (F := F) c (stage1_0 0)) (f1 : Bf (F := F) c (stage1_1 0)) (f2 : Bf (F := F) c (stage1_2 0)) (Q : PUnit → sProp 𝕄) :
    iprop(pt c (stage1_0 0) f0 ∗ pt c (stage1_1 0) f1 ∗ pt c (stage1_2 0) f2
        ∗ (iprop(pt c (stage1_0 0) f0 ∗ pt c (stage1_1 0) f1 ∗ pt c (stage1_2 0) (finish f0 f1)) -∗ Q ⟨⟩))
      ⊢ wp frame (wpE (defs₀ (F := F)) 𝒱₀ c none) Set.univ
          (cc1__finish_body (stage1_0 0) (hstage1_0 0) (stage1_1 0) (hstage1_1 0) (stage1_2 0) (hstage1_2 0)) Q := by
  simp only [cc1__finish_body_eq_skeleton]; unfold cc1__finish_body_skel
  iintro ⟨H0, H1, H2, Hk⟩
  sl_exec!
  sl_step
  iapply Hk
  isplitl [H0]; · iexact H0
  isplitl [H1]; · iexact H1
  have e : (stage1_2 0).view.writes (Elt F) (stage1_2 0).view.junk (fin_run.sl.H2_1 c f0 f1) = finish f0 f1 := by
    unfold fin_run.sl.H2_1 fin_run.sl.r fin_run.sl.r_1 fin_run.sl.r_2 fin_run.sl.r_3 fin_run.sl.r_4
    have a0 : View.readAt (Elt F) (stage1_0 0).view (Rect.unit ![0, 0, 0, 0] S32x2x19x1024.size inb_S32x2x19x1024_S32x2x19x1024_0_0_0_0).toLoadRect f0 = f0 :=
      View.readAt_full (stage1_0 0).view _ _
    have a1 : View.readAt (Elt F) (stage1_1 0).view (Rect.unit ![0, 0] S1024x1024.size inb_S1024x1024_S1024x1024_0_0).toLoadRect f1 = f1 :=
      View.readAt_full (stage1_1 0).view _ _
    rw [a0, a1]
    exact View.read_writes_full (Val := Elt F) (stage1_2 0).view (stage1_2 0).view.junk inb_S1x1_S1x1_0_0 _ []
  rw [← e]
  iexact H2

/-! ## The call as a region -/

variable (V : (c : Dev nD) → (b : Ref sig .tc) → Buf (Elt F) ((c : Thread nD τ).loc b))

/-- What the call leaves the loss's buffer holding. -/
abbrev finOut (c : Dev nD) : S1x1.Idx → F .f32 := finish (V c main_v6) (V c main_v5)

/-- The operands' blocks are their arrays. -/
theorem blk0_read (c : Dev nD) : ((cfg1.win 0).blk t1_0).view.read (Elt F) (V c main_v6) = V c main_v6 := by
  funext x
  show V c main_v6 _ = V c main_v6 x
  congr 1; funext a; apply Fin.ext; exact Window.rect_emb_val_of_index_zero _ _ _ rfl x
theorem blk1_read (c : Dev nD) : ((cfg1.win 1).blk t1_0).view.read (Elt F) (V c main_v5) = V c main_v5 := by
  funext x
  show V c main_v5 _ = V c main_v5 x
  congr 1; funext a; apply Fin.ext; exact Window.rect_emb_val_of_index_zero _ _ _ rfl x

/-- The proof data: the arrays at `V`; the operands' staging buffers as fetched, the loss's at the loss; nothing owed. -/
def dat (c : Dev nD) : Dat τ (Elt F) (HIx 1) ℕ UU ℕ cfg1 c where
  A w := V c (Pipeline.arrRef spec1 w)
  after w _ := match w with
    | ⟨0, _⟩ => V c main_v6
    | ⟨1, _⟩ => V c main_v5
    | ⟨2, _⟩ => finOut V c
  Φ _ := BI.emp
  q _ := fullShare
  owed _ := 0
  recorded _ := {p | (K (F := F)).lev ((c : Thread nD τ), p.1) p.2 ≤ 8}

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg1.win 0).block.Idx → Elt F (cfg1.win 0).elt) : (dat V c).before 0 t1_0 d = V c main_v6 := by
  unfold Dat.before; rw [if_pos (by decide)]; exact blk0_read V c
theorem before1 (c : Dev nD) (d : (cfg1.win 1).block.Idx → Elt F (cfg1.win 1).elt) : (dat V c).before 1 t1_0 d = V c main_v5 := by
  unfold Dat.before; rw [if_pos (by decide)]; exact blk1_read V c

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = BI.emp from rfl, show (dat V c).Φ t1_0.succ = BI.emp from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0 hf1
  iapply (fin_run c (V c main_v6) (V c main_v5) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The loss's array after the write-back. -/
theorem arr2 (c : Dev nD) : (dat V c).arrAt 2 cfg1.N = finOut V c :=
  (dat V c).arrAt_eq_of_after_last 2 t1_0 (by decide +kernel) _ fun j => rfl

/-- The waits a core has recorded, all within the first call's levels. -/
def tcOwes (c : Dev nD) : sProp 𝕄 :=
  iprop(∃ W, ⌜∀ p ∈ W, (K (F := F)).lev ((c : Thread nD τ), p.1) p.2 ≤ 8⌝ ∗ owes (c : Thread nD τ) (0 : CellTallies nD τ sig (HIx 1)) W)

theorem owesAt_in (c : Dev nD) (t : Fin (cfg1.N + 1)) : tcOwes (F := F) c ⊢ (dat V c).owesAt none t := by
  unfold tcOwes Pipeline.Dat.owesAt Pipeline.owesWithin
  iintro ⟨%W, %hW, HO⟩; iexists W
  isplitr; · ipureintro; exact fun p hp => Or.inl (hW p hp)
  iexact HO
theorem owesAt_out (c : Dev nD) (t : Fin (cfg1.N + 1)) : (dat V c).owesAt none t ⊢ tcOwes (F := F) c := by
  unfold tcOwes Pipeline.Dat.owesAt Pipeline.owesWithin
  iintro ⟨%W, %hW, HO⟩; iexists W
  isplitr
  · ipureintro; intro p hp
    rcases hW hp with h | ⟨w, s, rfl⟩
    · exact h
    · exact Nat.zero_le _
  iexact HO

variable (Vp : (c : Dev nD) → (b : Ref sig .tc) → Buf (Elt F) ((c : Thread nD τ).loc b))

set_option backward.isDefEq.respectTransparency.types false in
/-- The call over the unscoped buffers: entered at `V`, left at any `Vp` that has the loss's array and is `V` off it. -/
def reg (hout : ∀ c, Vp c main_v7 = finOut V c) (hne : ∀ c (b : Ref sig .tc), b ≠ main_v7 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ tcOwes c)
  post c := iprop(unscopedBufs c (Vp c) ∗ tcOwes c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_in V c 0) $$ HO
    isplitr; · iempintro
    iexact Hrest
  hin c := by
    rw [show (pdats V 0 c).Φ 0 = BI.emp from rfl, show Pipeline.scopedRest (pcfgs (F := F) 0).spec c = Pipeline.scopedRest spec1 c from rfl, scopedRest1_eq]
    iintro ⟨-, -, -⟩; iempintro
  hout c := by
    rw [Pipeline.ownSems0_none, show (pdats V 0 c).Φ (Fin.last _) = BI.emp from rfl,
      show Pipeline.scopedRest (pcfgs (F := F) 0).spec c = Pipeline.scopedRest spec1 c from rfl, scopedRest1_eq]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hne c main_v6 (by decide)).symm
        · exact ((pdats V 0 c).arrAt_in 1 rfl _).trans (hne c main_v5 (by decide)).symm
        · exact (arr2 V c).trans (hout c).symm)
      (fun b hb => hne c b fun h => hb (h ▸ Finset.mem_image.mpr ⟨2, Finset.mem_univ _, rfl⟩))
    have hO : (pdats V 0 c).owesAt none (Fin.last (Pipeline.pin (pcfgs (F := F)) adm 0).N) ⊢ tcOwes (F := F) c := owesAt_out V c (Fin.last cfg1.N)
    iintro ⟨Ha, HO, -, Hrest⟩
    imodintro
    isplitl [Ha Hrest]
    · iapply hjoin; isplitl [Ha] <;> iassumption
    iapply hO $$ HO

end Cert.Proof.Tail

end
-- ==== Proof.Loss.lean ====
/-
  The loss as real arithmetic over the pixel counts of a (foreground, class, error bucket) histogram, and the finish
  body's payload over extended reals: on counts below `2 ^ 31` it is that loss.
-/
module

public import proofs.«01_k».proof.Proof.Finish
public import Idealize.ShloMosaic.Lib.Pointwise
public import Idealize.ShloMosaic.Lib.MatmulPlain
public import Idealize.ShloMosaic.Lib.IdealHost

@[expose] public section

noncomputable section

namespace Cert.Proof.Loss

open Idealize.ShloMosaic

/-- How many of the counted pixels lie in bucket `k` or a higher one. -/
def tail (m : Fin 1024 → ℕ) (k : ℕ) : ℕ := ∑ b : Fin 1024, if k ≤ b.val then m b else 0

/-- The Jaccard loss of class `c` when the pixels of bucket `k` and above are the ones predicted wrong. -/
def jac (n : Fin 2 → Fin 19 → Fin 1024 → ℕ) (c : Fin 19) (k : ℕ) : ℝ :=
  if (0 : ℝ) < tail (n 1 c) 0 + tail (n 0 c) k then
    1 - ((tail (n 1 c) 0 : ℝ) - tail (n 1 c) k) / (tail (n 1 c) 0 + tail (n 0 c) k)
  else 0

/-- Whether class `c` has a foreground pixel, as the number one or zero. -/
def present (n : Fin 2 → Fin 19 → Fin 1024 → ℕ) (c : Fin 19) : ℝ := if (0 : ℝ) < tail (n 1 c) 0 then 1 else 0

/-- The error a bucket stands for: its midpoint. -/
def mid (b : Fin 1024) : ℝ := ((b.val : ℝ) + 1 / 2) / 1024

/-- The loss of class `c`: each bucket's midpoint by what the bucket adds to the Jaccard loss. -/
def classLoss (n : Fin 2 → Fin 19 → Fin 1024 → ℕ) (c : Fin 19) : ℝ := ∑ b : Fin 1024, mid b * (jac n c b.val - jac n c (b.val + 1))

/-- The mean of the class losses over the classes that have a foreground pixel. -/
def loss (n : Fin 2 → Fin 19 → Fin 1024 → ℕ) : ℝ := (∑ c, classLoss n c * present n c) / max (∑ c, present n c) 1

/-- A bucket's own count and the count of the buckets above it. -/
theorem tail_succ (m : Fin 1024 → ℕ) (k : Fin 1024) : tail m k.val = m k + tail m (k.val + 1) := by
  unfold tail
  rw [show m k = ∑ b : Fin 1024, if b = k then m b else 0 from by simp, ← Finset.sum_add_distrib]
  refine Finset.sum_congr rfl fun b _ => ?_
  by_cases h : b = k
  · subst h; simp
  · have : (b.val : ℕ) ≠ k.val := fun e => h (Fin.ext e)
    by_cases h2 : k.val ≤ b.val
    · rw [if_pos h2, if_neg h, if_pos (by omega)]; simp
    · rw [if_neg h2, if_neg h, if_neg (by omega)]

/-- The count of all buckets from the lowest. -/
theorem tail_zero (m : Fin 1024 → ℕ) : tail m 0 = ∑ b, m b := by simp [tail]

/-- A finite sum of reals, each cast, is the sum's cast. -/
theorem sum_cast {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of reals by one that is not zero. -/
theorem div_cast (x y : ℝ) (h : y ≠ 0) : Ideal.div (x : EReal) (y : EReal) = ((x / y : ℝ) : EReal) := by
  rw [Ideal.div_coe h, ← EReal.coe_mul]; congr 1; field_simp

/-- One half. -/
theorem half_f32 : Ideal.ofBits .f32 1056964608#32 = ((1 / 2 : ℝ) : EReal) := by
  simp [Ideal.ofBits, Ideal.ieee, -EReal.coe_mul]; norm_num

/-- The number of buckets. -/
theorem buckets_f32 : Ideal.ofBits .f32 1149239296#32 = ((1024 : ℝ) : EReal) := by
  simp [Ideal.ofBits, Ideal.ieee, -EReal.coe_mul]; norm_num

/-- A small number's signed word as an extended real. -/
theorem sitofp_small (k : ℕ) (h : k < 2 ^ 31) : (FloatOps.sitofp .f32 (BitVec.ofNat 32 k) : Ideal .f32) = ((k : ℝ) : EReal) := by
  show (((BitVec.ofNat 32 k).toInt : ℝ) : EReal) = _
  rw [BitVec.toInt_eq_toNat_of_lt (by simp only [BitVec.toNat_ofNat]; omega), BitVec.toNat_ofNat, Nat.mod_eq_of_lt (by omega)]
  simp

/-- A bucket's midpoint as the programs compute it. -/
theorem mid_cast (b : Fin 1024) :
    Ideal.div ((FloatOps.sitofp .f32 (BitVec.ofNat 32 b.val) : Ideal .f32) + Ideal.ofBits .f32 1056964608#32) (Ideal.ofBits .f32 1149239296#32)
      = ((mid b : ℝ) : EReal) := by
  rw [sitofp_small _ (by omega), half_f32, buckets_f32, show ((b.val : ℝ) : EReal) + ((1 / 2 : ℝ) : EReal) = (((b.val : ℝ) + 1 / 2 : ℝ) : EReal) from (EReal.coe_add _ _).symm]
  exact div_cast _ _ (by norm_num)

/-- A Jaccard loss as the programs compute it, the union's zero set apart. -/
theorem jac_cast (u i : ℝ) :
    (if (0 : EReal) < (u : EReal) then 1 - Ideal.div (i : EReal) (if (0 : EReal) < (u : EReal) then (u : EReal) else 1) else 0)
      = ((if 0 < u then 1 - i / u else 0 : ℝ) : EReal) := by
  by_cases h : 0 < u
  · rw [if_pos (by exact_mod_cast h), if_pos (by exact_mod_cast h), if_pos h, div_cast _ _ h.ne', EReal.coe_sub, EReal.coe_one]
  · rw [if_neg (by exact_mod_cast h), if_neg h, EReal.coe_zero]

/-- The word of a comparison, widened and read as a number. -/
theorem flag_cast (x : ℝ) : (FloatOps.sitofp .f32 (BitVec.setWidth 32 (BitVec.ofBool (decide ((0 : EReal) < (x : EReal))))) : Ideal .f32)
    = ((if 0 < x then 1 else 0 : ℝ) : EReal) := by
  by_cases h : 0 < x
  · rw [if_pos h, decide_eq_true (by exact_mod_cast h)]; show (((1#32 : BitVec 32).toInt : ℝ) : EReal) = _; norm_num
  · rw [if_neg h, decide_eq_false (by exact_mod_cast h)]; show (((0#32 : BitVec 32).toInt : ℝ) : EReal) = _; norm_num

/-- The mean over the present classes as the programs compute it. -/
theorem loss_cast (n : Fin 2 → Fin 19 → Fin 1024 → ℕ) :
    Ideal.div ((∑ c, classLoss n c * present n c : ℝ) : EReal) (max ((∑ c, present n c : ℝ) : EReal) 1) = ((loss n : ℝ) : EReal) := by
  rw [← EReal.coe_one, ← EReal.coe_strictMono.monotone.map_max]
  exact div_cast _ _ (by have := le_max_right (∑ c, present n c) (1 : ℝ); linarith)

open Cert.TailIdeal Cert.TailIdeal.Gen Cert.Proof.Tail

section finish
variable (p : S32x2x19x1024.Idx → BitVec 32) (tri : S1024x1024.Idx → Ideal .f32) (n : Fin 2 → Fin 19 → Fin 1024 → ℕ)
  (hp : ∀ (f : Fin 2) (c : Fin 19) (b : Fin 1024), (Finset.univ.fold IntOp.addi 0#32 fun t : Fin 32 => p (ix4 t f c b)) = BitVec.ofNat 32 (n f c b))
  (hn : ∀ f c b, n f c b < 2 ^ 31)
  (ht : ∀ a b : Fin 1024, tri (ix2 a b) = if b ≤ a then 1 else 0)
include hp hn

theorem pay2_apply (f : Fin 2) (c : Fin 19) (b : Fin 1024) : k1_pay2 (F := Ideal) p (ix3 f c b) = ((n f c b : ℝ) : EReal) := by
  unfold k1_pay2
  pointwise
  rw [hp]; exact sitofp_small _ (hn f c b)

theorem pay3_apply (c : Fin 19) (b : Fin 1024) : k1_pay3 (F := Ideal) p (ix2 c b) = ((n 1 c b : ℝ) : EReal) := by
  unfold k1_pay3
  pointwise
  exact pay2_apply p n hp hn 1 c b

theorem pay4_apply (c : Fin 19) (b : Fin 1024) : k1_pay4 (F := Ideal) p (ix2 c b) = ((n 0 c b + n 1 c b : ℝ) : EReal) := by
  unfold k1_pay4
  pointwise
  rw [pay2_apply p n hp hn 0 c b, pay3_apply p n hp hn c b, EReal.coe_add]

include ht

theorem pay7_apply (c : Fin 19) (b : Fin 1024) : k1_pay7 (F := Ideal) p tri (ix2 c b) = ((tail (n 1 c) b.val : ℝ) : EReal) := by
  unfold k1_pay7 k1_pay5
  pointwise [dot_S19x1024_S1024x1024_S19x1024_1_0_0_1_n_n]
  rw [Finset.sum_congr rfl fun x _ => by
    rw [pay3_apply p n hp hn, ht, show ((n 1 c x : ℝ) : EReal) * (if b ≤ x then (1 : EReal) else 0) = ((if b.val ≤ x.val then (n 1 c x : ℝ) else 0 : ℝ) : EReal) from by
      by_cases h : b ≤ x
      · rw [if_pos h, if_pos (Fin.le_def.mp h), mul_one]
      · rw [if_neg h, if_neg (fun e => h (Fin.le_def.mpr e)), mul_zero, EReal.coe_zero]], sum_cast]
  unfold tail; push_cast; rfl

theorem pay6_apply (c : Fin 19) (b : Fin 1024) :
    k1_pay6 (F := Ideal) p tri (ix2 c b) = ((tail (n 0 c) b.val + tail (n 1 c) b.val : ℝ) : EReal) := by
  unfold k1_pay6 k1_pay5
  pointwise [dot_S19x1024_S1024x1024_S19x1024_1_0_0_1_n_n]
  rw [Finset.sum_congr rfl fun x _ => by
    rw [pay4_apply p n hp hn, ht, show ((n 0 c x + n 1 c x : ℝ) : EReal) * (if b ≤ x then (1 : EReal) else 0)
        = (((if b.val ≤ x.val then (n 0 c x : ℝ) else 0) + (if b.val ≤ x.val then (n 1 c x : ℝ) else 0) : ℝ) : EReal) from by
      by_cases h : b ≤ x
      · rw [if_pos h, if_pos (Fin.le_def.mp h), if_pos (Fin.le_def.mp h), mul_one]
      · rw [if_neg h, if_neg (fun e => h (Fin.le_def.mpr e)), if_neg (fun e => h (Fin.le_def.mpr e)), mul_zero, add_zero, EReal.coe_zero]], sum_cast, Finset.sum_add_distrib]
  unfold tail; push_cast; rfl

theorem pay8_apply (c : Fin 19) : k1_pay8 (F := Ideal) p tri (ix2 c 0) = ((tail (n 1 c) 0 : ℝ) : EReal) := by
  unfold k1_pay8
  pointwise
  exact pay7_apply p tri n hp hn ht c 0

theorem pay10_apply (c : Fin 19) (b : Fin 1024) : k1_pay10 (F := Ideal) p tri (ix2 c b) = ((tail (n 1 c) (b.val + 1) : ℝ) : EReal) := by
  unfold k1_pay10
  pointwise
  rw [pay7_apply p tri n hp hn ht, pay3_apply p n hp hn, ← EReal.coe_sub, tail_succ (n 1 c) b]
  congr 1; push_cast; ring

theorem pay11_apply (c : Fin 19) (b : Fin 1024) :
    k1_pay11 (F := Ideal) p tri (ix2 c b) = ((tail (n 1 c) 0 + tail (n 0 c) (b.val + 1) : ℝ) : EReal) := by
  unfold k1_pay11
  pointwise
  rw [pay8_apply p tri n hp hn ht, pay6_apply p tri n hp hn ht, pay4_apply p n hp hn, pay10_apply p tri n hp hn ht, ← EReal.coe_sub, ← EReal.coe_add, ← EReal.coe_sub,
    tail_succ (n 1 c) b, tail_succ (n 0 c) b]
  congr 1; push_cast; ring

theorem pay9_apply (c : Fin 19) (b : Fin 1024) : k1_pay9 (F := Ideal) p tri (ix2 c b) = ((jac n c b.val : ℝ) : EReal) := by
  unfold k1_pay9
  pointwise
  rw [pay8_apply p tri n hp hn ht, pay6_apply p tri n hp hn ht, pay7_apply p tri n hp hn ht, ← EReal.coe_add, ← EReal.coe_sub, ← EReal.coe_sub, jac_cast]
  unfold jac
  congr 1
  rw [show (tail (n 1 c) 0 : ℝ) + (tail (n 0 c) b.val + tail (n 1 c) b.val) - tail (n 1 c) b.val = tail (n 1 c) 0 + tail (n 0 c) b.val from by ring]

/-- The Jaccard loss without a bucket, as the body computes it from its last payloads. -/
theorem excl_apply (c : Fin 19) (b : Fin 1024) :
    Scalar.select (k1_pay13 (F := Ideal) p tri (ix2 c b)) (1 - Ideal.div (k1_pay14 (F := Ideal) p tri (ix2 c b)) (k1_pay12 (F := Ideal) p tri (ix2 c b))) (0 : EReal)
      = ((jac n c (b.val + 1) : ℝ) : EReal) := by
  unfold k1_pay12 k1_pay13 k1_pay14
  pointwise
  rw [pay11_apply p tri n hp hn ht, pay8_apply p tri n hp hn ht, pay10_apply p tri n hp hn ht, ← EReal.coe_sub]
  exact jac_cast _ _

/-- The finish body's result on counts is their loss. -/
theorem finish_apply : finish (F := Ideal) p tri (ix2 0 0) = ((loss n : ℝ) : EReal) := by
  unfold finish k1_pay1
  pointwise
  simp only [pay8_apply p tri n hp hn ht, pay9_apply p tri n hp hn ht, excl_apply p tri n hp hn ht, mid_cast, flag_cast, ← EReal.coe_sub, ← EReal.coe_mul, sum_cast,
    Finset.univ_unique, Finset.sum_singleton]
  exact loss_cast n

end finish

end Cert.Proof.Loss
-- ==== Proof.Run.lean ====
/-
  The program's run: the packed words flattened, the SparseCore call, the triangle of ones, the finish call, the loss
  read off. At any floats.
-/
module

public import proofs.«01_k».proof.Proof.Finish
public import Idealize.ShloMosaic.Lib.Pipeline.Frame
public import Idealize.ShloMosaic.Lib.StableHlo.Run

@[expose] public section

noncomputable section

namespace Cert.Proof.Tail

open Cert.TailIdeal Cert.TailIdeal.Gen

open Idealize.ShloMosaic Idealize.ShloMosaic.ValueIdx Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev dv (b : Ref sig .tc) : DevRef τ sig := Proc.devRef .tc b

/-! ## The contents between the steps -/

abbrev opFlat : HloOp τ sig (Elt F) := StableHlo.reshape main_arg0 main_v0 (rfl : (.i32 : EltTy) = .i32) shapeCasts_S77824x128_S9961472
abbrev opRow : HloOp τ sig (Elt F) := StableHlo.nullary main_v2 (iotaInDim S1024x1024 32 0)
abbrev opCol : HloOp τ sig (Elt F) := StableHlo.nullary main_v3 (iotaInDim S1024x1024 32 1)
abbrev opGe : HloOp τ sig (Elt F) := StableHlo.binary main_v2 main_v3 main_v4 (cmpi .sge : (⟨S1024x1024, .i32⟩ : BufTy).Contents (Elt F) → (⟨S1024x1024, .i32⟩ : BufTy).Contents (Elt F) → (⟨S1024x1024, .i1⟩ : BufTy).Contents (Elt F))
abbrev opTri : HloOp τ sig (Elt F) := StableHlo.unary main_v4 main_v5 (uitofp .f32 : (⟨S1024x1024, .i1⟩ : BufTy).Contents (Elt F) → (⟨S1024x1024, .f32⟩ : BufTy).Contents (Elt F))
abbrev opSplit : HloOp τ sig (Elt F) := StableHlo.reshape main_v1 main_v6 (rfl : (.i32 : EltTy) = .i32) shapeCasts_S32x38912_S32x2x19x1024
abbrev opLoss : HloOp τ sig (Elt F) := StableHlo.reshape main_v7 main_v8 (rfl : (.f32 : EltTy) = .f32) shapeCasts_S1x1_S_
abbrev opsMid : List (HloOp τ sig (Elt F)) := [opRow, opCol, opGe, opTri, opSplit]

abbrev S0 : Finset (DevRef τ sig) := Pipeline.ucRefs τ sig

def V0 (d : Dev nD) : Valuation τ sig (Elt F) := fun b => m (d, b)
def V1 (d : Dev nD) : Valuation τ sig (Elt F) := opFlat.result (V0 m d)

/-- The packed words the SparseCore call reads, and what its result's buffer held. -/
def X (d : Dev nD) : S9961472.Idx → BitVec 32 := V1 m d (dv main_v0)
def fo (d : Dev nD) : S32x38912.Idx → BitVec 32 := V1 m d (dv main_v1)

def V2 (d : Dev nD) : Valuation τ sig (Elt F) := Function.update (V1 m d) (dv main_v1) (parts (X m d))
def V3 (d : Dev nD) : Valuation τ sig (Elt F) := after opsMid (V2 m d)
def V4 (d : Dev nD) : Valuation τ sig (Elt F) := Function.update (V3 m d) (dv main_v7) (finOut (fun c b => V3 m c (dv b)) d)
def V5 (d : Dev nD) : Valuation τ sig (Elt F) := opLoss.result (V4 m d)

abbrev scRefs : Finset (DevRef τ sig) := {dv main_v0, dv main_v1}

theorem scRefs_sub : scRefs ⊆ S0 := fun b hb => by
  have : b = dv main_v0 ∨ b = dv main_v1 := by simpa [scRefs] using hb
  rcases this with rfl | rfl <;> exact Finset.mem_filter.mpr ⟨Finset.mem_map_of_mem _ (Finset.mem_univ _), by decide⟩

theorem held_sc (d : Dev nD) (W : Valuation τ sig (Elt F)) :
    (held (T d) S0 W : sProp 𝕄) = iprop(((iLoc d ↦{fullShare} W (dv main_v0)) ∗ oLoc d ↦{fullShare} W (dv main_v1)) ∗ held (T d) (S0 \ scRefs) W) := by
  rw [held_sub_split (T d) scRefs_sub W]
  congr 1
  unfold held scRefs
  rw [SparseCore.bigSep_insert' (by decide), bigSep_singleton]

theorem V2_rest (d : Dev nD) : (held (T d) (S0 \ scRefs) (V2 m d) : sProp 𝕄) = held (T d) (S0 \ scRefs) (V1 m d) :=
  held_congr (T d) fun b hb => Function.update_of_ne
    (fun h : b = dv main_v1 => (Finset.mem_sdiff.mp hb).2 (by rw [h]; exact Finset.mem_insert_of_mem (Finset.mem_singleton_self _))) _ _
theorem V2_v0 (d : Dev nD) : V2 m d (dv main_v0) = X m d := Function.update_of_ne (show dv main_v0 ≠ (dv main_v1) by decide) _ _
theorem V2_v1 (d : Dev nD) : V2 m d (dv main_v1) = parts (X m d) := Function.update_self _ _ _

/-! ## The launch's ghost state -/

def uP : UP := initOf (Pipeline.cells cfgs cellOf_inj) (Pipeline.launchToks cfgs cellOf_inj)
def u₀ : UU := (initOf (K (F := F)).hsCells (K (F := F)).hsToks, (uP, 1))

/-- The finish call's pipeline's share of it. -/
def G (d : Dev nD) : sProp 𝕄 :=
  iprop(Pipeline.cellsGhost (Pipeline.pin (pcfgs (F := F)) adm) EP 0 d ∗ Pipeline.toksInit (Pipeline.pin (pcfgs (F := F)) adm) EP 0 d)

theorem own_uP : (BI.own ((embR : Emb (UP × Counters) 𝕄) (uP, 1)) : sProp 𝕄) ⊢ BI.own ((EP : Emb UP 𝕄) uP) := by
  refine (BI.own_op_elim ((embR : Emb (UP × Counters) 𝕄).op_of_mem (Prod.mk_mem_op (URA.mem_op_one uP) (URA.mem_one_op (1 : Counters))))).trans ?_
  exact (sep_elim_left : iprop(BI.own ((EP : Emb UP 𝕄) uP) ∗ BI.own ((embR : Emb (UP × Counters) 𝕄) (1, 1))) ⊢ BI.own ((EP : Emb UP 𝕄) uP))

theorem fund : (BI.own ((EP : Emb UP 𝕄) uP) : sProp 𝕄) ⊢ |==> bigSep Finset.univ fun d : Dev nD => G (F := F) d := by
  have h (Ψ : Fin 1 → sProp 𝕄) : (bigSep Finset.univ Ψ : sProp 𝕄) = Ψ 0 := bigSep_univ_of_subsingleton (0 : Fin 1)
  have e : (BI.own ((EP : Emb UP 𝕄) uP) : sProp 𝕄) ⊢ |==> iprop((bigSep Finset.univ fun c : Dev nD => bigSep Finset.univ fun p : Fin 1 => Pipeline.cellsGhost cfgs (EP : Emb UP 𝕄) p c)
      ∗ bigSep Finset.univ fun c : Dev nD => bigSep Finset.univ fun p : Fin 1 => Pipeline.toksInit cfgs (EP : Emb UP 𝕄) p c) :=
    Pipeline.fund_ghost cfgs (EP : Emb UP 𝕄) cellOf_inj
  simp only [h] at e
  unfold G
  simp only [h]
  exact e

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (X m) (fo m)).x q thr) := by
  unfold u₀
  iintro Hu
  ihave H := (ownU_pair (initOf (K (F := F)).hsCells (K (F := F)).hsToks) ((uP, 1) : UP × Counters)) $$ Hu
  icases H with ⟨HH, HP⟩
  ihave HP := own_uP $$ HP
  imod fund $$ HP with Hg
  imodintro
  isplitl [HH]; · iexact HH
  isplitl [Hg]; · iexact Hg
  rw [show (bigSep Finset.univ fun thr : Thread nD τ => bigSep Finset.univ fun q : Fin 1 => (P (F := F) (X m) (fo m)).x q thr) = bigSep Finset.univ fun _ => iprop(emp) from
    bigSep_congr fun _ _ => bigSep_univ_of_subsingleton (0 : Fin 1), show (bigSep (Finset.univ : Finset (Thread nD τ)) fun _ => iprop(emp)) = (iprop(emp) : sProp 𝕄) from bigSep_emp_const _]
  iempintro

/-! ## @main on the TensorCore -/

theorem Otc_one (d : Dev nD) : (K (F := F)).Otc d 1 = 0 := by
  unfold SparseCore.Cfg.Otc
  exact Finset.sum_eq_zero fun q _ => if_neg (by have := q.isLt; omega)

/-- The finish call's segment, from the contents after the middle line. -/
abbrev regF : Pipeline.RegionSeg (pcfgs (F := F)) adm (pdats fun c b => V3 m c (dv b)) none defs₀ 𝒱₀ (K (F := F)).L (K (F := F)).lev 0 :=
  reg (fun c b => V3 m c (dv b)) (fun c b => V4 m c (dv b)) (fun c => Function.update_self _ _ _)
    fun c b hb => Function.update_of_ne (StableHlo.devRef_ne_of_ne hb) _ _

/-- What @main leaves: every unscoped buffer at the last contents. -/
abbrev FIN (d : Dev nD) : sProp 𝕄 := held (T d) S0 (V5 m d)

theorem unscoped_V0 (d : Dev nD) : (unscopedBufs d (fun b => m ((SparseCore.T d).loc b)) : sProp 𝕄) = held (T d) S0 (V0 m d) :=
  Pipeline.unscopedBufs_held d (V0 m d)

theorem mid_sub : ∀ op ∈ (opsMid : List (HloOp τ sig (Elt F))), op.bufs ⊆ S0 := by
  intro op h
  simp only [opsMid, List.mem_cons, List.not_mem_nil, or_false] at h
  rcases h with rfl | rfl | rfl | rfl | rfl
  · exact Pipeline.sub_ucRefs _ (StableHlo.nullary_bufs_sub ..)
  · exact Pipeline.sub_ucRefs _ (StableHlo.nullary_bufs_sub ..)
  · exact Pipeline.sub_ucRefs _ (StableHlo.binary_bufs_sub ..)
  · exact Pipeline.sub_ucRefs _ (StableHlo.unary_bufs_sub ..)
  · exact Pipeline.sub_ucRefs _ (StableHlo.reshape_bufs_sub ..)

/-- The program's line, as its parts. -/
theorem main_eq (d : Dev nD) : main (F := F) d = (do
    hlo rfl opFlat (fun _ => .ret ⟨⟩)
    (K (F := F)).run d 0
    (StableHlo.seq opsMid >>= fun _ => do
      SparseCore.liftProg (.op (.customCall (Pipeline.entry 0) ()) fun _ => .ret ⟨⟩)
      hlo rfl opLoss (fun _ => .ret ⟨⟩)
      pure ⟨⟩)) := rfl

theorem hmain [∀ e, Nonempty (Elt F e)] (κ : GSem nD τ sig → ℕ) (d : Dev nD) :
    iprop((K (F := F)).ctx EH (P (X m) (fo m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0, main_eq]
  simp only [wp_bind, wp_pure]
  iintro ⟨#Hctx, Hst, ⟨Hb, Hheld, Hts, -⟩, HG⟩
  iapply (wp_hlo_within 𝒱 (T d) none Set.univ (op := opFlat) (S := S0) (Pipeline.sub_ucRefs _ (StableHlo.reshape_bufs_sub ..)) (V := V0 m d)) $$ [Hb Hheld]
  · isplitl [Hb] <;> iassumption
  iintro ⟨Hb, Hheld⟩
  rw [wp_ret]; imodintro
  ihave Hh := (show (held (T d) S0 (opFlat.result (V0 m d)) : sProp 𝕄) ⊢ iprop(((iLoc d ↦{fullShare} X m d) ∗ oLoc d ↦{fullShare} fo m d) ∗ held (T d) (S0 \ scRefs) (V1 m d))
    from Entails.of_eq (held_sc d (V1 m d))) $$ Hheld
  icases Hh with ⟨⟨Hi, Ho⟩, Hrest⟩
  iapply ((K (F := F)).wp_run (D (F := F)) 𝒱 (EH := EH) (P := P (X m) (fo m)) κ d 0) $$ [Hst Hi Ho Hb Hrest Hts HG]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (X m) (fo m) d)) $$ Hdn
  icases Hdn' with ⟨Hi, Ho⟩
  ihave Hheld := (show iprop(((iLoc d ↦{fullShare} X m d) ∗ oLoc d ↦{fullShare} parts (X m d)) ∗ held (T d) (S0 \ scRefs) (V1 m d)) ⊢ (held (T d) S0 (V2 m d) : sProp 𝕄)
    from Entails.of_eq (by rw [held_sc, V2_v0, V2_v1, V2_rest])) $$ [Hi Ho Hrest]
  · isplitl [Hi Ho]
    · isplitl [Hi] <;> iassumption
    iexact Hrest
  rw [← wp_bind]
  iapply (StableHlo.wp_seq 𝒱 none Set.univ d S0 _ opsMid mid_sub (by intro op h; simp only [opsMid, List.mem_cons, List.not_mem_nil, or_false] at h; rcases h with rfl | rfl | rfl | rfl | rfl <;> rfl) (V2 m d)) $$ [Hb Hheld]
  · isplitl [Hb] <;> iassumption
  iintro ⟨Hb, Hheld⟩
  simp only [wp_bind, wp_pure]
  unfold SparseCore.Cfg.tcSt
  iapply ((K (F := F)).wp_liftProg (D (F := F)) 𝒱 (T d) Set.univ none _ _)
  iapply ((regF m).wp (pcfgs (F := F)) adm (pdats fun c b => V3 m c (dv b)) none cellOf_inj EP defs₀ 𝒱₀ (K (F := F)).L (K (F := F)).lev d none (by intro u hu; cases hu) _ _)
  icases Hst with ⟨⟨%W, %hW, HO⟩, Hst⟩
  ihave Hlev := (SparseCore.Cfg.ctx_levAts κ) $$ Hctx
  unfold G
  icases HG with ⟨Hg, Ht⟩
  isplitr [Hb Hheld HO Hg Ht]
  swap
  · isplitl [Hb]; · iexact Hb
    isplitl [Hheld HO]
    · rw [show (regF m).pre d = iprop(unscopedBufs d (fun b => V3 m d (dv b)) ∗ tcOwes (F := F) d) from rfl]
      isplitl [Hheld]
      · iapply (show (held (T d) S0 (after opsMid (V2 m d)) : sProp 𝕄) ⊢ unscopedBufs d (fun b => V3 m d (dv b)) from Entails.of_eq (Pipeline.unscopedBufs_held d (V3 m d)).symm) $$ Hheld
      unfold tcOwes
      rw [show (K (F := F)).Otc d ((0 : Fin 1).val + 1) = 0 from Otc_one d]
      iexists W
      isplitr; · ipureintro; exact hW
      iexact HO
    isplitr; · iexact Hlev
    isplitl [Hg] <;> iassumption
  iintro ⟨Hb, Hpost⟩
  ihave Hpost := (show (regF m).post d ⊢ iprop(unscopedBufs d (fun b => V4 m d (dv b)) ∗ tcOwes (F := F) d) from Entails.rfl) $$ Hpost
  icases Hpost with ⟨Hheld, HO⟩
  ihave Hheld := (show (unscopedBufs d (fun b => V4 m d (dv b)) : sProp 𝕄) ⊢ held (T d) S0 (V4 m d) from Entails.of_eq (Pipeline.unscopedBufs_held d (V4 m d))) $$ Hheld
  rw [wp_ret]; imodintro
  iapply (wp_hlo_within 𝒱 (T d) none Set.univ (op := opLoss) (S := S0) (Pipeline.sub_ucRefs _ (StableHlo.reshape_bufs_sub ..)) (V := V4 m d)) $$ [Hb Hheld]
  · isplitl [Hb] <;> iassumption
  iintro ⟨Hb, Hheld⟩
  rw [wp_ret]; imodintro; imodintro
  isplitl [HO Hst]
  · isplitl [HO]
    · unfold tcOwes
      icases HO with ⟨%W', %hW', HO⟩
      iexists W'
      isplitr; · ipureintro; exact hW'
      rw [Otc_one]
      iexact HO
    iexact Hst
  isplitl [Hheld]; · iexact Hheld
  isplitl [Hb] <;> iassumption

/-! ## What the run leaves -/

abbrev aLoc (d : Dev nD) : Loc nD τ sig := (SparseCore.T d).loc main_arg0
abbrev rLoc (d : Dev nD) : Loc nD τ sig := (SparseCore.T d).loc main_v8

abbrev finRefs : Finset (DevRef τ sig) := {dv main_arg0, dv main_v8}
theorem finRefs_sub : finRefs ⊆ S0 := fun b hb => by
  have : b = dv main_arg0 ∨ b = dv main_v8 := by simpa [finRefs] using hb
  rcases this with rfl | rfl <;> exact Finset.mem_filter.mpr ⟨Finset.mem_map_of_mem _ (Finset.mem_univ _), by decide⟩

theorem held_fin (d : Dev nD) (W : Valuation τ sig (Elt F)) :
    (held (T d) S0 W : sProp 𝕄) = iprop(((aLoc d ↦{fullShare} W (dv main_arg0)) ∗ rLoc d ↦{fullShare} W (dv main_v8)) ∗ held (T d) (S0 \ finRefs) W) := by
  rw [held_sub_split (T d) finRefs_sub W]
  congr 1
  unfold held finRefs
  rw [SparseCore.bigSep_insert' (by decide), bigSep_singleton]

def fq (d : Dev nD) (s' : Phys nD τ sig (Elt F)) : Prop := s'.mem.mem (aLoc d) = V5 m d (dv main_arg0) ∧ s'.mem.mem (rLoc d) = V5 m d (dv main_v8)

theorem hfin (d : Dev nD) (s' : Phys nD τ sig (Elt F)) : iprop(FIN m d ∗ SI s') ⊢ (⌜fq m d s'⌝ : sProp 𝕄) := by
  unfold FIN
  rw [held_fin]
  iintro ⟨⟨⟨Ha, Hr⟩, -⟩, HSI⟩
  ihave H := (persistent_entails_right (SI_pointsTo_agree (st := s') (ℓ := aLoc d) (I := Finset.univ) (q := fullShare) (f := V5 m d (dv main_arg0)))) $$ [HSI Ha]
  · isplitl [HSI] <;> iassumption
  icases H with ⟨%h1, HSI, -⟩
  ihave H := (SI_pointsTo_agree (st := s') (ℓ := rLoc d) (I := Finset.univ) (q := fullShare) (f := V5 m d (dv main_v8))) $$ [HSI Hr]
  · isplitl [HSI] <;> iassumption
  icases H with %h2
  ipureintro; exact ⟨funext fun i => h1 i (Finset.mem_univ i), funext fun i => h2 i (Finset.mem_univ i)⟩

/-- Nothing writes the argument. -/
theorem V5_arg (d : Dev nD) : V5 m d (dv main_arg0) = m (aLoc d) := by
  unfold V5 V4 V3 V2 V1 opsMid
  rw [StableHlo.result_of_writes_ne opLoss _ main_v8 main_arg0 rfl (by decide), Function.update_of_ne (devRef_ne_of_ne (by decide))]
  simp only [after_cons, after_nil]
  rw [StableHlo.result_of_writes_ne opSplit _ main_v6 main_arg0 rfl (by decide), StableHlo.result_of_writes_ne opTri _ main_v5 main_arg0 rfl (by decide),
    StableHlo.result_of_writes_ne opGe _ main_v4 main_arg0 rfl (by decide), StableHlo.result_of_writes_ne opCol _ main_v3 main_arg0 rfl (by decide),
    StableHlo.result_of_writes_ne opRow _ main_v2 main_arg0 rfl (by decide), Function.update_of_ne (devRef_ne_of_ne (by decide)),
    StableHlo.result_of_writes_ne opFlat _ main_v0 main_arg0 rfl (by decide)]
  rfl

/-! ## The program's run -/

def QC : PUnit × MemSt nD τ sig (Elt F) → Prop :=
  fun r => (∀ c : Dev nD, r.2.mem (aLoc c) = m (aLoc c) ∧ r.2.mem (rLoc c) = V5 m c (dv main_v8)) ∧ r.2.sem = fun _ => 0

theorem run_main [∀ e, Nonempty (Elt F e)] (hX : ∀ d, InRange (X m d)) : θ_run (defs (F := F)) (threads (F := F)) ⟨m, fun _ => 0, ρ⟩ (QC m) :=
  SparseCore.Cfg.θ_run_sc_quiescent (K := K (F := F)) (D := D (F := F)) (𝒱 := 𝒱) (EH := EH) (P := P (X m) (fo m)) (A := ∅) facts v₀
    (fun q hq => match q with | 0 => nomatch hq)
    (fun q _ => match q with | 0 => tileObl (X m) (fo m) hX)
    (fun q _ => match q with | 0 => SparseCore.Cfg.VecSplit.of_plain (vecSplit (X m) (fo m)))
    m ρ main G (FIN m) (u₀ (F := F)) (sep_elim_left.trans (hu₀ m)) (hmain m ρ) (fq m) (hfin m) (QC m)
    (fun _ h hz => ⟨fun c => ⟨(h c).1.trans (V5_arg m c), (h c).2⟩, hz⟩)

end Cert.Proof.Tail

end
-- ==== Proof.Count.lean ====
/-
  What the program's buffers hold around its two calls, at the extended reals: the packed words, the bucket counts the
  partial histograms sum to, the triangle of ones, and the result, the loss of those counts.
-/
module

public import proofs.«01_k».proof.Proof.Loss
public import proofs.«01_k».proof.Proof.Run
public import proofs.«01_k».proof.Proof.Gen.Pre_codes_in_range
public import Idealize.ShloMosaic.Lib.WordCmp

@[expose] public section

noncomputable section

namespace Cert.Proof.Tail

open Idealize.ShloMosaic Idealize.ShloMosaic.StableHlo
open Cert.TailIdeal Cert.TailIdeal.Gen Cert.Proof.Hist Cert.Proof.Loss

/-! ## Counts of a code among all the words -/

/-- No word counts for more than two. -/
theorem cnt_le (x : ℕ → BitVec 32) (base n k : ℕ) : cnt x base n k ≤ 2 * n := by
  unfold cnt
  refine (Finset.sum_le_card_nsmul _ _ 2 fun i _ => ?_).trans (by simp [mul_comm])
  unfold hits; split <;> split <;> omega

/-- The counts of consecutive runs of words add up to the count of them all. -/
theorem sum_cnt (x : ℕ → BitVec 32) (L k : ℕ) (r : ℕ) : ∑ t ∈ Finset.range r, cnt x (L * t) L k = cnt x 0 (L * r) k := by
  induction r with
  | zero => simp [cnt_zero]
  | succ r ih => rw [Finset.sum_range_succ, ih, Nat.mul_succ, cnt_add, Nat.zero_add]

/-- A fold of word additions over words of numbers is the word of the numbers' sum. -/
theorem fold_addi_ofNat {ι : Type} (s : Finset ι) (f : ι → ℕ) : (s.fold IntOp.addi 0#32 fun i => BitVec.ofNat 32 (f i)) = BitVec.ofNat 32 (∑ i ∈ s, f i) := by
  classical
  induction s using Finset.induction_on with
  | empty => rfl
  | insert a s ha ih => rw [Finset.fold_insert ha, ih, Finset.sum_insert ha, BitVec.ofNat_add]; rfl

/-- The code of foreground flag `f`, class `c` and bucket `b`. -/
def code (f : Fin 2) (c : Fin 19) (b : Fin 1024) : ℕ := f.val * 19456 + c.val * 1024 + b.val

/-- The number of pixels with a given flag, class and bucket among all the packed words. -/
def counts (x : ℕ → BitVec 32) (f : Fin 2) (c : Fin 19) (b : Fin 1024) : ℕ := cnt x 0 9961472 (code f c b)

theorem counts_lt (x : ℕ → BitVec 32) (f : Fin 2) (c : Fin 19) (b : Fin 1024) : counts x f c b < 2 ^ 31 :=
  lt_of_le_of_lt (cnt_le ..) (by norm_num)

/-- The partial histograms, split by flag, class and bucket, sum over their rows to the counts. -/
theorem parts_sum (X : S9961472.Idx → BitVec 32) (f : Fin 2) (c : Fin 19) (b : Fin 1024) :
    (Finset.univ.fold IntOp.addi 0#32 fun t : Fin 32 => shapeCast S32x2x19x1024 (parts X) shapeCasts_S32x38912_S32x2x19x1024 (ix4 t f c b))
      = BitVec.ofNat 32 (counts (words X) f c b) := by
  have e (t : Fin 32) : shapeCast S32x2x19x1024 (parts X) shapeCasts_S32x38912_S32x2x19x1024 (ix4 t f c b)
      = BitVec.ofNat 32 (cnt (words X) (311296 * t.val) 311296 (code f c b)) := by
    pointwise
    rfl
  simp only [e]
  rw [fold_addi_ofNat, Fin.sum_univ_eq_sum_range (fun t => cnt (words X) (311296 * t) 311296 (code f c b)) 32, sum_cnt]
  rfl

section words
variable {F : FTy → Type} [FloatOps F] (m : (ℓ : Loc nD τ sig) → Buf (Elt F) ℓ)

/-- The flattened words, read at a number. -/
theorem words_at (d : Dev nD) (i : Fin 77824) (j : Fin 128) : words (X m d) (i.val * 128 + j.val) = (m (aLoc d) : S77824x128.Idx → BitVec 32) (ix2 i j) := by
  unfold words
  rw [dif_pos (by have := i.isLt; have := j.isLt; omega)]
  have : X m d = shapeCast S9961472 (m (aLoc d) : S77824x128.Idx → BitVec 32) shapeCasts_S77824x128_S9961472 := by
    unfold X V1
    rfl
  rw [this]
  pointwise
  have h1 : (i.val * 128 + j.val) / 128 = i.val := by have := j.isLt; omega
  have h2 : (i.val * 128 + j.val) % 128 = j.val := by have := j.isLt; omega
  simp only [h1, h2]

/-- Where the argument's every word holds two codes below 38912, so do the flattened words. -/
theorem inRange_of_pre (d : Dev nD) (h : Cert.Pre_codes_in_range.fn (F := F) (m (aLoc d)) = fun _ => 1#1) : InRange (X m d) := by
  intro n
  by_cases hn : n < 9961472
  · have e := congrFun h (ix2 (⟨n / 128, by omega⟩ : Fin 77824) (⟨n % 128, by omega⟩ : Fin 128))
    have hw := words_at m d (⟨n / 128, by omega⟩ : Fin 77824) (⟨n % 128, by omega⟩ : Fin 128)
    rw [show (⟨n / 128, by omega⟩ : Fin 77824).val * 128 + (⟨n % 128, by omega⟩ : Fin 128).val = n from by show n / 128 * 128 + n % 128 = n; omega] at hw
    rw [hw]
    generalize (m (aLoc d) : S77824x128.Idx → BitVec 32) = A at *
    unfold Cert.Pre_codes_in_range.fn at e
    pointwise at e
    generalize A (ix2 (⟨n / 128, by omega⟩ : Fin 77824) (⟨n % 128, by omega⟩ : Fin 128)) = w at *
    rw [WordCmp.cmpi_slt_of_lt (by rw [toNat_and]; unfold lo; omega) (by decide),
      WordCmp.cmpi_slt_of_lt (by rw [toNat_shru]; unfold hi; have := BitVec.isLt (w : BitVec 32); omega) (by decide), WordCmp.andi_ofBool, WordCmp.ofBool_eq_one_iff,
      Bool.and_eq_true, decide_eq_true_iff, decide_eq_true_iff, toNat_and, toNat_shru] at e
    exact e
  · unfold words
    rw [dif_neg hn]
    exact ⟨by decide, by decide⟩

end words

variable (m : (ℓ : Loc nD τ sig) → Buf (Elt Ideal) ℓ)

theorem V3_parts (d : Dev nD) : V3 m d (dv main_v6) = shapeCast S32x2x19x1024 (parts (X m d)) shapeCasts_S32x38912_S32x2x19x1024 := by
  unfold V3 opsMid
  simp only [after_cons, after_nil]
  rw [← V2_v1 m d]
  rfl

/-- The triangle of ones. -/
def triangle : S1024x1024.Idx → Ideal .f32 := uitofp .f32 (cmpi .sge (iotaInDim S1024x1024 32 0) (iotaInDim S1024x1024 32 1))

theorem triangle_at (a b : Fin 1024) : triangle (ix2 a b) = if b ≤ a then 1 else 0 := by
  unfold triangle
  pointwise
  rw [WordCmp.cmpi_sge_ofNat (by have := a.isLt; omega) (by have := b.isLt; omega)]
  by_cases h : b ≤ a
  · rw [if_pos h, decide_eq_true (show b.val ≤ a.val from h)]; show (((1#1 : BitVec 1).toNat : ℝ) : EReal) = _; norm_num
  · rw [if_neg h, decide_eq_false (show ¬b.val ≤ a.val from h)]; show (((0#1 : BitVec 1).toNat : ℝ) : EReal) = _; norm_num

theorem V3_tri (d : Dev nD) : V3 m d (dv main_v5) = triangle := by
  unfold V3 opsMid
  simp only [after_cons, after_nil]
  rw [StableHlo.result_of_writes_ne opSplit _ main_v6 main_v5 rfl (by decide)]
  rfl

/-- The result is the loss of the counts. -/
theorem V5_out (d : Dev nD) : V5 m d (dv main_v8) = fun _ => ((loss (counts (words (X m d))) : ℝ) : EReal) := by
  have h : V5 m d (dv main_v8) = shapeCast S_ (finish (F := Ideal) (V3 m d (dv main_v6)) (V3 m d (dv main_v5))) shapeCasts_S1x1_S_ := by
    unfold V5 V4
    have : Function.update (V3 m d) (dv main_v7) (finOut (fun c b => V3 m c (dv b)) d) (dv main_v7) = finish (F := Ideal) (V3 m d (dv main_v6)) (V3 m d (dv main_v5)) :=
      Function.update_self _ _ _
    rw [← this]
    rfl
  rw [h, V3_parts, V3_tri]
  funext j
  refine Eq.trans ?_ (finish_apply _ triangle _ (parts_sum (X m d)) (counts_lt _) triangle_at)
  pointwise

end Cert.Proof.Tail
-- ==== Proof.Ref.lean ====
/-
  The reference's result: its counts of codes in a range are the bucket tails of the packed words' counts, and its term
  is the loss of those counts.
-/
module

public import proofs.«01_k».proof.Proof.Count
public import proofs.«01_k».proof.Proof.Gen.TailReferenceIdeal.Run

@[expose] public section

noncomputable section

namespace Cert.Proof.Ref

open Idealize.ShloMosaic
open Cert.TailReferenceIdeal Cert.TailReferenceIdeal.Gen Cert.Proof.Hist Cert.Proof.Loss
open Cert.Proof.Tail (code counts cnt_le fold_addi_ofNat)

/-- How many of a word's two codes lie from `a` up to, not including, `b`. -/
def inside (a b : ℕ) (w : BitVec 32) : ℕ := (if a ≤ lo w ∧ lo w < b then 1 else 0) + (if a ≤ hi w ∧ hi w < b then 1 else 0)

theorem inside_le (a b : ℕ) (w : BitVec 32) : inside a b w ≤ 2 := by unfold inside; split <;> split <;> omega

/-- A code among the codes of one flag and class from bucket `k` on: one hit, if it is in their range. -/
theorem hit_range (l C k : ℕ) : (∑ b : Fin 1024, if k ≤ b.val then (if l = C + b.val then 1 else 0) else 0) = if C + k ≤ l ∧ l < C + 1024 then 1 else 0 := by
  by_cases h : C + k ≤ l ∧ l < C + 1024
  · rw [if_pos h, Finset.sum_eq_single (⟨l - C, by omega⟩ : Fin 1024)]
    · rw [if_pos (show k ≤ l - C by omega), if_pos (show l = C + (l - C) by omega)]
    · intro b _ hb
      have : b.val ≠ l - C := fun e => hb (Fin.ext e)
      split
      · rw [if_neg (by omega)]
      · rfl
    · intro hb; exact absurd (Finset.mem_univ _) hb
  · rw [if_neg h]
    refine Finset.sum_eq_zero fun b _ => ?_
    have := b.isLt
    split
    · rw [if_neg (by omega)]
    · rfl

/-- The bucket tail of the counts, counted word by word. -/
theorem tail_counts (x : ℕ → BitVec 32) (f : Fin 2) (c : Fin 19) (k : ℕ) :
    tail (counts x f c) k = ∑ i ∈ Finset.range 9961472, inside (f.val * 19456 + c.val * 1024 + k) (f.val * 19456 + c.val * 1024 + 1024) (x i) := by
  unfold tail counts cnt
  simp only [Nat.zero_add]
  have e (b : Fin 1024) : (if k ≤ b.val then ∑ i ∈ Finset.range 9961472, hits (x i) (code f c b) else 0)
      = ∑ i ∈ Finset.range 9961472, if k ≤ b.val then hits (x i) (code f c b) else 0 := by
    by_cases h : k ≤ b.val
    · simp only [if_pos h]
    · simp only [if_neg h, Finset.sum_const_zero]
  rw [Finset.sum_congr rfl fun b _ => e b, Finset.sum_comm]
  refine Finset.sum_congr rfl fun i _ => ?_
  unfold inside
  rw [← hit_range (lo (x i)), ← hit_range (hi (x i)), ← Finset.sum_add_distrib]
  refine Finset.sum_congr rfl fun b _ => ?_
  unfold hits code
  by_cases h : k ≤ b.val
  · simp only [if_pos h]
  · simp only [if_neg h]

theorem tail_lt (x : ℕ → BitVec 32) (f : Fin 2) (c : Fin 19) (k : ℕ) : tail (counts x f c) k < 2 ^ 31 := by
  rw [tail_counts]
  refine lt_of_le_of_lt (Finset.sum_le_card_nsmul _ _ 2 fun i _ => inside_le _ _ _) ?_
  simp

/-- Whether a small code's word lies between two bounds' words, widened to a word. -/
theorem between (a b : ℕ) (ha : a < 2 ^ 31) (hb : b < 2 ^ 31) (h : BitVec 32) (l : ℕ) (hl : h.toNat = l) (hs : l < 2 ^ 31) :
    BitVec.setWidth 32 (IntOp.andi (IntOp.cmpi .sle (BitVec.ofNat 32 a) h) (IntOp.cmpi .slt h (BitVec.ofNat 32 b)))
      = BitVec.ofNat 32 (if a ≤ l ∧ l < b then 1 else 0) := by
  have e : h = BitVec.ofNat 32 l := by rw [← hl]; simp
  rw [e, WordCmp.cmpi_sle_ofNat (by omega) (by omega), WordCmp.cmpi_slt_ofNat (by omega) (by omega), WordCmp.andi_ofBool, ← Bool.decide_and]
  by_cases h : a ≤ l ∧ l < b
  · rw [if_pos h, decide_eq_true h]; rfl
  · rw [if_neg h, decide_eq_false h]; rfl

variable (A : S77824x128.Idx → BitVec 32) (x : ℕ → BitVec 32) (hx : ∀ (i : Fin 77824) (j : Fin 128), x (i.val * 128 + j.val) = A (ix2 i j))

/-- A sum over the places of an array of rows is the sum over the places' numbers. -/
theorem sum_places (M N : ℕ) (g : ℕ → ℕ) : (∑ q : Fin M × Fin N, g (q.1.val * N + q.2.val)) = ∑ i ∈ Finset.range (M * N), g i := by
  rw [← Fin.sum_univ_eq_sum_range g (M * N), ← Equiv.sum_comp (finProdFinEquiv (m := M) (n := N))]
  refine Finset.sum_congr rfl fun q _ => ?_
  rw [show (finProdFinEquiv q).val = q.2.val + N * q.1.val from rfl, Nat.mul_comm, Nat.add_comm]

include hx in
/-- The reference's count of the codes of flag `f` and class `c` from bucket `k` on. -/
theorem count_fold (f : Fin 2) (c : Fin 19) (k : ℕ) (hk : k ≤ 1024) (first last : BitVec 32)
    (hf : first = BitVec.ofNat 32 (f.val * 19456 + c.val * 1024 + k)) (hl : last = BitVec.ofNat 32 (f.val * 19456 + c.val * 1024 + 1024)) :
    (FloatOps.sitofp .f32 (Finset.univ.fold IntOp.addi 0#32 fun q : Fin 77824 × Fin 128 =>
      IntOp.addi (BitVec.setWidth 32 (IntOp.andi (IntOp.cmpi .sle first (IntOp.andi (A (ix2 q.1 q.2)) 65535#32)) (IntOp.cmpi .slt (IntOp.andi (A (ix2 q.1 q.2)) 65535#32) last)))
        (BitVec.setWidth 32 (IntOp.andi (IntOp.cmpi .sle first (IntOp.shrui .host (A (ix2 q.1 q.2)) 16#32)) (IntOp.cmpi .slt (IntOp.shrui .host (A (ix2 q.1 q.2)) 16#32) last)))) : Ideal .f32)
      = ((tail (counts x f c) k : ℝ) : EReal) := by
  have := f.isLt
  have := c.isLt
  have e (w : BitVec 32) : IntOp.addi (BitVec.setWidth 32 (IntOp.andi (IntOp.cmpi .sle first (IntOp.andi w 65535#32)) (IntOp.cmpi .slt (IntOp.andi w 65535#32) last)))
        (BitVec.setWidth 32 (IntOp.andi (IntOp.cmpi .sle first (IntOp.shrui .host w 16#32)) (IntOp.cmpi .slt (IntOp.shrui .host w 16#32) last)))
      = BitVec.ofNat 32 (inside (f.val * 19456 + c.val * 1024 + k) (f.val * 19456 + c.val * 1024 + 1024) w) := by
    rw [hf, hl, between _ _ (by omega) (by omega) _ (lo w) (toNat_and w) (by unfold lo; omega),
      between _ _ (by omega) (by omega) _ (hi w) (toNat_shru _ w) (by unfold hi; have := w.isLt; omega), WordCmp.addi_ofNat]
    rfl
  simp only [e, ← hx]
  rw [fold_addi_ofNat, sum_places 77824 128 (fun i => inside (f.val * 19456 + c.val * 1024 + k) (f.val * 19456 + c.val * 1024 + 1024) (x i)), show 77824 * 128 = 9961472 from rfl, ← tail_counts]
  exact sitofp_small _ (tail_lt x f c k)

/-- The word of the first code of a flag, a class and a bucket. -/
theorem first_word (o : ℕ) (c k : ℕ) :
    IntOp.addi (IntOp.addi (BitVec.ofNat 32 o) (IntOp.muli (BitVec.ofNat 32 c) 1024#32)) (BitVec.ofNat 32 k) = BitVec.ofNat 32 (o + c * 1024 + k) := by
  rw [WordCmp.muli_ofNat, WordCmp.addi_ofNat, WordCmp.addi_ofNat]

/-- The word of a comparison read as an unsigned number. -/
theorem flag_cast' (y : ℝ) : (FloatOps.uitofp .f32 (BitVec.ofBool (decide ((0 : EReal) < (y : EReal)))) : Ideal .f32) = ((if 0 < y then 1 else 0 : ℝ) : EReal) := by
  by_cases h : 0 < y
  · rw [if_pos h, decide_eq_true (by exact_mod_cast h)]; show (((1#1 : BitVec 1).toNat : ℝ) : EReal) = _; norm_num
  · rw [if_neg h, decide_eq_false (by exact_mod_cast h)]; show (((0#1 : BitVec 1).toNat : ℝ) : EReal) = _; norm_num

/-- A Jaccard loss as the reference computes it from the counts. -/
theorem jac_ref (n : Fin 2 → Fin 19 → Fin 1024 → ℕ) (c : Fin 19) (k : ℕ) :
    (if (0 : EReal) < ((tail (n 1 c) 0 : ℝ) : EReal) + ((tail (n 0 c) k : ℝ) : EReal) then
        1 - Ideal.div (((tail (n 1 c) 0 : ℝ) : EReal) - ((tail (n 1 c) k : ℝ) : EReal))
          (if (0 : EReal) < ((tail (n 1 c) 0 : ℝ) : EReal) + ((tail (n 0 c) k : ℝ) : EReal) then ((tail (n 1 c) 0 : ℝ) : EReal) + ((tail (n 0 c) k : ℝ) : EReal) else 1)
      else 0) = ((jac n c k : ℝ) : EReal) := by
  rw [← EReal.coe_add, ← EReal.coe_sub]
  exact jac_cast _ _

set_option maxRecDepth 8192 in
/-- The reference's result is the loss of the counts. -/
theorem res_apply (m : (ℓ : Loc nD τ sig) → Buf (Elt Ideal) ℓ) (d : Dev nD) (x : ℕ → BitVec 32)
    (hx : ∀ (i : Fin 77824) (j : Fin 128), x (i.val * 128 + j.val) = (m ((d.tc : Thread nD τ).loc main_arg0) : S77824x128.Idx → BitVec 32) (ix2 i j)) :
    Value.res_main_v111 m d = fun _ => ((loss (counts x) : ℝ) : EReal) := by
  funext j
  obtain rfl : j = (ix0 : S_.Idx) := funext fun a => a.elim0
  have fg (c : Fin 19) (k : ℕ) (hk : k ≤ 1024) := count_fold _ x hx 1 c k hk _ _ (first_word 19456 c k) (first_word 19456 c 1024)
  have bg (c : Fin 19) (k : ℕ) (hk : k ≤ 1024) := count_fold _ x hx 0 c k hk _ _ ((first_word 0 c k).trans (by simp)) ((first_word 0 c 1024).trans (by simp))
  unfold Value.res_main_v111
  pointwise
  simp (disch := omega) only [fg, bg]
  refine Eq.trans (congrArg₂ Ideal.div (Finset.sum_congr rfl fun c _ => congrArg₂ (· * ·) (Finset.sum_congr rfl fun b _ => ?_) (flag_cast' _))
    (congrArg₂ max (Finset.sum_congr rfl fun c _ => flag_cast' _) rfl)) (?_ : Ideal.div (∑ c, (∑ b : Fin 1024, ((mid b * (jac (counts x) c b.val - jac (counts x) c (b.val + 1)) : ℝ) : EReal))
      * ((present (counts x) c : ℝ) : EReal)) (max (∑ c, ((present (counts x) c : ℝ) : EReal)) 1) = _)
  · rw [EReal.coe_mul, EReal.coe_sub, Nat.add_comm b.val 1]
    exact congrArg₂ (· * ·) (mid_cast b) (congrArg₂ (· - ·) (jac_ref (counts x) c b.val) (jac_ref (counts x) c (1 + b.val)))
  · simp only [sum_cast, ← EReal.coe_mul]
    exact loss_cast (counts x)

end Cert.Proof.Ref
-- ==== Proof.Same.lean ====
/-
  The program printed for the machine's floats and the one printed for the extended reals are one text: at the same
  floats their bodies are equal, so a run of the one is a run of the other.
-/
module

public import proofs.«01_k».proof.Proof.Gen.Tail
public import proofs.«01_k».proof.Proof.Gen.TailIdeal

@[expose] public section

noncomputable section

namespace Cert.Proof.Tail

open Idealize.ShloMosaic

variable {F : FTy → Type} [FloatOps F]

/-- The two programs' kernel bodies are the same. -/
theorem defs₀_eq : (Cert.Tail.defs₀ (F := F)) = (Cert.TailIdeal.defs₀ (F := F)) := by
  funext p ℓ a
  match p, ℓ, a with
  | .scVector c s, 0, _ => rfl
  | .scVector c s, 1, _ => rfl
  | .scScalar c, 0, _ => rfl
  | .scScalar c, 1, _ => rfl
  | .tc, 0, _ => rfl
  | .tc, 1, (t, s) => rfl

/-- So are their definitions with the calls' launches. -/
theorem defs_eq : (Cert.Tail.defs (F := F)) = (Cert.TailIdeal.defs (F := F)) := by
  unfold Cert.Tail.defs Cert.TailIdeal.defs
  rw [← defs₀_eq]
  rfl

end Cert.Proof.Tail
-- ==== Proof.Whole.Pixel.lean ====
/-
  One pixel: its softmax, its error at a class and the error's bucket, as real numbers, and the words and values that the
  two programs compute of them at the extended reals.
-/
module

public import proofs.«01_k».proof.Proof.Loss
public import proofs.«01_k».proof.Proof.Count

@[expose] public section

noncomputable section

namespace Cert.Proof.Whole

open Idealize.ShloMosaic
open Cert.Proof.Loss
open Cert.Proof.Hist (lo hi)
open Cert.Proof.Tail (code)

/-- The running maximum of reals from a real is a real. -/
theorem foldl_max_coe {ι : Type} (l : List ι) (op : ι → EReal) (h : ∀ n, ∃ r : ℝ, op n = (r : EReal)) (r : ℝ) :
    ∃ t : ℝ, l.foldl (fun r n => max r (op n)) (r : EReal) = (t : EReal) := by
  induction l generalizing r with
  | nil => exact ⟨r, rfl⟩
  | cons a l ih =>
    obtain ⟨s, hs⟩ := h a
    rw [List.foldl_cons, hs, ← EReal.coe_strictMono.monotone.map_max]
    exact ih _

/-- The greatest of the reals that a reduced index takes in is a real. -/
theorem reduce_max_coe {s t u : Shape} {axes : List (Fin s.rank)} (x : s.Idx → Ideal .f32) (hx : ∀ i, ∃ r : ℝ, x i = (r : EReal)) (init : u.Idx → Ideal .f32)
    (hi : ∀ i, init i = (⊥ : EReal)) (h : s.ReducesTo axes t) (hu : 0 < u.numel) (j : t.Idx) (i : s.Idx) (hj : h.drop i = j) :
    ∃ r : ℝ, Host.reduce FloatOps.maximumf x init h hu j = (r : EReal) := by
  unfold Host.reduce
  rw [hi]
  generalize hl : (List.finRange s.numel).filter (fun n => h.drop (s.rowMajor.symm n) = j) = l
  have hm : s.rowMajor i ∈ l := by rw [← hl, List.mem_filter]; simpa using hj
  cases l with
  | nil => exact absurd hm List.not_mem_nil
  | cons a l =>
    obtain ⟨r, hr⟩ := hx (s.rowMajor.symm a)
    rw [List.foldl_cons]
    have : FloatOps.maximumf (F := Ideal) (φ := .f32) (⊥ : EReal) (x (s.rowMajor.symm a)) = (r : EReal) := (max_eq_right bot_le).trans hr
    rw [this]
    exact foldl_max_coe l (fun n => x (s.rowMajor.symm n)) (fun n => hx _) r

/-- Dropping the second of four coordinates. -/
theorem drop_one {A B C D : ℕ} (h : (⟨4, ![A, B, C, D]⟩ : Shape).ReducesTo [1] ⟨3, ![A, C, D]⟩) (i : Fin A) (k : Fin B) (r : Fin C) (w : Fin D) :
    h.drop (ix4 i k r w) = ix3 i r w := by
  funext a
  match a with
  | ⟨0, _⟩ => rfl
  | ⟨1, _⟩ => rfl
  | ⟨2, _⟩ => rfl

/-- A greatest real along the second of four axes, with a further bound below that is no number. -/
theorem max_one {A B C D : ℕ} (x : (⟨4, ![A, B, C, D]⟩ : Shape).Idx → Ideal .f32) (hx : ∀ i, ∃ r : ℝ, x i = (r : EReal))
    (b : (⟨3, ![A, C, D]⟩ : Shape).Idx → Ideal .f32) (hb : ∀ i, b i = (⊥ : EReal)) (init : (⟨0, ![]⟩ : Shape).Idx → Ideal .f32)
    (hi : ∀ i, init i = (⊥ : EReal)) (h : (⟨4, ![A, B, C, D]⟩ : Shape).ReducesTo [1] ⟨3, ![A, C, D]⟩) (hu : 0 < (⟨0, ![]⟩ : Shape).numel)
    (i : Fin A) (k : Fin B) (r : Fin C) (w : Fin D) :
    ∃ t : ℝ, maximumf b (Host.reduce FloatOps.maximumf x init h hu) (ix3 i r w) = (t : EReal) := by
  obtain ⟨t, ht⟩ := reduce_max_coe x hx init hi h hu (ix3 i r w) (ix4 i k r w) (drop_one h i k r w)
  refine ⟨t, ?_⟩
  show max (b (ix3 i r w)) (Host.reduce FloatOps.maximumf x init h hu (ix3 i r w)) = _
  rw [ht, hb]
  exact max_eq_right bot_le

/-- The least extended real. -/
theorem bot_f32 : (FloatOps.ofBits .f32 0xFF800000#32 : Ideal .f32) = (⊥ : EReal) := by
  show Ideal.ofBits .f32 _ = _; simp [Ideal.ofBits, Ideal.ieee]

/-! ## The numbers of one pixel -/

variable (x : Fin 19 → ℝ) (l : BitVec 32) (c : Fin 19)

/-- The softmax of one pixel's predictions. -/
def prob : ℝ := Real.exp (x c) / ∑ k, Real.exp (x k)

/-- Whether the pixel's label is class `c`. -/
def flag : Fin 2 := if l = BitVec.ofNat 32 c.val then 1 else 0

/-- The pixel's error at class `c`. -/
def err : ℝ := if l = BitVec.ofNat 32 c.val then 1 - prob x c else prob x c

/-- The bucket of the pixel's error. -/
def bucket : Fin 1024 := ⟨min ⌊err x l c * 1024⌋₊ 1023, by omega⟩

/-- The sum of the exponentials is positive. -/
theorem exps_pos : 0 < ∑ k, Real.exp (x k) := Finset.sum_pos (fun k _ => Real.exp_pos _) ⟨0, Finset.mem_univ _⟩

/-- The softmax is not negative, -/
theorem prob_nonneg : 0 ≤ prob x c := div_nonneg (Real.exp_pos _).le (exps_pos x).le

/-- nor above one. -/
theorem prob_le : prob x c ≤ 1 := by
  unfold prob
  rw [div_le_one (exps_pos x)]
  exact Finset.single_le_sum (f := fun k => Real.exp (x k)) (fun k _ => (Real.exp_pos _).le) (Finset.mem_univ c)

/-- The error is not negative, -/
theorem err_nonneg : 0 ≤ err x l c := by
  have := prob_nonneg x c
  have := prob_le x c
  unfold err; split <;> linarith

/-- nor above one. -/
theorem err_le : err x l c ≤ 1 := by
  have := prob_nonneg x c
  have := prob_le x c
  unfold err; split <;> linarith

/-- The softmax does not change when one number is taken from every prediction. -/
theorem prob_shift (t : ℝ) : Real.exp (x c - t) / ∑ k, Real.exp (x k - t) = prob x c := by
  unfold prob
  simp only [Real.exp_sub, ← Finset.sum_div]
  rw [div_div_div_cancel_right₀ (Real.exp_pos t).ne']

/-- The sum of the shifted exponentials is positive. -/
theorem shift_pos (t : ℝ) : 0 < ∑ k, Real.exp (x k - t) := exps_pos fun k => x k - t

/-! ## What the programs compute of them -/

/-- The float word of one. -/
theorem one_f32 : Ideal.ofBits .f32 1065353216#32 = ((1 : ℝ) : EReal) := by
  simp [Ideal.ofBits, Ideal.ieee, -EReal.coe_mul]; norm_num

/-- A quotient of exponentials is the softmax. -/
theorem prob_div (t : ℝ) : Ideal.div (Ideal.exp ((x c : EReal) - (t : EReal))) (∑ k, Ideal.exp ((x k : EReal) - (t : EReal))) = ((prob x c : ℝ) : EReal) := by
  simp only [← EReal.coe_sub, Ideal.exp_coe]
  rw [sum_cast, div_cast _ _ (shift_pos x t).ne', prob_shift]

/-- An exponential by the reciprocal of the sum is the softmax. -/
theorem prob_mul (t : ℝ) : Ideal.exp ((x c : EReal) - (t : EReal)) * Ideal.div 1 (∑ k, Ideal.exp ((x k : EReal) - (t : EReal))) = ((prob x c : ℝ) : EReal) := by
  simp only [← EReal.coe_sub, Ideal.exp_coe]
  rw [sum_cast, ← EReal.coe_one, div_cast _ _ (shift_pos x t).ne', ← EReal.coe_mul, mul_one_div, prob_shift]

/-- The pixel's flag as a number. -/
theorem flag_word : (FloatOps.uitofp .f32 (IntOp.cmpi .eq l (BitVec.ofNat 32 c.val)) : Ideal .f32) = ((if flag l c = 1 then 1 else 0 : ℝ) : EReal) := by
  rw [WordCmp.cmpi_eq_eq]
  unfold flag
  by_cases h : l = BitVec.ofNat 32 c.val
  · rw [if_pos h, decide_eq_true h]; show (((1#1 : BitVec 1).toNat : ℝ) : EReal) = _; norm_num
  · rw [if_neg h, decide_eq_false h]; show (((0#1 : BitVec 1).toNat : ℝ) : EReal) = _; norm_num

/-- The distance of the flag from the softmax is the error. -/
theorem err_abs : (FloatOps.absf (((if flag l c = 1 then 1 else 0 : ℝ) : EReal) - ((prob x c : ℝ) : EReal)) : Ideal .f32) = ((err x l c : ℝ) : EReal) := by
  rw [← EReal.coe_sub]
  show max (((if flag l c = 1 then 1 else 0 : ℝ) - prob x c : ℝ) : EReal) (-(((if flag l c = 1 then 1 else 0 : ℝ) - prob x c : ℝ) : EReal)) = _
  rw [← EReal.coe_neg, ← EReal.coe_strictMono.monotone.map_max]
  refine congrArg _ ?_
  have := prob_nonneg x c
  have := prob_le x c
  unfold err flag
  by_cases h : l = BitVec.ofNat 32 c.val
  · simp only [if_pos h]; rw [if_pos trivial]; exact max_eq_left (by linarith)
  · simp only [if_neg h]; rw [if_neg (by decide)]; rw [max_eq_right (by linarith)]; ring

/-- The word of the bucket that a number of the unit interval lies in. -/
theorem unit_word (e : ℝ) (he0 : 0 ≤ e) (he1 : e ≤ 1) : IntOp.minsi (FloatOps.fptosi (F := Ideal) (φ := .f32) 32 ((e : EReal) * Ideal.ofBits .f32 1149239296#32)) 1023#32
    = BitVec.ofNat 32 (min ⌊e * 1024⌋₊ 1023) := by
  have h0 : 0 ≤ e * 1024 := mul_nonneg he0 (by norm_num)
  have h1 : e * 1024 ≤ 1024 := by linarith
  have hf : ⌊e * 1024⌋₊ ≤ 1024 := Nat.floor_le_of_le (by exact_mod_cast h1)
  rw [buckets_f32, ← EReal.coe_mul]
  have w : FloatOps.fptosi (F := Ideal) (φ := .f32) 32 ((e * 1024 : ℝ) : EReal) = BitVec.ofNat 32 ⌊e * 1024⌋₊ := by
    show BitVec.ofInt 32 (max (-(2 ^ (32 - 1) : ℕ)) (min ((2 ^ (32 - 1) : ℕ) - 1) (if 0 ≤ e * 1024 then ⌊e * 1024⌋ else ⌈e * 1024⌉))) = _
    rw [if_pos h0, ← Int.natCast_floor_eq_floor h0]
    generalize ⌊e * 1024⌋₊ = n at hf
    rw [show max (-(2 ^ (32 - 1) : ℕ) : ℤ) (min ((2 ^ (32 - 1) : ℕ) - 1) (n : ℤ)) = (n : ℤ) from by norm_num; omega]
    exact BitVec.ofInt_natCast ..
  rw [w]
  generalize ⌊e * 1024⌋₊ = n at hf
  have s : (BitVec.ofNat 32 n).slt 1023#32 = decide (n < 1023) := by
    show decide ((BitVec.ofNat 32 n).toInt < (BitVec.ofNat 32 1023).toInt) = _
    rw [WordCmp.toInt_ofNat_of_lt (by omega), WordCmp.toInt_ofNat_of_lt (by omega)]
    exact decide_eq_decide.2 (by omega)
  unfold IntOp.minsi
  rw [s]
  by_cases h : n < 1023
  · rw [decide_eq_true h, if_pos rfl, min_eq_left h.le]
  · rw [decide_eq_false h, if_neg (by decide), min_eq_right (by omega)]

/-- The error's word of a bucket. -/
theorem bucket_word : IntOp.minsi (FloatOps.fptosi (F := Ideal) (φ := .f32) 32 (((err x l c : ℝ) : EReal) * Ideal.ofBits .f32 1149239296#32)) 1023#32
    = BitVec.ofNat 32 (bucket x l c).val := unit_word _ (err_nonneg x l c) (err_le x l c)

/-- A bucket's negated midpoint as the reference computes it. -/
theorem neg_mid (b : Fin 1024) :
    -Ideal.div ((FloatOps.sitofp .f32 (BitVec.ofNat 32 b.val) : Ideal .f32) + Ideal.ofBits .f32 1056964608#32) (Ideal.ofBits .f32 1149239296#32)
      = ((-mid b : ℝ) : EReal) := by
  rw [mid_cast, EReal.coe_neg]

/-- The greatest of reals, from no number, is a real. -/
theorem fold_max_coe : ∃ t : ℝ, Finset.univ.fold max (Ideal.ofBits .f32 4286578688#32) (fun k => (x k : EReal)) = (t : EReal) := by
  have b : Ideal.ofBits .f32 4286578688#32 = (⊥ : EReal) := bot_f32
  rw [b]
  have (s : Finset (Fin 19)) : s = ∅ ∨ ∃ t : ℝ, s.fold max (⊥ : EReal) (fun k => (x k : EReal)) = (t : EReal) := by
    induction s using Finset.induction_on with
    | empty => exact .inl rfl
    | insert a s ha ih =>
      refine .inr ?_
      rw [Finset.fold_insert ha]
      rcases ih with rfl | ⟨t, ht⟩
      · exact ⟨x a, max_eq_left bot_le⟩
      · exact ⟨max (x a) t, by rw [ht, EReal.coe_strictMono.monotone.map_max]⟩
  exact (this _).resolve_left (Finset.univ_nonempty.ne_empty)

/-- The code of a pixel's flag, class and bucket, as the kernel computes it from the pixel's softmax. -/
theorem code_word (p : EReal) (hp : p = ((prob x c : ℝ) : EReal)) :
    IntOp.addi (IntOp.addi (Scalar.select (IntOp.cmpi .eq l (BitVec.ofNat 32 c.val)) 19456#32 0#32) (IntOp.muli (BitVec.ofNat 32 c.val) 1024#32))
        (IntOp.minsi (FloatOps.fptosi (F := Ideal) (φ := .f32) 32 (Scalar.select (IntOp.cmpi .eq l (BitVec.ofNat 32 c.val)) (1 - p) p * Ideal.ofBits .f32 1149239296#32)) 1023#32)
      = BitVec.ofNat 32 (code (flag l c) c (bucket x l c)) := by
  have e : Scalar.select (IntOp.cmpi .eq l (BitVec.ofNat 32 c.val)) (1 - p) p = ((err x l c : ℝ) : EReal) := by
    rw [hp, WordCmp.cmpi_eq_eq]
    unfold err
    by_cases h : l = BitVec.ofNat 32 c.val
    · rw [if_pos h, decide_eq_true h, EReal.coe_sub, EReal.coe_one]; rfl
    · rw [if_neg h, decide_eq_false h]; rfl
  have f : Scalar.select (IntOp.cmpi .eq l (BitVec.ofNat 32 c.val)) 19456#32 0#32 = BitVec.ofNat 32 ((flag l c).val * 19456) := by
    rw [WordCmp.cmpi_eq_eq]
    unfold flag
    by_cases h : l = BitVec.ofNat 32 c.val
    · rw [if_pos h, decide_eq_true h]; rfl
    · rw [if_neg h, decide_eq_false h]; rfl
  rw [e, f, bucket_word, WordCmp.muli_ofNat, WordCmp.addi_ofNat, WordCmp.addi_ofNat]
  rfl

/-- A code names a counter. -/
theorem code_lt (f : Fin 2) (b : Fin 1024) : code f c b < 38912 := by
  unfold code; have := f.isLt; have := c.isLt; have := b.isLt; omega

/-- The codes of two flags, classes and buckets are different unless these are the same. -/
theorem code_inj (f f' : Fin 2) (c c' : Fin 19) (b b' : Fin 1024) : code f c b = code f' c' b' ↔ c = c' ∧ f = f' ∧ b = b' := by
  unfold code
  have := f.isLt; have := c.isLt; have := b.isLt; have := f'.isLt; have := c'.isLt; have := b'.isLt
  simp only [Fin.ext_iff]
  omega

/-- Two codes packed in one word. -/
theorem pack (a b : ℕ) (ha : a < 38912) (hb : b < 38912) :
    lo (IntOp.ori (BitVec.ofNat 32 a) (IntOp.shli .vector (BitVec.ofNat 32 b) 16#32)) = a
      ∧ hi (IntOp.ori (BitVec.ofNat 32 a) (IntOp.shli .vector (BitVec.ofNat 32 b) 16#32)) = b := by
  have e : (IntOp.ori (BitVec.ofNat 32 a) (IntOp.shli .vector (BitVec.ofNat 32 b) 16#32)).toNat = 65536 * b + a := by
    unfold IntOp.ori IntOp.shli
    rw [if_pos (by decide), show (BitVec.ofNat 32 b <<< (16#32 : BitVec 32)) = BitVec.ofNat 32 b <<< (16 : ℕ) from rfl, BitVec.toNat_or, BitVec.toNat_shiftLeft, BitVec.toNat_ofNat, BitVec.toNat_ofNat, Nat.mod_eq_of_lt (by omega), Nat.mod_eq_of_lt (by omega)]
    rw [Nat.shiftLeft_eq, Nat.mod_eq_of_lt (by omega), Nat.or_comm, Nat.mul_comm b,
      ← Nat.two_pow_add_eq_or_of_lt (by omega : a < 2 ^ 16)]
  unfold lo hi
  rw [e]
  omega

end Cert.Proof.Whole
-- ==== Proof.Whole.Steps.lean ====
/-
  Sorting by error and summing each error by its step of the Jaccard loss, when the errors are the buckets' midpoints,
  is summing each bucket's midpoint by what the bucket adds: the pixels of one bucket stand together in the order, and
  the steps over them telescope.
-/
module

public import proofs.«01_k».proof.Proof.Loss

@[expose] public section

noncomputable section

namespace Cert.Proof.Whole

open Idealize.ShloMosaic
open Cert.Proof.Loss

variable {N : ℕ} (s : Fin N → Fin 1024)

/-- How many of the items lie in bucket `b` or a higher one. -/
def above (b : ℕ) : ℕ := (Finset.univ.filter fun j : Fin N => b ≤ (s j).val).card

/-- In an order of falling buckets the items of bucket `b` or a higher one are the first. -/
theorem le_iff_lt_above (hs : ∀ i j, i ≤ j → (s j).val ≤ (s i).val) (b : ℕ) (j : Fin N) : b ≤ (s j).val ↔ j.val < above s b := by
  constructor
  · intro h
    have : Finset.Iic j ⊆ Finset.univ.filter fun j : Fin N => b ≤ (s j).val := fun i hi =>
      Finset.mem_filter.2 ⟨Finset.mem_univ _, h.trans (hs i j (Finset.mem_Iic.1 hi))⟩
    have := Finset.card_le_card this
    rw [Fin.card_Iic] at this
    exact this
  · intro h
    by_contra hb
    have : (Finset.univ.filter fun j : Fin N => b ≤ (s j).val) ⊆ Finset.Iio j := fun i hi => by
      rw [Finset.mem_Iio]
      by_contra hij
      exact hb ((Finset.mem_filter.1 hi).2.trans (hs j i (not_lt.1 hij)))
    have := Finset.card_le_card this
    rw [Fin.card_Iio] at this
    exact absurd h (not_lt.2 this)

theorem above_le (b : ℕ) : above s b ≤ N := (Finset.card_le_univ _).trans (by simp)

theorem above_anti (b : ℕ) : above s (b + 1) ≤ above s b :=
  Finset.card_le_card fun i hi => Finset.mem_filter.2 ⟨Finset.mem_univ _, (Nat.le_succ b).trans (Finset.mem_filter.1 hi).2⟩

/-- The steps over the items of one bucket telescope. -/
theorem sum_bucket (hs : ∀ i j, i ≤ j → (s j).val ≤ (s i).val) (J : ℕ → ℝ) (b : Fin 1024) :
    (∑ k : Fin N, if s k = b then J (k.val + 1) - J k.val else 0) = J (above s b.val) - J (above s (b.val + 1)) := by
  have e (k : Fin N) : (if s k = b then J (k.val + 1) - J k.val else 0)
      = (fun i : ℕ => if above s (b.val + 1) ≤ i ∧ i < above s b.val then J (i + 1) - J i else 0) k.val := by
    refine if_congr ?_ rfl rfl
    rw [← not_lt, ← le_iff_lt_above s hs, ← le_iff_lt_above s hs, Fin.ext_iff]
    omega
  rw [Finset.sum_congr rfl fun k _ => e k, Fin.sum_univ_eq_sum_range (fun i : ℕ => if above s (b.val + 1) ≤ i ∧ i < above s b.val then J (i + 1) - J i else 0) N,
    ← Finset.sum_filter]
  have : (Finset.range N).filter (fun i => above s (b.val + 1) ≤ i ∧ i < above s b.val) = Finset.Ico (above s (b.val + 1)) (above s b.val) := by
    ext i
    simp only [Finset.mem_filter, Finset.mem_range, Finset.mem_Ico]
    have := above_le s b.val
    omega
  rw [this]
  exact Finset.sum_Ico_sub J (above_anti s b.val)

/-- Each item's midpoint by its step, summed, is each bucket's midpoint by the bucket's step, summed. -/
theorem sum_steps (hs : ∀ i j, i ≤ j → (s j).val ≤ (s i).val) (J : ℕ → ℝ) :
    (∑ k : Fin N, mid (s k) * (J (k.val + 1) - J k.val)) = ∑ b : Fin 1024, mid b * (J (above s b.val) - J (above s (b.val + 1))) := by
  simp only [← sum_bucket s hs, Finset.mul_sum]
  rw [Finset.sum_comm]
  refine Finset.sum_congr rfl fun k _ => ?_
  simp

variable (g : Fin N → Fin 2) (n : Fin 2 → Fin 19 → Fin 1024 → ℕ) (c : Fin 19)

/-- Of the first `m` items, those of flag `f`. -/
def first (f : Fin 2) (m : ℕ) : ℝ := ∑ j : Fin N, if j.val < m then (if g j = f then 1 else 0) else 0

/-- The Jaccard loss when the first `m` items are the ones predicted wrong. -/
def jacAt (m : ℕ) : ℝ := 1 - (first g 1 N - first g 1 m) / (first g 1 N + first g 0 m)

/-- Of the items of bucket `b` and above, those of flag `f` are the buckets' counts. -/
theorem first_above (hs : ∀ i j, i ≤ j → (s j).val ≤ (s i).val) (hn : ∀ f b, n f c b = (Finset.univ.filter fun k : Fin N => g k = f ∧ s k = b).card)
    (f : Fin 2) (b : ℕ) : first g f (above s b) = (tail (n f c) b : ℝ) := by
  unfold first tail
  rw [Nat.cast_sum]
  simp only [hn, ← le_iff_lt_above s hs, Finset.card_filter]
  push_cast
  have e (x : Fin 1024) : (if b ≤ x.val then (∑ k : Fin N, if g k = f ∧ s k = x then (1 : ℝ) else 0) else 0)
      = ∑ k : Fin N, if x = s k then (if b ≤ (s k).val then (if g k = f then 1 else 0) else 0) else 0 := by
    by_cases h : b ≤ x.val
    · rw [if_pos h]
      refine Finset.sum_congr rfl fun k _ => ?_
      by_cases hx : x = s k
      · subst hx; simp [h]
      · simp [hx, Ne.symm hx]
    · rw [if_neg h]
      refine (Finset.sum_eq_zero fun k _ => ?_).symm
      by_cases hx : x = s k
      · subst hx; simp [h]
      · simp [hx]
  rw [Finset.sum_congr rfl fun x _ => e x, Finset.sum_comm]
  refine Finset.sum_congr rfl fun k _ => ?_
  simp

theorem above_zero : above s 0 = N := by simp [above]

theorem first_zero (f : Fin 2) : first g f 0 = 0 := by simp [first]

theorem first_nonneg (f : Fin 2) (m : ℕ) : 0 ≤ first g f m := Finset.sum_nonneg fun j _ => by split <;> [split; skip] <;> norm_num

/-- The sorted items' loss is the counts' loss, for a class with a foreground pixel. -/
theorem classLoss_sorted (hs : ∀ i j, i ≤ j → (s j).val ≤ (s i).val) (hn : ∀ f b, n f c b = (Finset.univ.filter fun k : Fin N => g k = f ∧ s k = b).card)
    (h : 0 < first g 1 N) :
    (∑ k : Fin N, mid (s k) * (jacAt g (k.val + 1) - if k.val = 0 then 0 else jacAt g k.val)) = classLoss n c := by
  have z : jacAt g 0 = 0 := by unfold jacAt; rw [first_zero, first_zero, sub_zero, add_zero, div_self h.ne', sub_self]
  have e (k : Fin N) : (if k.val = 0 then 0 else jacAt g k.val) = jacAt g k.val := by
    split
    · rename_i hk; rw [hk, z]
    · rfl
  have j (b : ℕ) : jac n c b = jacAt g (above s b) := by
    have hG := first_above s g n c hs hn 1 0
    rw [above_zero] at hG
    have hp : (0 : ℝ) < tail (n 1 c) 0 + tail (n 0 c) b := add_pos_of_pos_of_nonneg (hG ▸ h) (Nat.cast_nonneg _)
    unfold jac jacAt
    rw [if_pos hp, first_above s g n c hs hn, first_above s g n c hs hn, hG]
  simp only [e, sum_steps s hs]
  unfold classLoss
  simp only [j]

/-- A class is present if some item is of its foreground. -/
theorem present_sorted (hs : ∀ i j, i ≤ j → (s j).val ≤ (s i).val) (hn : ∀ f b, n f c b = (Finset.univ.filter fun k : Fin N => g k = f ∧ s k = b).card) :
    present n c = if 0 < first g 1 N then 1 else 0 := by
  have hG := first_above s g n c hs hn 1 0
  rw [above_zero] at hG
  unfold present
  rw [hG]

end Cert.Proof.Whole
-- ==== Proof.Whole.Order.lean ====
/-
  Two operations of the reference over the extended reals, at any sizes: a cumulative sum down the rows of a matrix of
  reals, and a sort of its columns that carries a second matrix along.
-/
module

public import proofs.«01_k».proof.Proof.Loss
public import proofs.«01_k».proof.Proof.Gen.ReferenceIdeal.Run
public import Idealize.ShloMosaic.Lib.SortFacts
public import Idealize.ShloMosaic.Lib.Routing.OpsOne

@[expose] public section

noncomputable section

namespace Cert.Proof.Whole

open Idealize.ShloMosaic
open Idealize.ShloMosaic.Routing (numel_col symm_col)

/-- Adding a list's real values one after another to a real. -/
theorem foldl_add_coe {ι : Type} (l : List ι) (op : ι → EReal) (f : ι → ℝ) (h : ∀ n, op n = (f n : EReal)) (r : ℝ) :
    l.foldl (fun r n => r + op n) (r : EReal) = ((r + (l.map f).sum : ℝ) : EReal) := by
  induction l generalizing r with
  | nil => simp
  | cons a l ih => rw [List.foldl_cons, h, ← EReal.coe_add, ih, List.map_cons, List.sum_cons, add_assoc]

/-- A window of the rows from `j - m` to `j`, those before the first row left out, is the rows up to `j`. -/
theorem sum_window_real (f : ℕ → ℝ) (m j : ℕ) (hj : j ≤ m) :
    (∑ n ∈ Finset.range (m + 1), if m ≤ j + n then f (j + n - m) else 0) = ∑ i ∈ Finset.range (j + 1), f i := by
  rw [← Finset.sum_filter]
  refine Finset.sum_nbij' (fun n => j + n - m) (fun i => i + m - j) ?_ ?_ ?_ ?_ ?_ <;>
    simp only [Finset.mem_filter, Finset.mem_range, and_imp] <;> intros <;> first | omega | trivial | rfl

/-- A cumulative sum down the rows of a matrix of reals, at an entry. -/
theorem cumsum_real {R m C : ℕ} (hR : m + 1 = R) (x : (⟨2, ![R, C]⟩ : Shape).Idx → EReal) (f : ℕ → Fin C → ℝ)
    (hx : ∀ (i : Fin R) (c : Fin C), x (ix2 i c) = ((f i.val c : ℝ) : EReal)) (init : (⟨0, ![]⟩ : Shape).Idx → EReal) (hinit : ∀ i, init i = 0)
    (h : (⟨2, ![R, C]⟩ : Shape).ReduceWindows (![R, 1] : Fin 2 → ℕ) ![1, 1] ![m, 0] ![0, 0] ⟨2, ![R, C]⟩) (hu : 0 < (⟨0, ![]⟩ : Shape).numel)
    (j : Fin R) (c : Fin C) :
    Host.reduceWindow (fun a b : EReal => a + b) ![R, 1] ![1, 1] ![m, 0] ![0, 0] x init h hu (ix2 j c)
      = ((∑ i ∈ Finset.range (j.val + 1), f i c : ℝ) : EReal) := by
  subst hR
  have hj := j.isLt
  have hc := c.isLt
  unfold Host.reduceWindow
  dsimp only
  rw [hinit, ← EReal.coe_zero]
  refine (foldl_add_coe _ _ (fun n => if m ≤ j.val + n.val then f (j.val + n.val - m) c else 0) (fun n => ?_) 0).trans ?_
  · have hw0 : (((⟨2, ![m + 1, 1]⟩ : Shape)).rowMajor.symm n 0).val = n.val := by
      have := symm_col (R := m + 1) n
      exact (congrArg (fun i : (⟨2, ![m + 1, 1]⟩ : Shape).Idx => (i 0).val) this).trans rfl
    have hw1 : (((⟨2, ![m + 1, 1]⟩ : Shape)).rowMajor.symm n 1).val = 0 := by
      have := symm_col (R := m + 1) n
      exact (congrArg (fun i : (⟨2, ![m + 1, 1]⟩ : Shape).Idx => (i 1).val) this).trans rfl
    have hn : n.val < m + 1 := (n.cast (numel_col _)).isLt
    split
    · next hin =>
      have h0 := hin 0
      change m ≤ j.val * 1 + ((⟨2, ![m + 1, 1]⟩ : Shape).rowMajor.symm n 0).val
        ∧ j.val * 1 + ((⟨2, ![m + 1, 1]⟩ : Shape).rowMajor.symm n 0).val - m < m + 1 at h0
      rw [hw0] at h0
      rw [if_pos (by omega)]
      refine (congrArg x (funext fun a => Fin.ext ?_)).trans (hx ⟨j.val + n.val - m, by omega⟩ c)
      match a with
      | ⟨0, _⟩ =>
        show j.val * 1 + ((⟨2, ![m + 1, 1]⟩ : Shape).rowMajor.symm n 0).val - m = j.val + n.val - m
        rw [hw0, Nat.mul_one]
      | ⟨1, _⟩ =>
        show c.val * 1 + ((⟨2, ![m + 1, 1]⟩ : Shape).rowMajor.symm n 1).val - 0 = c.val
        rw [hw1]
        omega
    · next hin =>
      rw [if_neg fun hle => hin fun a => by
        match a with
        | ⟨0, _⟩ =>
          show m ≤ j.val * 1 + ((⟨2, ![m + 1, 1]⟩ : Shape).rowMajor.symm n 0).val
            ∧ j.val * 1 + ((⟨2, ![m + 1, 1]⟩ : Shape).rowMajor.symm n 0).val - m < m + 1
          rw [hw0]
          omega
        | ⟨1, _⟩ =>
          show 0 ≤ c.val * 1 + ((⟨2, ![m + 1, 1]⟩ : Shape).rowMajor.symm n 1).val
            ∧ c.val * 1 + ((⟨2, ![m + 1, 1]⟩ : Shape).rowMajor.symm n 1).val - 0 < C
          rw [hw1]
          omega]
  · rw [zero_add, ← sum_window_real (fun i => f i c) m j.val (by omega), ← List.ofFn_eq_map, List.sum_ofFn,
      Fin.sum_univ_eq_sum_range (fun n : ℕ => if m ≤ j.val + n then f (j.val + n - m) c else 0)]
    exact congrArg (fun M => ((∑ n ∈ Finset.range M, if m ≤ j.val + n then f (j.val + n - m) c else 0 : ℝ) : EReal)) (numel_col (m + 1))

/-- The host's cumulative sum down the rows of a matrix of reals, at an entry. -/
theorem host_cumsum {R m C : ℕ} (hR : m + 1 = R) (x : (⟨2, ![R, C]⟩ : Shape).Idx → Ideal .f32) (f : ℕ → Fin C → ℝ)
    (hx : ∀ (i : Fin R) (c : Fin C), x (ix2 i c) = ((f i.val c : ℝ) : EReal)) (init : (⟨0, ![]⟩ : Shape).Idx → Ideal .f32) (hinit : ∀ i, init i = (0 : EReal))
    (h : (⟨2, ![R, C]⟩ : Shape).ReduceWindows (![R, 1] : Fin 2 → ℕ) ![1, 1] ![m, 0] ![0, 0] ⟨2, ![R, C]⟩) (hu : 0 < (⟨0, ![]⟩ : Shape).numel)
    (j : Fin R) (c : Fin C) :
    Host.reduceWindowAdd ![R, 1] ![1, 1] ![m, 0] ![0, 0] x init h hu (ix2 j c) = ((∑ i ∈ Finset.range (j.val + 1), f i c : ℝ) : EReal) :=
  cumsum_real hR x f hx (fun _ => init (Shape.Idx.first hu)) (fun _ => hinit _) h (by decide) j c

/-- The sort's comparison of two pairs whose first values are reals. -/
theorem compare_real (a b : ℝ) (y z : EReal) :
    (Cert.ReferenceIdeal.comparator_f32_f32_d0 (F := Ideal) ((a : EReal), y) ((b : EReal), z) == 1#1) = decide (a < b) := by
  have e (a : EReal) : Scalar.select (FloatOps.cmpf (F := Ideal) (φ := .f32) .une a a) (FloatOps.ofBits .f32 0x7FC00000#32 : Ideal .f32)
      (Scalar.select (FloatOps.cmpf (F := Ideal) (φ := .f32) .oeq a (FloatOps.ofBits .f32 0x00000000#32)) (FloatOps.ofBits .f32 0x00000000#32 : Ideal .f32) a) = a := by
    have z : (FloatOps.ofBits .f32 0x00000000#32 : Ideal .f32) = (0 : EReal) := by show Ideal.ofBits .f32 _ = _; simp [Ideal.ofBits, Ideal.ieee]
    have u : FloatOps.cmpf (F := Ideal) (φ := .f32) .une a a = 0#1 := by show Ideal.cmp .une a a = _; simp [Ideal.cmp]
    rw [u, z]
    show Scalar.select (Ideal.cmp .oeq a 0) (0 : EReal) a = a
    by_cases h : a = 0
    · subst h; unfold Scalar.select; split <;> rfl
    · have : Ideal.cmp .oeq a 0 = 0#1 := by simp [Ideal.cmp, h]
      rw [this]; rfl
  unfold Cert.ReferenceIdeal.comparator_f32_f32_d0
  dsimp only
  rw [e, e]
  show (Ideal.cmp .olt (a : EReal) (b : EReal) == 1#1) = _
  unfold Ideal.cmp
  by_cases h : a < b
  · simp [h]
  · simp [h]

/-- A sort of a matrix's columns, whose values are reals, with a second matrix carried along: column by column a
    reordering of the rows under which the values rise. -/
theorem sort_columns {N M : ℕ} (x y : (⟨2, ![N, M]⟩ : Shape).Idx → Ideal .f32) (w : Fin N → Fin M → ℝ)
    (hx : ∀ i c, x (ix2 i c) = ((w i c : ℝ) : EReal)) : ∃ σ : Fin M → Fin N ≃ Fin N,
      (∀ k c, (Host.sort2 ⟨2, ![N, M]⟩ 0 Cert.ReferenceIdeal.comparator_f32_f32_d0 x y).1 (ix2 k c) = x (ix2 (σ c k) c))
      ∧ (∀ k c, (Host.sort2 ⟨2, ![N, M]⟩ 0 Cert.ReferenceIdeal.comparator_f32_f32_d0 x y).2 (ix2 k c) = y (ix2 (σ c k) c))
      ∧ ∀ c i j, i ≤ j → w (σ c i) c ≤ w (σ c j) c := by
  let B (c : Fin M) : Fin N → Fin N → Bool := fun k k' => decide (w k c < w k' c)
  have inj (c : Fin M) : Function.Bijective (sortedFrom (B c)) := ⟨sortedFrom_injective _, sortedFrom_surjective _⟩
  have al (k : Fin N) (c : Fin M) (k' : Fin N) : Shape.Idx.along (s := ⟨2, ![N, M]⟩) (ix2 k c) 0 k' = ix2 k' c := by
    funext a
    match a with
    | ⟨0, _⟩ => exact Function.update_self ..
    | ⟨1, _⟩ => exact Function.update_of_ne (fun h => absurd (congrArg Fin.val h) Nat.one_ne_zero) ..
  have hb (k : Fin N) (c : Fin M) : (fun k₁ k₂ : Fin N => Cert.ReferenceIdeal.comparator_f32_f32_d0 (F := Ideal)
      (x (Shape.Idx.along (s := ⟨2, ![N, M]⟩) (ix2 k c) 0 k₁), y (Shape.Idx.along (s := ⟨2, ![N, M]⟩) (ix2 k c) 0 k₁))
      (x (Shape.Idx.along (s := ⟨2, ![N, M]⟩) (ix2 k c) 0 k₂), y (Shape.Idx.along (s := ⟨2, ![N, M]⟩) (ix2 k c) 0 k₂)) == 1#1) = B c := by
    funext k₁ k₂
    rw [al, al, hx, hx]
    exact compare_real _ _ _ _
  refine ⟨fun c => Equiv.ofBijective _ (inj c), fun k c => ?_, fun k c => ?_, fun c i j hij => ?_⟩
  · unfold Host.sort2
    rw [dif_pos (show 0 < (⟨2, ![N, M]⟩ : Shape).rank from Nat.succ_pos 1)]
    show x (Shape.Idx.along (s := ⟨2, ![N, M]⟩) (ix2 k c) 0 (sortedFrom (fun k₁ k₂ : Fin N => Cert.ReferenceIdeal.comparator_f32_f32_d0 (F := Ideal)
      (x (Shape.Idx.along (s := ⟨2, ![N, M]⟩) (ix2 k c) 0 k₁), y (Shape.Idx.along (s := ⟨2, ![N, M]⟩) (ix2 k c) 0 k₁))
      (x (Shape.Idx.along (s := ⟨2, ![N, M]⟩) (ix2 k c) 0 k₂), y (Shape.Idx.along (s := ⟨2, ![N, M]⟩) (ix2 k c) 0 k₂)) == 1#1) k)) = _
    rw [hb]; exact congrArg x (al k c _)
  · unfold Host.sort2
    rw [dif_pos (show 0 < (⟨2, ![N, M]⟩ : Shape).rank from Nat.succ_pos 1)]
    show y (Shape.Idx.along (s := ⟨2, ![N, M]⟩) (ix2 k c) 0 (sortedFrom (fun k₁ k₂ : Fin N => Cert.ReferenceIdeal.comparator_f32_f32_d0 (F := Ideal)
      (x (Shape.Idx.along (s := ⟨2, ![N, M]⟩) (ix2 k c) 0 k₁), y (Shape.Idx.along (s := ⟨2, ![N, M]⟩) (ix2 k c) 0 k₁))
      (x (Shape.Idx.along (s := ⟨2, ![N, M]⟩) (ix2 k c) 0 k₂), y (Shape.Idx.along (s := ⟨2, ![N, M]⟩) (ix2 k c) 0 k₂)) == 1#1) k)) = _
    rw [hb]; exact congrArg y (al k c _)
  · rcases hij.lt_or_eq with h | h
    · have := sortedFrom_noInversion (B c) (B c) (fun a b h => by simp only [B, decide_eq_true_eq, decide_eq_false_iff_not] at *; linarith) (fun _ _ h => h)
        (fun a b d h1 h2 => by simp only [B, decide_eq_false_iff_not, not_lt] at *; linarith) i j h
      simp only [B, decide_eq_false_iff_not, not_lt] at this
      exact this
    · rw [h]

end Cert.Proof.Whole
-- ==== Proof.Whole.Ref.lean ====
/-
  The reference's term as a function of its softmax, its flags and its sorted errors, and its value once those are known:
  the loss of the bucket counts.
-/
module

public import proofs.«01_k».proof.Proof.Whole.Steps
public import proofs.«01_k».proof.Proof.Whole.Order
public import Idealize.ShloMosaic.Lib.Pointwise

@[expose] public section

noncomputable section

namespace Cert.Proof.Whole

open Idealize.ShloMosaic
open Cert.ReferenceIdeal Cert.ReferenceIdeal.Gen Cert.Proof.Loss

/-- Each pixel's greatest prediction. -/
def top (P : S4x19x512x512.Idx → Ideal .f32) : S4x512x512.Idx → Ideal .f32 :=
  maximumf (broadcastInDim S4x512x512 ![] bcast_S_S4x512x512 (constant S_ .f32 0xFF800000#32)) (Host.reduce FloatOps.maximumf P (constant S_ .f32 0xFF800000#32) reducesTo_S4x19x512x512_S4x512x512_d1 h_S_)

/-- The exponentials of the predictions less the pixel's greatest. -/
def exps (P : S4x19x512x512.Idx → Ideal .f32) : S4x19x512x512.Idx → Ideal .f32 :=
  Host.exp (subf P (broadcastInDim S4x19x512x512 ![0, 1, 2, 3] bcast_S4x1x512x512_S4x19x512x512_0_1_2_3 (broadcastInDim S4x1x512x512 ![0, 2, 3] bcast_S4x512x512_S4x1x512x512_0_2_3 (top P))))

/-- The softmax of the predictions, a row a pixel. -/
def probs (P : S4x19x512x512.Idx → Ideal .f32) : S1048576x19.Idx → Ideal .f32 :=
  shapeCast _ (transpose S4x512x512x19 [0, 2, 3, 1] (Host.divf (exps P) (broadcastInDim S4x19x512x512 ![0, 1, 2, 3] bcast_S4x1x512x512_S4x19x512x512_0_1_2_3 (broadcastInDim S4x1x512x512 ![0, 2, 3] bcast_S4x512x512_S4x1x512x512_0_2_3 (Host.reduceAdd (exps P) (constant S_ .f32 0x00000000#32) reducesTo_S4x19x512x512_S4x512x512_d1 h_S_)))) transposes_S4x19x512x512_S4x512x512x19_0_2_3_1) shapeCasts_S4x512x512x19_S1048576x19

/-- Which class each pixel is labelled, a row a pixel. -/
def flags (L : S4x512x512.Idx → BitVec 32) : S1048576x19.Idx → Ideal .f32 :=
  uitofp .f32 (cmpi .eq (broadcastInDim S1048576x19 ![0, 1] bcast_S1048576x1_S1048576x19_0_1 (broadcastInDim S1048576x1 ![0] bcast_S1048576_S1048576x1_0 (shapeCast _ L shapeCasts_S4x512x512_S1048576))) (broadcastInDim S1048576x19 ![0, 1] bcast_S1x19_S1048576x19_0_1 (broadcastInDim S1x19 ![1] bcast_S19_S1x19_1 (iotaInDim S19 32 0))))

/-- The negated errors, each rounded to its bucket's midpoint. -/
def negs (P : S4x19x512x512.Idx → Ideal .f32) (L : S4x512x512.Idx → BitVec 32) : S1048576x19.Idx → Ideal .f32 :=
  Host.negf (Host.divf (addf (sitofp .f32 (minsi (fptosi 32 (mulf (Host.absf (subf (flags L) (probs P))) (broadcastInDim S1048576x19 ![] bcast_S_S1048576x19 (constant S_ .f32 0x44800000#32)))) (broadcastInDim S1048576x19 ![] bcast_S_S1048576x19 (constantI S_ 32 1023#32)))) (broadcastInDim S1048576x19 ![] bcast_S_S1048576x19 (constant S_ .f32 0x3F000000#32))) (broadcastInDim S1048576x19 ![] bcast_S_S1048576x19 (constant S_ .f32 0x44800000#32)))

/-- The Jaccard losses of the first rows of a sorted array of flags. -/
def jaccard (g : S1048576x19.Idx → Ideal .f32) : S1048576x19.Idx → Ideal .f32 :=
  subf (broadcastInDim S1048576x19 ![] bcast_S_S1048576x19 (constant S_ .f32 0x3F800000#32)) (Host.divf (subf (broadcastInDim S1048576x19 ![0, 1] bcast_S1x19_S1048576x19_0_1 (broadcastInDim S1x19 ![1] bcast_S19_S1x19_1 (Host.reduceAdd g (constant S_ .f32 0x00000000#32) reducesTo_S1048576x19_S19_d0 h_S_))) (Host.reduceWindowAdd ![1048576, 1] ![1, 1] ![1048575, 0] ![0, 0] g (broadcastInDim S_ ![] bcast_S_S_ (constant S_ .f32 0x00000000#32)) reduceWindows_S1048576x19_S1048576x19_w1048576s1p1048575_0_w1s1p0_0 h_S_)) (addf (broadcastInDim S1048576x19 ![0, 1] bcast_S1x19_S1048576x19_0_1 (broadcastInDim S1x19 ![1] bcast_S19_S1x19_1 (Host.reduceAdd g (constant S_ .f32 0x00000000#32) reducesTo_S1048576x19_S19_d0 h_S_))) (Host.reduceWindowAdd ![1048576, 1] ![1, 1] ![1048575, 0] ![0, 0] (subf (broadcastInDim S1048576x19 ![] bcast_S_S1048576x19 (constant S_ .f32 0x3F800000#32)) g) (broadcastInDim S_ ![] bcast_S_S_ (constant S_ .f32 0x00000000#32)) reduceWindows_S1048576x19_S1048576x19_w1048576s1p1048575_0_w1s1p0_0 h_S_)))

/-- The mean loss over the present classes, from the sorted negated errors `a`, the flags in that order `g` and the flags. -/
def meanLoss (a g f : S1048576x19.Idx → Ideal .f32) : S_.Idx → Ideal .f32 :=
  Host.divf (Host.reduceAdd (mulf (Host.reduceAdd (mulf (Host.negf a) (concatenate S1048576x19 0 [⟨S1x19, (extractStridedSlice S1x19 ![0, 0] (jaccard g) slices_S1048576x19_S1x19_0_0)⟩, ⟨S1048575x19, (subf (extractStridedSlice S1048575x19 ![1, 0] (jaccard g) slices_S1048576x19_S1048575x19_1_0) (extractStridedSlice S1048575x19 ![0, 0] (jaccard g) slices_S1048576x19_S1048575x19_0_0))⟩] concatenates_S1x19_S1048575x19_S1048576x19_d0)) (constant S_ .f32 0x00000000#32) reducesTo_S1048576x19_S19_d0 h_S_) (uitofp .f32 (cmpf .ogt (Host.reduceAdd f (constant S_ .f32 0x00000000#32) reducesTo_S1048576x19_S19_d0 h_S_ : (⟨S19, .f32⟩ : BufTy).Contents (Elt Ideal)) (broadcastInDim S19 ![] bcast_S_S19 (constant S_ .f32 0x00000000#32))))) (constant S_ .f32 0x00000000#32) reducesTo_S19_S_d0 h_S_) (maximumf (Host.reduceAdd (uitofp .f32 (cmpf .ogt (Host.reduceAdd f (constant S_ .f32 0x00000000#32) reducesTo_S1048576x19_S19_d0 h_S_ : (⟨S19, .f32⟩ : BufTy).Contents (Elt Ideal)) (broadcastInDim S19 ![] bcast_S_S19 (constant S_ .f32 0x00000000#32)))) (constant S_ .f32 0x00000000#32) reducesTo_S19_S_d0 h_S_) (constant S_ .f32 0x3F800000#32))

set_option maxRecDepth 8192 in
/-- The reference's result is the mean loss of its sorted errors. -/
theorem res_eq (m : (ℓ : Loc nD τ sig) → Buf (Elt Ideal) ℓ) (c : Dev nD) :
    Value.res_main_v65 m c
      = meanLoss (Host.sort2 S1048576x19 0 comparator_f32_f32_d0 (negs (m ((c.tc : Thread nD τ).loc main_arg0)) (m ((c.tc : Thread nD τ).loc main_arg1))) (flags (m ((c.tc : Thread nD τ).loc main_arg1)))).1
          (Host.sort2 S1048576x19 0 comparator_f32_f32_d0 (negs (m ((c.tc : Thread nD τ).loc main_arg0)) (m ((c.tc : Thread nD τ).loc main_arg1))) (flags (m ((c.tc : Thread nD τ).loc main_arg1)))).2 (flags (m ((c.tc : Thread nD τ).loc main_arg1))) := rfl

variable (σ : Fin 19 → Fin 1048576 ≃ Fin 1048576) (fl : Fin 1048576 → Fin 19 → Fin 2) (bk : Fin 1048576 → Fin 19 → Fin 1024)

/-- The pixels of class `c` with flag `f` and bucket `b`. -/
def pixels (f : Fin 2) (c : Fin 19) (b : Fin 1024) : ℕ := (Finset.univ.filter fun k : Fin 1048576 => fl k c = f ∧ bk k c = b).card

/-- A flag as a number. -/
def num (f : Fin 2) : ℝ := if f = 1 then 1 else 0

/-- A cumulative sum over a row of items is the count of the first ones. -/
theorem first_range {N : ℕ} (g : Fin N → Fin 2) (f : Fin 2) (m : ℕ) (hm : m ≤ N) :
    first g f m = ∑ i ∈ Finset.range m, if h : i < N then (if g ⟨i, h⟩ = f then 1 else 0) else (0 : ℝ) := by
  have e (j : Fin N) : (if j.val < m then (if g j = f then (1 : ℝ) else 0) else 0)
      = (fun i : ℕ => if i < m then (if h : i < N then (if g ⟨i, h⟩ = f then (1 : ℝ) else 0) else 0) else 0) j.val := by simp
  unfold first
  rw [Finset.sum_congr rfl fun j _ => e j, Fin.sum_univ_eq_sum_range (fun i : ℕ => if i < m then (if h : i < N then (if g ⟨i, h⟩ = f then (1 : ℝ) else 0) else 0) else 0) N,
    ← Finset.sum_filter]
  refine Finset.sum_congr (Finset.ext fun i => ?_) fun _ _ => rfl
  simp only [Finset.mem_filter, Finset.mem_range]
  omega

/-- The first `m` items' flags summed. -/
theorem first_one {N : ℕ} (g : Fin N → Fin 2) : first g 1 N = ∑ k, num (g k) := by
  unfold first num
  exact Finset.sum_congr rfl fun k _ => if_pos k.isLt

/-- The union of a class and the items predicted wrong is never empty. -/
theorem union_pos {N : ℕ} (g : Fin N → Fin 2) (m : ℕ) (k : Fin N) (hm : k.val < m) : 0 < first g 1 N + first g 0 m := by
  have h0 := first_nonneg g 0 m
  have h1 := first_nonneg g 1 N
  have a0 : (if g k = 0 then (1 : ℝ) else 0) ≤ first g 0 m := by
    refine le_trans (le_of_eq (if_pos hm).symm) (Finset.single_le_sum (f := fun j : Fin N => if j.val < m then (if g j = 0 then (1 : ℝ) else 0) else 0) (fun j _ => ?_) (Finset.mem_univ k))
    split <;> [split; skip] <;> norm_num
  have a1 : (if g k = 1 then (1 : ℝ) else 0) ≤ first g 1 N := by
    refine le_trans (le_of_eq (if_pos k.isLt).symm) (Finset.single_le_sum (f := fun j : Fin N => if j.val < N then (if g j = 1 then (1 : ℝ) else 0) else 0) (fun j _ => ?_) (Finset.mem_univ k))
    split <;> [split; skip] <;> norm_num
  rcases (by omega : g k = 0 ∨ g k = 1) with h | h
  · rw [if_pos h] at a0; linarith
  · rw [if_pos h] at a1; linarith

/-- The steps of the Jaccard losses, the first row's set apart. -/
theorem sum_first {N m : ℕ} (hN : m + 1 = N) (w : Fin N → ℝ) (J : ℕ → ℝ) (h0 : 0 < N) (h1 : ∀ k : Fin m, 1 + k.val < N) :
    w ⟨0, h0⟩ * J 1 + (∑ k : Fin m, w ⟨1 + k.val, h1 k⟩ * (J (1 + k.val + 1) - J (k.val + 1)))
      = ∑ k : Fin N, w k * (J (k.val + 1) - if k.val = 0 then 0 else J k.val) := by
  subst hN
  rw [Fin.sum_univ_succ]
  refine congrArg₂ (· + ·) (by simp) (Finset.sum_congr rfl fun k _ => ?_)
  rw [if_neg (by simp), show (⟨1 + k.val, h1 k⟩ : Fin (m + 1)) = k.succ from Fin.ext (Nat.add_comm _ _), Fin.val_succ, Nat.add_comm 1 k.val]

section
variable (g : S1048576x19.Idx → Ideal .f32) (hg : ∀ k c, g (ix2 k c) = ((num (fl (σ c k) c) : ℝ) : EReal))

include hg in
/-- The reference's Jaccard losses, row by row. -/
theorem jaccard_apply (k : Fin 1048576) (c : Fin 19) : jaccard g (ix2 k c) = ((jacAt (fun j => fl (σ c j) c) (k.val + 1) : ℝ) : EReal) := by
  have one : (FloatOps.ofBits .f32 0x3F800000#32 : Ideal .f32) = ((1 : ℝ) : EReal) := by
    show Ideal.ofBits .f32 _ = _; simp [Ideal.ofBits, Ideal.ieee, -EReal.coe_mul]; norm_num
  have zero : (FloatOps.ofBits .f32 0x00000000#32 : Ideal .f32) = (0 : EReal) := by show Ideal.ofBits .f32 _ = _; simp [Ideal.ofBits, Ideal.ieee]
  have hk := k.isLt
  have w (f : Fin 2) (x : S1048576x19.Idx → Ideal .f32) (hx : ∀ k c, x (ix2 k c) = ((if fl (σ c k) c = f then 1 else 0 : ℝ) : EReal)) :
      Host.reduceWindowAdd ![1048576, 1] ![1, 1] ![1048575, 0] ![0, 0] x (broadcastInDim S_ ![] bcast_S_S_ (constant S_ .f32 0x00000000#32))
        reduceWindows_S1048576x19_S1048576x19_w1048576s1p1048575_0_w1s1p0_0 h_S_ (ix2 k c)
        = ((first (fun j => fl (σ c j) c) f (k.val + 1) : ℝ) : EReal) := by
    rw [first_range _ _ _ (Nat.succ_le_of_lt hk)]
    refine host_cumsum (m := 1048575) (by norm_num) x (fun i c => if h : i < 1048576 then (if fl (σ c ⟨i, h⟩) c = f then 1 else 0) else 0) (fun i c => ?_) _ (fun i => zero) _ _ k c
    rw [hx, dif_pos i.isLt]
  unfold jaccard
  pointwise
  rw [w 1 g hg, w 0 (subf (broadcastInDim S1048576x19 ![] bcast_S_S1048576x19 (constant S_ .f32 0x3F800000#32)) g) (fun k c => ?_), Finset.sum_congr rfl fun k _ => hg k c,
    sum_cast, ← first_one, ← EReal.coe_sub, ← EReal.coe_add, div_cast _ _ (union_pos _ _ k (Nat.lt_succ_self _)).ne', ← EReal.coe_one, ← EReal.coe_sub]
  · rfl
  · show (FloatOps.ofBits .f32 0x3F800000#32 : Ideal .f32) - g (ix2 k c) = _
    rw [hg, one]
    refine (EReal.coe_sub _ _).symm.trans (congrArg _ ?_)
    unfold num
    rcases (by omega : fl (σ c k) c = 0 ∨ fl (σ c k) c = 1) with h | h <;> rw [h] <;> norm_num

variable (a f : S1048576x19.Idx → Ideal .f32)
  (ha : ∀ k c, a (ix2 k c) = ((-mid (bk (σ c k) c) : ℝ) : EReal)) (hf : ∀ k c, f (ix2 k c) = ((num (fl k c) : ℝ) : EReal))
  (hs : ∀ c i j, i ≤ j → (bk (σ c j) c).val ≤ (bk (σ c i) c).val)

set_option maxRecDepth 8192 in
include hg ha hf hs in
/-- The reference's mean loss is the loss of the bucket counts. -/
theorem meanLoss_apply : meanLoss a g f = fun _ => ((loss (pixels fl bk) : ℝ) : EReal) := by
  funext j
  obtain rfl : j = (ix0 : S_.Idx) := funext fun a => a.elim0
  unfold meanLoss
  pointwise
  have hn (c : Fin 19) (f : Fin 2) (b : Fin 1024) : pixels fl bk f c b
      = (Finset.univ.filter fun k : Fin 1048576 => fl (σ c k) c = f ∧ bk (σ c k) c = b).card := by
    unfold pixels
    simp only [Finset.card_filter]
    exact (Equiv.sum_comp (σ c) fun k => if fl k c = f ∧ bk k c = b then 1 else 0).symm
  have hG (c : Fin 19) : (∑ k, f (ix2 k c)) = ((first (fun k => fl (σ c k) c) 1 1048576 : ℝ) : EReal) := by
    rw [Finset.sum_congr rfl fun k _ => hf k c, sum_cast, first_one]
    exact congrArg _ (Equiv.sum_comp (σ c) fun k => num (fl k c)).symm
  have hp (c : Fin 19) : (FloatOps.uitofp .f32 (BitVec.ofBool (decide ((0 : EReal) < ∑ k, f (ix2 k c)))) : Ideal .f32) = ((present (pixels fl bk) c : ℝ) : EReal) := by
    rw [hG, present_sorted (fun k => bk (σ c k) c) (fun k => fl (σ c k) c) _ c (hs c) (hn c)]
    by_cases h : 0 < first (fun k => fl (σ c k) c) 1 1048576
    · rw [if_pos h, decide_eq_true (by exact_mod_cast h)]; show (((1#1 : BitVec 1).toNat : ℝ) : EReal) = _; norm_num
    · rw [if_neg h, decide_eq_false (by exact_mod_cast h)]; show (((0#1 : BitVec 1).toNat : ℝ) : EReal) = _; norm_num
  have neg (x : ℝ) : -((-x : ℝ) : EReal) = ((x : ℝ) : EReal) := by rw [EReal.coe_neg, neg_neg]
  have hc (c : Fin 19) : (∑ _x : Fin 1, -a (ix2 0 c) * jaccard g (ix2 0 c)
        + ∑ k : Fin 1048575, -a (ix2 ⟨1 + k.val, by omega⟩ c) * (jaccard g (ix2 ⟨1 + k.val, by omega⟩ c) - jaccard g (ix2 ⟨k.val, by omega⟩ c)) : EReal)
      = ((∑ k : Fin 1048576, mid (bk (σ c k) c) * (jacAt (fun j => fl (σ c j) c) (k.val + 1) - if k.val = 0 then 0 else jacAt (fun j => fl (σ c j) c) k.val) : ℝ) : EReal) := by
    rw [← sum_first (m := 1048575) (by norm_num) (fun k => mid (bk (σ c k) c)) (jacAt fun j => fl (σ c j) c) (by norm_num) (fun k => by omega), EReal.coe_add, ← sum_cast]
    refine congrArg₂ (· + ·) ?_ (Finset.sum_congr rfl fun k _ => ?_)
    · rw [Finset.sum_const, Finset.card_univ, Fintype.card_fin, one_nsmul, ha, neg, jaccard_apply σ fl g hg, ← EReal.coe_mul]
      rfl
    · rw [ha, neg, jaccard_apply σ fl g hg, jaccard_apply σ fl g hg, ← EReal.coe_sub, ← EReal.coe_mul]
  have hl (c : Fin 19) : (∑ k : Fin 1048576, mid (bk (σ c k) c) * (jacAt (fun j => fl (σ c j) c) (k.val + 1) - if k.val = 0 then 0 else jacAt (fun j => fl (σ c j) c) k.val))
      * present (pixels fl bk) c = classLoss (pixels fl bk) c * present (pixels fl bk) c := by
    rw [present_sorted (fun k => bk (σ c k) c) (fun k => fl (σ c k) c) _ c (hs c) (hn c)]
    by_cases h : 0 < first (fun k => fl (σ c k) c) 1 1048576
    · rw [classLoss_sorted (fun k => bk (σ c k) c) (fun k => fl (σ c k) c) _ c (hs c) (hn c) h]
    · rw [if_neg h, mul_zero, mul_zero]
  refine Eq.trans (congrArg₂ Ideal.div (Finset.sum_congr rfl fun c _ => congrArg₂ (· * ·) (hc c) (hp c)) (congrArg₂ max (Finset.sum_congr rfl fun c _ => hp c) rfl)) ?_
  simp only [sum_cast, ← EReal.coe_mul, hl]
  exact loss_cast (pixels fl bk)

end

end Cert.Proof.Whole
-- ==== Proof.Whole.Value.lean ====
/-
  The reference's result over the extended reals, where the predictions are reals: the loss of the counts of the pixels by
  flag, class and bucket.
-/
module

public import proofs.«01_k».proof.Proof.Whole.Pixel
public import proofs.«01_k».proof.Proof.Whole.Ref

@[expose] public section

noncomputable section

namespace Cert.Proof.Whole

open Idealize.ShloMosaic
open Cert.ReferenceIdeal Cert.ReferenceIdeal.Gen Cert.Proof.Loss

variable (P : S4x19x512x512.Idx → Ideal .f32) (L : S4x512x512.Idx → BitVec 32)

/-- The predictions of pixel `k`, as reals. -/
def pix (k : Fin 1048576) (c : Fin 19) : ℝ :=
  (P (ix4 (n0 := 4) (n1 := 19) (n2 := 512) (n3 := 512) ⟨k.val / 262144, by omega⟩ c ⟨k.val / 512 % 512, by omega⟩ ⟨k.val % 512, by omega⟩) : EReal).toReal

/-- The label of pixel `k`. -/
def lab (k : Fin 1048576) : BitVec 32 :=
  L (ix3 (n0 := 4) (n1 := 512) (n2 := 512) ⟨k.val / 262144, by omega⟩ ⟨k.val / 512 % 512, by omega⟩ ⟨k.val % 512, by omega⟩)

/-- The pixels by flag, class and bucket. -/
def tally : Fin 2 → Fin 19 → Fin 1024 → ℕ := pixels (fun k c => flag (lab L k) c) (fun k c => bucket (pix P k) (lab L k) c)

/-- A flag of the reference's array. -/
theorem flags_apply (k : Fin 1048576) (c : Fin 19) : flags L (ix2 k c) = ((num (flag (lab L k) c) : ℝ) : EReal) := by
  unfold flags
  pointwise
  exact flag_word _ _

variable (hP : ∀ i, ∃ r : ℝ, P i = (r : EReal))

include hP

/-- A pixel's predictions are their reals. -/
theorem pix_at (k : Fin 1048576) (c : Fin 19) :
    P (ix4 (n0 := 4) (n1 := 19) (n2 := 512) (n3 := 512) ⟨k.val / 262144, by omega⟩ c ⟨k.val / 512 % 512, by omega⟩ ⟨k.val % 512, by omega⟩) = ((pix P k c : ℝ) : EReal) := by
  unfold pix
  obtain ⟨r, hr⟩ := hP (ix4 (n0 := 4) (n1 := 19) (n2 := 512) (n3 := 512) ⟨k.val / 262144, by omega⟩ c ⟨k.val / 512 % 512, by omega⟩ ⟨k.val % 512, by omega⟩)
  rw [hr, EReal.toReal_coe]

/-- A pixel's greatest prediction is a real where the predictions are. -/
theorem top_real (i : Fin 4) (r w : Fin 512) :
    ∃ t : ℝ, top P (ix3 i r w) = (t : EReal) :=
  max_one P hP (broadcastInDim S4x512x512 ![] bcast_S_S4x512x512 (constant S_ .f32 0xFF800000#32)) (fun _ => bot_f32) (constant S_ .f32 0xFF800000#32)
    (fun _ => bot_f32) reducesTo_S4x19x512x512_S4x512x512_d1 h_S_ i 0 r w

/-- The softmax of the predictions, pixel by pixel. -/
theorem probs_apply (k : Fin 1048576) (c : Fin 19) : probs P (ix2 k c) = ((prob (pix P k) c : ℝ) : EReal) := by
  obtain ⟨t, ht⟩ := top_real P hP ⟨k.val / 262144, by omega⟩ ⟨k.val / 512 % 512, by omega⟩ ⟨k.val % 512, by omega⟩
  have e (c : Fin 19) : exps P (ix4 (n0 := 4) (n1 := 19) (n2 := 512) (n3 := 512) ⟨k.val / 262144, by omega⟩ c ⟨k.val / 512 % 512, by omega⟩ ⟨k.val % 512, by omega⟩)
      = Ideal.exp (((pix P k c : ℝ) : EReal) - ((t : ℝ) : EReal)) := by
    rw [← ht, ← pix_at P hP]
    unfold exps
    pointwise
  unfold probs
  pointwise
  exact (congrArg₂ Ideal.div (e c) (Finset.sum_congr rfl fun c _ => e c)).trans (prob_div (pix P k) c t)

/-- The negated errors, each at its bucket's midpoint. -/
theorem negs_apply (k : Fin 1048576) (c : Fin 19) : negs P L (ix2 k c) = ((-mid (bucket (pix P k) (lab L k) c) : ℝ) : EReal) := by
  unfold negs
  pointwise
  rw [flags_apply, probs_apply P hP]
  have a := err_abs (pix P k) (lab L k) c
  have b := bucket_word (pix P k) (lab L k) c
  rw [← a] at b
  rw [← neg_mid, ← b]
  rfl

/-- The reference's result is the loss of the pixels' counts. -/
theorem ref_loss : meanLoss (Host.sort2 S1048576x19 0 comparator_f32_f32_d0 (negs P L) (flags L)).1
      (Host.sort2 S1048576x19 0 comparator_f32_f32_d0 (negs P L) (flags L)).2 (flags L) = fun _ => ((loss (tally P L) : ℝ) : EReal) := by
  obtain ⟨σ, h1, h2, h3⟩ := sort_columns (negs P L) (flags L) (fun k c => -mid (bucket (pix P k) (lab L k) c)) (negs_apply P L hP)
  refine meanLoss_apply σ (fun k c => flag (lab L k) c) (fun k c => bucket (pix P k) (lab L k) c) _ (fun k c => (h2 k c).trans (flags_apply L _ _)) _ _
    (fun k c => (h1 k c).trans (negs_apply P L hP _ _)) (flags_apply L) fun c i j hij => ?_
  have := h3 c i j hij
  unfold mid at this
  have h : ((bucket (pix P (σ c j)) (lab L (σ c j)) c).val : ℝ) ≤ ((bucket (pix P (σ c i)) (lab L (σ c i)) c).val : ℝ) := by linarith
  exact_mod_cast h

end Cert.Proof.Whole
-- ==== Proof.Whole.Batch.lean ====
/-
  The histogram task's inner work on one vector subcore: the counters' buffer and the two halves of the staging buffer
  as the task addresses them, one scatter, and one trip of each of its two counting loops — eight loads of sixteen
  packed words, sixteen checks, sixteen scatters — as the exact count of the 128 words it has read.
-/
module

public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Pipeline.ValueKit.Geometry
public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Cert.Proof.Hist (H cnt hits lanes lane lo hi)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The ghost state: the launch handshakes' rounds, the pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev 𝒱₀ : Variants := Variants.none

abbrev iV : Memref sig .scVector .hbm S9961472 .i32 := Memref.whole main_v1_scv
abbrev oV : Memref sig .scVector .hbm S32x38912 .i32 := Memref.whole main_v2_scv
abbrev sV : Memref sig .scVector .vmem S16384 .i32 := Memref.whole cc1_scratch0
abbrev hV : Memref sig .scVector .vmem S38912 .i32 := Memref.whole cc1_scratch1

/-- The two halves of the staging buffer. -/
abbrev s0 : Memref sig .scVector .vmem S8192 .i32 := sV.slice (Rect.unit (s := S16384) ![0] S8192.size inb_S16384_S8192_0) (fun _ => rfl)
abbrev s1 : Memref sig .scVector .vmem S8192 .i32 := sV.slice (Rect.unit (s := S16384) ![8192] S8192.size inb_S16384_S8192_8192) (fun _ => rfl)

abbrev cV (L : grid1.Coords) : Fin τ.nSC := (L 0).castLE hcore1
abbrev jV (L : grid1.Coords) : Fin τ.nSub := (L 1).castLE hsub1

variable [FloatOps F] (d : Dev nD) (L : grid1.Coords)

/-- The task's thread. -/
abbrev thr (d : Dev nD) (L : grid1.Coords) : Thread nD τ := V d (cV L) (jV L)

/-- The counters' buffer, held whole. -/
abbrev hPts (f : Buf (Elt F) ((thr d L).loc cc1_scratch1)) : sProp 𝕄 :=
  (hV.access (.whole S38912)).loc (thr d L) ↦[(hV.access (.whole S38912)).set]{fullShare} f

/-- A half of the staging buffer. -/
abbrev sPts (s : Memref sig .scVector .vmem S8192 .i32) (f : Buf (Elt F) (s.view.loc (thr d L))) : sProp 𝕄 :=
  s.view.loc (thr d L) ↦[s.view.set]{fullShare} f

/-- One scatter-add of ones: every counter up by the number of lanes that name it. -/
theorem wp_scat {n : ℕ → ℕ} {v : IVec S16 32} {h : ∀ a x, ((![v] : Fin 1 → IVec S16 32) a x).toNat < S38912.size a}
    {hs : (hV.access (.whole S38912)).Stores Finset.univ} {α : Type} {k : PUnit → Prog (TpuEff nD τ sig (Elt F) Λ₀ (thr d L).2) α} {Q : α → sProp 𝕄} :
    hPts d L (H n) ⊢ iprop((hPts d L (H fun k => n k + lanes v k) -∗ wp frame (wpE (defs₀ (F := F)) 𝒱₀ (thr d L) none) Set.univ (k ⟨⟩) Q)
        -∗ wp frame (wpE (defs₀ (F := F)) 𝒱₀ (thr d L) none) Set.univ (SparseCore.vectorStoreIdx hV ![v] k1_pay2 (fun _ => 1#1) true h hs >>= k) Q) := by
  have e := SparseCore.wp_vectorStoreIdx (defs := defs₀ (F := F)) (U := UU) (Lvl := ℕ) (Ix := HIx 1) (Name := ℕ) 𝒱₀ (thr d L) none Set.univ (Q := Q) (base := hV) (idxs := ![v]) (v := k1_pay2)
    (mask := fun _ => 1#1) (add := true) (h := h) (hs := hs) (k := k) (f := H n)
  have e2 : (hV.access (.whole S38912)).write (Elt F) (H n)
      (storeIdx ((hV.access (.whole S38912)).read (Elt F) (H n)) ![v] k1_pay2 (fun _ => 1#1) true h) Finset.univ
      = H fun k => n k + lanes v k := by
    have e3 : ∀ g : S38912.Idx → BitVec 32, (hV.access (.whole S38912)).read (Elt F) g = g := fun g => by
      funext x; show g ((Rect.whole S38912).emb x) = g x; rw [Rect.emb_whole_apply]
    have e4 : ∀ g w : S38912.Idx → BitVec 32, (hV.access (.whole S38912)).write (Elt F) g w Finset.univ = w := fun g w => by
      have := View.read_write_univ (v := hV.access (.whole S38912)) (Val := Elt F) g w
      rw [e3] at this; exact this
    rw [e3, e4]
    exact Hist.storeIdx_H (F := F) v h n
  rw [e2] at e
  exact e

/-- The counters are the numbers they hold. -/
theorem hPts_congr {n n' : ℕ → ℕ} (h : ∀ k, n k = n' k) : hPts d L (H n) ⊢ (hPts d L (H n') : sProp 𝕄) :=
  Entails.of_eq (by rw [show n = n' from funext h])

/-! ## One trip of a counting loop -/

/-- Sixteen words loaded from a half whose words are `x` from `b` on are `x` from `b + o` on. -/
theorem ld_apply (s : Memref sig .scVector .vmem S8192 .i32) {f : Buf (Elt F) (s.view.loc (thr d L))} {x : ℕ → BitVec 32} {b : ℕ}
    (hf : ∀ j : S8192.Idx, s.view.read (Elt F) f j = x (b + (j 0).val)) {off : Fin 1 → ℕ} {o : ℕ} (ho : off = ![o])
    (inb : ∀ a, off a + S16.size a ≤ S8192.size a) (i : S16.Idx) :
    s.view.readAt (Elt F) (Rect.unit (s := S8192) off S16.size inb).toLoadRect f i = x (b + (o + (i 0).val)) := by
  subst ho
  rw [View.readAt_rect]
  refine (hf ((Rect.unit (s := S8192) ![o] S16.size inb).emb i)).trans ?_
  congr 2
  exact ValueKit.rect_emb_unit_val _ _ _ _ _

/-- A vector of words of `x` whose codes are counters passes the check on its low codes. -/
theorem chk_lo {x : ℕ → BitVec 32} (hx : ∀ i, lo (x i) < 38912 ∧ hi (x i) < 38912) {v : IVec S16 32} (hv : ∀ i : S16.Idx, ∃ m, v i = x m) :
    ∀ a i, ((![andi v (broadcast S16 65535#32)] : Fin 1 → IVec S16 32) a i).toNat < S38912.size a := by
  intro a i
  obtain rfl : a = 0 := Subsingleton.elim _ _
  show (IntOp.andi (v i) 65535#32).toNat < 38912
  obtain ⟨m, e⟩ := hv i
  rw [Hist.toNat_and, e]; exact (hx _).1
/-- And the check on its high codes. -/
theorem chk_hi {x : ℕ → BitVec 32} (hx : ∀ i, lo (x i) < 38912 ∧ hi (x i) < 38912) {v : IVec S16 32} (hv : ∀ i : S16.Idx, ∃ m, v i = x m) :
    ∀ a i, ((![shrui v (broadcast S16 16#32)] : Fin 1 → IVec S16 32) a i).toNat < S38912.size a := by
  intro a i
  obtain rfl : a = 0 := Subsingleton.elim _ _
  show (IntOp.shrui .vector (v i) 16#32).toNat < 38912
  obtain ⟨m, e⟩ := hv i
  rw [Hist.toNat_shru, e]; exact (hx _).2

/-- The lanes of both index vectors of eight loads, one after another, are 128 words' hits. -/
theorem lanes_sum {x : ℕ → BitVec 32} {b n : ℕ} (v : Fin 8 → IVec S16 32) (hv : ∀ r (i : S16.Idx), v r i = x (b + (n + 16 * r.val + (i 0).val))) (k : ℕ) :
    cnt x b (n + 128) k = cnt x b n k + ((∑ r, lanes (andi (v r) (broadcast S16 65535#32)) k) + ∑ r, lanes (shrui (v r) (broadcast S16 16#32)) k) := by
  have e : ∀ r : Fin 8, lanes (andi (v r) (broadcast S16 65535#32)) k + lanes (shrui (v r) (broadcast S16 16#32)) k
      = ∑ l : Fin 16, hits (x (b + (n + 16 * r.val + l.val))) k := fun r => by
    have := Hist.lanes_hits (fun i => x (b + i)) (v r) (andi (v r) (broadcast S16 65535#32)) (shrui (v r) (broadcast S16 16#32)) (n + 16 * r.val) k
      (fun l => hv r _) (fun i => Hist.toNat_and _) (fun i => Hist.toNat_shru _ _)
    exact this
  have c : ∀ m : ℕ, m ≤ 8 → cnt x b (n + 16 * m) k = cnt x b n k + ∑ r ∈ Finset.range m, ∑ l : Fin 16, hits (x (b + (n + 16 * r + l.val))) k := by
    intro m hm
    induction m with
    | zero => simp
    | succ m ih =>
      rw [show n + 16 * (m + 1) = (n + 16 * m) + 16 by ring, Hist.cnt_add_lanes, ih (by omega), Finset.sum_range_succ, add_assoc]
  rw [← Finset.sum_add_distrib, Finset.sum_congr rfl fun r _ => e r, c 8 le_rfl, ← Finset.sum_range (fun r => ∑ l : Fin 16, hits (x (b + (n + 16 * r + l.val))) k)]

set_option maxHeartbeats 4000000 in
/-- One trip over the staging buffer's first half. -/
theorem trip_lo {x : ℕ → BitVec 32} (hx : ∀ i, lo (x i) < 38912 ∧ hi (x i) < 38912) {b : ℕ} {f : Buf (Elt F) (s0.view.loc (thr d L))}
    (hf : ∀ j : S8192.Idx, s0.view.read (Elt F) f j = x (b + (j 0).val)) (c : ℕ → ℕ) (w0 w1 w2 : DmaSems sig S_) (t : Fin k1_t3_loop.trips) (acc : BitVec 32) :
    iprop(sPts d L s0 f ∗ hPts d L (H fun k => c k + cnt x b (128 * t.val) k))
      ⊢ wp frame (wpE (defs₀ (F := F)) 𝒱₀ (thr d L) none) Set.univ
          (k1_t3_body L iV (Memref.isWhole_whole _) oV (Memref.isWhole_whole _) sV (Memref.isWhole_whole _) hV (Memref.isWhole_whole _) w0 w1 w2 t acc)
          fun _ => iprop(sPts d L s0 f ∗ hPts d L (H fun k => c k + cnt x b (128 * (t.val + 1)) k)) := by
  unfold k1_t3_body
  simp only [k1_part1_eq_skeleton, k1_part2_eq_skeleton]
  unfold k1_part1_skel k1_part2_skel
  simp only [Prog.lift, Prog.bind_op, Prog.bind_ret, Prog.pure_eq_ret]
  iintro ⟨Hs, Hh⟩
  have hv : ∀ (r : Fin 8) (i : S16.Idx), s0.view.readAt (Elt F) (Rect.unit (s := S8192) (k1_off5 t (BitVec.ofNat 32 r.val)) S16.size (k1_off5_inb t r)).toLoadRect f i
      = x (b + (128 * t.val + 16 * r.val + (i 0).val)) := fun r i => ld_apply d L s0 hf (k1_off5_eq t r) _ i
  iterate 8 (iapply (wp_load 𝒱₀ (thr d L) none Set.univ (m := s0) (S := s0.view.set) (View.setOn_subset_set _ _)) $$ Hs; iintro Hs)
  have hl : ∀ (off : Fin 1 → ℕ) (inb : ∀ a, off a + S16.size a ≤ S8192.size a) (i : S16.Idx),
      ∃ m, s0.view.readAt (Elt F) (Rect.unit (s := S8192) off S16.size inb).toLoadRect f i = x m :=
    fun off inb i => ⟨_, ld_apply d L s0 hf (o := off 0) (funext fun a => by rw [Subsingleton.elim a 0]; rfl) inb i⟩
  iterate 8 iapply (wp_assume 𝒱₀ (thr d L) none Set.univ (chk_lo hx (hl _ _)))
  iterate 8 iapply (wp_assume 𝒱₀ (thr d L) none Set.univ (chk_hi hx (hl _ _)))
  iterate 16 (iapply (wp_scat d L) $$ Hh; iintro Hh)
  sl_step
  isplitl [Hs]; · iexact Hs
  iapply (hPts_congr d L ?e) $$ Hh
  intro k
  rw [Nat.mul_succ, lanes_sum _ hv k, Fin.sum_univ_eight, Fin.sum_univ_eight]
  simp only [← Nat.add_assoc]
  iterate 16 refine congrArg₂ (· + ·) ?_ rfl
  rfl

set_option maxHeartbeats 4000000 in
/-- One trip over the staging buffer's second half. -/
theorem trip_hi {x : ℕ → BitVec 32} (hx : ∀ i, lo (x i) < 38912 ∧ hi (x i) < 38912) {b : ℕ} {f : Buf (Elt F) (s1.view.loc (thr d L))}
    (hf : ∀ j : S8192.Idx, s1.view.read (Elt F) f j = x (b + (j 0).val)) (c : ℕ → ℕ) (w0 w1 w2 : DmaSems sig S_) (t : Fin k1_t4_loop.trips) (acc : BitVec 32) :
    iprop(sPts d L s1 f ∗ hPts d L (H fun k => c k + cnt x b (128 * t.val) k))
      ⊢ wp frame (wpE (defs₀ (F := F)) 𝒱₀ (thr d L) none) Set.univ
          (k1_t4_body L iV (Memref.isWhole_whole _) oV (Memref.isWhole_whole _) sV (Memref.isWhole_whole _) hV (Memref.isWhole_whole _) w0 w1 w2 t acc)
          fun _ => iprop(sPts d L s1 f ∗ hPts d L (H fun k => c k + cnt x b (128 * (t.val + 1)) k)) := by
  unfold k1_t4_body
  simp only [k1_part3_eq_skeleton, k1_part4_eq_skeleton]
  unfold k1_part3_skel k1_part4_skel
  simp only [Prog.lift, Prog.bind_op, Prog.bind_ret, Prog.pure_eq_ret]
  iintro ⟨Hs, Hh⟩
  have hv : ∀ (r : Fin 8) (i : S16.Idx), s1.view.readAt (Elt F) (Rect.unit (s := S8192) (k1_off7 t (BitVec.ofNat 32 r.val)) S16.size (k1_off7_inb t r)).toLoadRect f i
      = x (b + (128 * t.val + 16 * r.val + (i 0).val)) := fun r i => ld_apply d L s1 hf (k1_off7_eq t r) _ i
  iterate 8 (iapply (wp_load 𝒱₀ (thr d L) none Set.univ (m := s1) (S := s1.view.set) (View.setOn_subset_set _ _)) $$ Hs; iintro Hs)
  have hl : ∀ (off : Fin 1 → ℕ) (inb : ∀ a, off a + S16.size a ≤ S8192.size a) (i : S16.Idx),
      ∃ m, s1.view.readAt (Elt F) (Rect.unit (s := S8192) off S16.size inb).toLoadRect f i = x m :=
    fun off inb i => ⟨_, ld_apply d L s1 hf (o := off 0) (funext fun a => by rw [Subsingleton.elim a 0]; rfl) inb i⟩
  iterate 8 iapply (wp_assume 𝒱₀ (thr d L) none Set.univ (chk_lo hx (hl _ _)))
  iterate 8 iapply (wp_assume 𝒱₀ (thr d L) none Set.univ (chk_hi hx (hl _ _)))
  iterate 16 (iapply (wp_scat d L) $$ Hh; iintro Hh)
  sl_step
  isplitl [Hs]; · iexact Hs
  iapply (hPts_congr d L ?e) $$ Hh
  intro k
  rw [Nat.mul_succ, lanes_sum _ hv k, Fin.sum_univ_eight, Fin.sum_univ_eight]
  simp only [← Nat.add_assoc]
  iterate 16 refine congrArg₂ (· + ·) ?_ rfl
  rfl

end Cert.Proof.Whole

end
-- ==== Proof.Whole.Tile.lean ====
/-
  The histogram task on one vector subcore, whole: its counters zeroed, its 311296 words of the packed buckets fetched
  8192 at a time into the two halves of the staging buffer (one half filling while the other is counted), every code
  counted, and the counters written to the task's row of the partial histograms. What the row holds afterwards is
  exactly `parts`: entry `(r, k)` the number of codes equal to `k` among words `311296 r …` of the buffer.
-/
module

public import proofs.«01_k».proof.Proof.Whole.Batch
public import proofs.«01_k».proof.Proof.Tile
public import Idealize.ShloMosaic.Lib.ValueIdxCoords
public import Idealize.ShloMosaic.Lib.ValueLayout

@[expose] public section

noncomputable section

namespace Cert.Proof.Whole

open Cert.KernelIdeal Cert.KernelIdeal.Gen
open Cert.Proof.Hist (H cnt hits lanes lane lo hi)
open Cert.Proof.Tail (words parts InRange)

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-! ## What a task leaves -/

abbrev iLoc (d : Dev nD) : Loc nD τ sig := (SparseCore.T d).loc main_v1
abbrev oLoc (d : Dev nD) : Loc nD τ sig := (SparseCore.T d).loc main_v2

theorem odiv : 32 ∣ S32x38912.size 0 := ⟨1, rfl⟩
abbrev orow (w : Fin 32) : Rect S32x38912 := Rect.part (s := S32x38912) (a₀ := 0) odiv w
abbrev oRowSet (w : Fin 32) : Finset S32x38912.Idx := ((oV).view.slice (orow w)).set

/-- The row of the task on vector subcore `(c, s)`. -/
abbrev wid (c : Fin 2) (s : Fin 16) : Fin 32 := ⟨2 * s.val + c.val, by omega⟩

section Tile

variable [FloatOps F] (d : Dev nD) (L : grid1.Coords)

omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)
abbrev wL (L : grid1.Coords) : Fin 32 := wid (cL L) (jL L)

/-- The task's row of the result as it addresses it. -/
abbrev orowK (L : grid1.Coords) : Rect S32x38912 := Rect.unit (s := S32x38912) (k1_off8 L) S1x38912.size (k1_off8_inb L)
abbrev oRowK (L : grid1.Coords) : Memref sig .scVector .hbm S38912 .i32 := ((oV).slice (orowK L) (fun _ => rfl)).squeeze S38912 squeezes_S1x38912_S38912

omit [FloatOps F] in
theorem orowK_eq : orowK L = orow (wL L) := by
  unfold orowK orow Rect.part Rect.block
  congr 1 <;> funext a
  · rw [k1_off8_eq]
    match a with
    | 0 => simp [Shape.partIx, Shape.partSize]
    | 1 => simp [Shape.partIx, Shape.partSize]
  · match a with
    | 0 => simp [Shape.partSize]
    | 1 => simp [Shape.partSize]

omit [FloatOps F] in
theorem set_oRowK : (oRowK L).view.set = oRowSet (wL L) := by
  show (((oV).view.slice (orowK L)).reshape S38912 squeezes_S1x38912_S38912.numel_eq).set = ((oV).view.slice (orow (wL L))).set
  rw [View.set_reshape]
  exact orowK_eq L ▸ rfl

/-- The row's element `k` is element `(w, k)` of the result. -/
theorem emb_oRowK (k : S38912.Idx) : (oRowK L).view.emb k = (ix2 (wL L) (k 0) : S32x38912.Idx) := by
  show (orowK L).emb (Shape.reshapeEquiv squeezes_S1x38912_S38912.numel_eq k) = _
  have e : Shape.reshapeEquiv squeezes_S1x38912_S38912.numel_eq k = (ix2 (0 : Fin 1) (k 0) : S1x38912.Idx) := by
    refine (Shape.reshapeEquiv_cons_one _ k).trans (funext fun a => ?_)
    match a with
    | 0 => rfl
    | 1 => rfl
  rw [e]
  funext a
  refine Fin.ext ((ValueKit.rect_emb_unit_val _ _ _ _ _).trans ?_)
  refine (congrArg (· + _) (congrFun (k1_off8_eq L) a)).trans ?_
  match a with
  | 0 => show 2 * (L 1).val + (L 0).val + 0 = 2 * (L 1).val + (L 0).val; omega
  | 1 => exact Nat.zero_add _

/-! ## One fetch -/

omit [FloatOps F] in
/-- Element `j` of the 8192 words read from `o` on. -/
theorem src_apply (X : S9961472.Idx → BitVec 32) {off : Fin 1 → ℕ} {o : ℕ} (ho : off = ![o]) (inb : ∀ a, off a + S8192.size a ≤ S9961472.size a) (j : S8192.Idx) :
    X ((Rect.unit (s := S9961472) off S8192.size inb).emb j) = words X (o + (j 0).val) := by
  subst ho
  have hj : (j 0).val < 8192 := (j 0).isLt
  have ho : o + 8192 ≤ 9961472 := inb 0
  unfold words
  rw [dif_pos (by omega)]
  refine congrArg X (funext fun a => Fin.ext ?_)
  match a with
  | 0 => exact ValueKit.rect_emb_unit_val _ _ _ _ _

/-- A fetch into half `s` on the semaphore `sem`, in flight: it delivers the half holding words `o …` of the buffer and
    the part of the buffer it reads; the rest of the buffer beside it. -/
def fl (X : S9961472.Idx → BitVec 32) (s : Memref sig .scVector .vmem S8192 .i32) (sem : DmaSem sig) (q : PosShare TreeShare) (o : ℕ) : sProp 𝕄 :=
  iprop(∃ Sx : Finset S9961472.Idx, Transfers.Flight countersEmb (thr d L) (.dma sem) (none : HIx 1) s.view.dmaCredit
      iprop((∃ f, ⌜∀ j : S8192.Idx, s.view.read (Elt F) f j = words X (o + (j 0).val)⌝ ∗ sPts d L s f) ∗ iLoc d ↦[Sx]{q} X)
    ∗ iLoc d ↦[Finset.univ \ Sx]{q} X)

theorem wp_fetch (X : S9961472.Idx → BitVec 32) (s : Memref sig .scVector .vmem S8192 .i32) (sem : DmaSem sig) (q : PosShare TreeShare)
    {off : Fin 1 → ℕ} {o : ℕ} (ho : off = ![o]) (inb : ∀ a, off a + S8192.size a ≤ S9961472.size a)
    {hsrc : (iV.slice (Rect.unit (s := S9961472) off S8192.size inb) (fun _ => rfl)).view.WordExact} {hdst : s.view.WordExact}
    {hsem : DmaTarget.Typed (nD := nD) (τ := τ) (p := (thr d L).2) Space.hbm (SemLoc.dma sem) (.here s)}
    {α : Type} {k : PUnit → Prog (TpuEff nD τ sig (Elt F) Λ₀ (thr d L).2) α} {Q : α → sProp 𝕄} :
    iprop((iLoc d ↦{q} X) ∗ (∃ f, sPts d L s f) ∗ semVal (thr d L, .dma sem) 0)
      ⊢ iprop((fl d L X s sem q o -∗ wp frame (wpE (defs₀ (F := F)) 𝒱₀ (thr d L) none) Set.univ (k ⟨⟩) Q)
        -∗ wp frame (wpE (defs₀ (F := F)) 𝒱₀ (thr d L) none) Set.univ
            (.op (.enqueueDma (iV.slice (Rect.unit (s := S9961472) off S8192.size inb) (fun _ => rfl)) (.here s) (.dma sem) hsrc hdst hsem) k) Q) := by
  iintro ⟨Hx, ⟨%f, Hs⟩, Hv⟩ Hk
  ihave Hx' := (pointsTo_split_subset (q := q) (f := X) (ℓ := iLoc d) (S := Finset.univ) (Finset.subset_univ (iV.slice (Rect.unit (s := S9961472) off S8192.size inb) (fun _ => rfl)).view.set)).1 $$ Hx
  icases Hx' with ⟨Hx, Hr⟩
  iapply (Transfers.wp_dmaLocal countersEmb 𝒱₀ (thr d L) none (none : HIx 1) s.view.dmaCredit rfl (View.dmaCredit_pos _ (by decide)) (subset_rfl)) $$ [Hx Hs Hv]
  · isplitl [Hx]; · iexact Hx
    isplitl [Hs]; · iexact Hs
    iexact Hv
  iintro Hf
  iapply Hk
  unfold fl
  iexists _
  isplitl [Hf]
  · iapply (Transfers.Flight_mono countersEmb (thr d L) ?h) $$ Hf
    iintro ⟨Hs, Hx⟩
    isplitl [Hs]
    · iexists _; isplitr
      swap; · iexact Hs
      ipureintro; intro j
      rw [View.read_write_univ]
      exact src_apply X ho inb j
    · iexact Hx
  · iexact Hr

theorem wp_fetched (X : S9961472.Idx → BitVec 32) (s : Memref sig .scVector .vmem S8192 .i32) (sem : DmaSem sig) (q : PosShare TreeShare) {o : ℕ}
    {srcw : Memref sig .scVector .hbm S8192 .i32} {hsrc : srcw.view.WordExact} {hdst : s.view.WordExact} {O : CellTallies nD τ sig (HIx 1)} {W : Waits sig (HIx 1)}
    {α : Type} {k : PUnit → Prog (TpuEff nD τ sig (Elt F) Λ₀ (thr d L).2) α} {Q : α → sProp 𝕄} :
    iprop(fl d L X s sem q o ∗ owes (thr d L) O W ∗ Transfers.MayWaits (thr d L) (none : HIx 1) O)
      ⊢ iprop((iprop((iLoc d ↦{q} X) ∗ (∃ f, ⌜∀ j : S8192.Idx, s.view.read (Elt F) f j = words X (o + (j 0).val)⌝ ∗ sPts d L s f) ∗ semVal (thr d L, .dma sem) 0
            ∗ owes (thr d L) O (insert (SemLoc.dma sem, (none : HIx 1)) W)) -∗ wp frame (wpE (defs₀ (F := F)) 𝒱₀ (thr d L) none) Set.univ (k ⟨⟩) Q)
        -∗ wp frame (wpE (defs₀ (F := F)) 𝒱₀ (thr d L) none) Set.univ (.op (.waitDma2 sem srcw s hsrc hdst) k) Q) := by
  unfold fl
  iintro ⟨⟨%Sx, Hf, Hr⟩, HO, Hmw⟩ Hk
  iapply (Transfers.wp_waitLocalO countersEmb 𝒱₀ (thr d L) none (none : HIx 1) rfl) $$ [Hf HO Hmw]
  · isplitl [Hf]; · iexact Hf
    isplitl [HO]; · iexact HO
    iapply (Transfers.MayWaits.elim (SemLoc.dma sem)) $$ Hmw
  iintro ⟨⟨Hs, Hx⟩, Hv, HO⟩
  iapply Hk
  isplitl [Hx Hr]
  · iapply (pointsTo_split_subset (q := q) (f := X) (ℓ := iLoc d) (S := Finset.univ) (Finset.subset_univ Sx)).2
    isplitl [Hx] <;> iassumption
  isplitl [Hs]; · iexact Hs
  isplitl [Hv]; · iexact Hv
  iexact HO

/-! ## The counters zeroed -/

omit [FloatOps F] in
theorem set_hV : (hV.access (.whole S38912)).set = Finset.univ :=
  (View.set_slice _ _).trans (by rw [Rect.set_whole]; exact View.set_whole _)

/-- Trip `t` stores zeros over sixteen counters: those before `16 (t + 1)` are zero after it. -/
theorem zero_trip (w0 w1 w2 : DmaSems sig S_) (t : Fin k1_t1_loop.trips) (acc : BitVec 32) :
    iprop(∃ f, ⌜∀ j : S38912.Idx, (j 0).val < 16 * t.val → f j = 0#32⌝ ∗ hPts d L f)
      ⊢ wp frame (wpE (defs₀ (F := F)) 𝒱₀ (thr d L) none) Set.univ
          (k1_t1_body L iV (Memref.isWhole_whole _) oV (Memref.isWhole_whole _) sV (Memref.isWhole_whole _) hV (Memref.isWhole_whole _) w0 w1 w2 t acc)
          fun _ => iprop(∃ f, ⌜∀ j : S38912.Idx, (j 0).val < 16 * (t.val + 1) → f j = 0#32⌝ ∗ hPts d L f) := by
  unfold k1_t1_body
  simp only [Prog.lift, Prog.bind_op, Prog.bind_ret, Prog.pure_eq_ret]
  iintro ⟨%f, %hf, Hh⟩
  iapply (wp_load 𝒱₀ (thr d L) none Set.univ (m := hV) (S := (hV.access (.whole S38912)).set) (by rw [set_hV]; exact Finset.subset_univ _)) $$ Hh
  iintro Hh
  iapply (wp_store 𝒱₀ (thr d L) none Set.univ (m := hV) (r := Rect.unit (s := S38912) (k1_off1 t) S16.size (k1_off1_inb t)) (S := (hV.access (.whole S38912)).set) ?sub) $$ Hh
  case sub => rw [set_hV]; exact Finset.subset_univ _
  iintro Hh
  sl_step
  iexists _; isplitr
  swap; · iexact Hh
  ipureintro; intro j hj
  by_cases h : (j 0).val < 16 * t.val
  · refine (View.write_of_not_mem _ _ _ (fun hm => ?_)).trans (hf j h)
    obtain ⟨i, -, rfl⟩ := Finset.mem_map.mp hm
    have : ((Rect.unit (s := S38912) (k1_off1 t) S16.size (k1_off1_inb t)).emb i 0).val < 16 * t.val := h
    rw [ValueKit.rect_emb_unit_val, congrFun (k1_off1_eq t) 0] at this
    exact absurd this (by simp)
  · have hl : (j 0).val - 16 * t.val < 16 := by omega
    have e : (Rect.unit (s := S38912) (k1_off1 t) S16.size (k1_off1_inb t)).emb (ix1 ⟨(j 0).val - 16 * t.val, hl⟩ : S16.Idx) = j := by
      funext a
      obtain rfl : a = 0 := Subsingleton.elim _ _
      refine Fin.ext ((ValueKit.rect_emb_unit_val _ _ _ _ _).trans ?_)
      refine (congrArg (· + _) (congrFun (k1_off1_eq t) 0)).trans ?_
      show 16 * t.val + ((j 0).val - 16 * t.val) = (j 0).val
      omega
    rw [← e]
    exact View.write_emb_of_mem _ _ (Finset.mem_univ _)

/-! ## One trip of the task's loop -/

/-- The first word of the task. -/
abbrev bL (L : grid1.Coords) : ℕ := 311296 * (wL L).val

omit [FloatOps F] in
theorem bL_eq : 622592 * (L 1).val + 311296 * (L 0).val = bL L := by
  show _ = 311296 * (2 * (L 1).val + (L 0).val); ring

/-- What the task waits for that it did not before. -/
abbrev owing (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem owing_insert {O : CellTallies nD τ sig (HIx 1)} {W W' : Waits sig (HIx 1)} (h : ∀ p ∈ W', p ∈ W ∨ p.2 = none) (sm : SemLoc sig) :
    (owes (thr d L) O (insert (sm, (none : HIx 1)) W') : sProp 𝕄) ⊢ owing d L O W := by
  iintro HO
  iexists _; isplitr
  swap; · iexact HO
  ipureintro; intro p hp
  rcases Finset.mem_insert.mp hp with hp | hp
  · exact .inr (hp ▸ rfl)
  · exact h p hp

/-- Before trip `n`: the counters hold the first `16384 n` words' counts, the second half of the staging buffer is free,
    and the first half is being filled with the next words while there are any. -/
def inv (X : S9961472.Idx → BitVec 32) (q : PosShare TreeShare) (O : CellTallies nD τ sig (HIx 1)) (W : Waits sig (HIx 1)) (n : ℕ) (_ : BitVec 32) : sProp 𝕄 :=
  iprop(Transfers.MayWaits (thr d L) (none : HIx 1) O ∗ owing d L O W ∗ hPts d L (H fun k => cnt (words X) (bL L) (16384 * n) k)
    ∗ (∃ f, sPts d L s1 f) ∗ semVal (thr d L, .dma cc1_scratch3.sem) 0 ∗ (iLoc d ↦{q.right} X)
    ∗ if n < 19 then fl d L X s0 cc1_scratch2.sem q.left (bL L + 16384 * n)
      else iprop((∃ f, sPts d L s0 f) ∗ semVal (thr d L, .dma cc1_scratch2.sem) 0 ∗ iLoc d ↦{q.left} X))

omit [FloatOps F] in
theorem cond1_iff : ∀ t : Fin k1_t2_loop.trips, k1_cond1 t = 1#1 ↔ t.val + 1 < 19 := by decide +kernel

theorem trips2 : k1_t2_loop.trips = 19 := by decide +kernel
theorem trips1 : k1_t1_loop.trips = 2432 := by decide +kernel
theorem trips3 : k1_t3_loop.trips = 64 := by decide +kernel
theorem trips4 : k1_t4_loop.trips = 64 := by decide +kernel

/-- The second half of a trip: the fetch into the staging buffer's second half ends, and its words are counted;
    whatever else is held, `R`, is kept. -/
theorem trip_end {X : S9961472.Idx → BitVec 32} (hX : InRange X) (q : PosShare TreeShare) (O : CellTallies nD τ sig (HIx 1)) (W : Waits sig (HIx 1))
    (w2 : DmaSems sig S_) (n : ℕ) (R : sProp 𝕄)
    {srcw : Memref sig .scVector .hbm S8192 .i32} {hsrc : srcw.view.WordExact} {hdst : s1.view.WordExact} :
    iprop(Transfers.MayWaits (thr d L) (none : HIx 1) O ∗ owing d L O W ∗ hPts d L (H fun k => cnt (words X) (bL L) (16384 * n + 8192) k)
        ∗ fl d L X s1 cc1_scratch3.sem q.right (bL L + 16384 * n + 8192) ∗ R)
      ⊢ wp frame (wpE (defs₀ (F := F)) 𝒱₀ (thr d L) none) Set.univ
          (.op (.waitDma2 cc1_scratch3.sem srcw s1 hsrc hdst) fun _ => do
            let _ ← Scf.Loop.for k1_t4_loop k1_t4_ok 0#32 (k1_t4_body L iV (Memref.isWhole_whole _) oV (Memref.isWhole_whole _) sV (Memref.isWhole_whole _) hV (Memref.isWhole_whole _) cc1_scratch2 cc1_scratch3 w2)
            Prog.ret 0#32)
          fun _ => iprop(Transfers.MayWaits (thr d L) (none : HIx 1) O ∗ owing d L O W ∗ hPts d L (H fun k => cnt (words X) (bL L) (16384 * (n + 1)) k)
            ∗ (∃ f, sPts d L s1 f) ∗ semVal (thr d L, .dma cc1_scratch3.sem) 0 ∗ (iLoc d ↦{q.right} X) ∗ R) := by
  iintro ⟨#Hmw, ⟨%W1, %hW1, HO⟩, Hh, Hf1, HR⟩
  iapply (wp_fetched d L X s1 cc1_scratch3.sem q.right) $$ [Hf1 HO]
  · isplitl [Hf1]; · iexact Hf1
    isplitl [HO]; · iexact HO
    iexact Hmw
  iintro ⟨Hx1, ⟨%f1, %hf1, Hs1⟩, Hv1, HO⟩
  ihave HO' := (owing_insert d L hW1 _) $$ HO
  iapply (Scf.wp_for_bind frame (wpE (defs₀ (F := F)) 𝒱₀ (thr d L) none) Set.univ _ _ _ k1_t4_ok 0#32 _
    (fun m _ => iprop(sPts d L s1 f1 ∗ hPts d L (H fun k => cnt (words X) (bL L) (16384 * n + 8192) k + cnt (words X) (bL L + 16384 * n + 8192) (128 * m) k)))
    (fun k acc => trip_hi d L hX hf1 _ _ _ _ k acc)) $$ [Hs1 Hh]
  · isplitl [Hs1]; · iexact Hs1
    iapply (hPts_congr d L ?e) $$ Hh
    intro k; rw [Nat.mul_zero, Hist.cnt_zero]; exact (Nat.add_zero _).symm
  iintro %_ ⟨Hs1, Hh⟩
  sl_step
  isplitr; · iexact Hmw
  isplitl [HO']; · iexact HO'
  isplitl [Hh]
  · iapply (hPts_congr d L ?e2) $$ Hh
    intro k
    rw [show Scf.trips k1_t4_loop.lb k1_t4_loop.ub k1_t4_loop.st = 64 from trips4, show 16384 * (n + 1) = (16384 * n + 8192) + 8192 by ring,
      Hist.cnt_add _ _ (16384 * n + 8192) 8192, ← Nat.add_assoc (bL L)]
  isplitl [Hs1]; · iexists _; iexact Hs1
  isplitl [Hv1]; · iexact Hv1
  isplitl [Hx1]; · iexact Hx1
  iexact HR

set_option maxHeartbeats 4000000 in
theorem trip {X : S9961472.Idx → BitVec 32} (hX : InRange X) (q : PosShare TreeShare) (O : CellTallies nD τ sig (HIx 1)) (W : Waits sig (HIx 1))
    (w2 : DmaSems sig S_) (t : Fin k1_t2_loop.trips) (acc : BitVec 32) :
    inv d L X q O W t.val acc
      ⊢ wp frame (wpE (defs₀ (F := F)) 𝒱₀ (thr d L) none) Set.univ
          (k1_t2_body L iV (Memref.isWhole_whole _) oV (Memref.isWhole_whole _) sV (Memref.isWhole_whole _) hV (Memref.isWhole_whole _) cc1_scratch2 cc1_scratch3 w2 t acc)
          (inv d L X q O W (t.val + 1)) := by
  have ht : t.val < 19 := trips2 ▸ t.isLt
  unfold k1_t2_body
  simp only [Prog.lift, Prog.bind_op, Prog.bind_ret, Prog.pure_eq_ret]
  unfold inv
  rw [if_pos ht]
  iintro ⟨#Hmw, ⟨%W1, %hW1, HO⟩, Hh, Hs1, Hv1, Hx1, Hf0⟩
  -- the second half's fetch starts; the first half's ends
  iapply (wp_fetch d L X s1 cc1_scratch3.sem q.right ((k1_off3_eq L t).trans (by rw [bL_eq])) (k1_off3_inb L t)) $$ [Hx1 Hs1 Hv1]
  · isplitl [Hx1]; · iexact Hx1
    isplitl [Hs1]; · iexact Hs1
    iexact Hv1
  iintro Hf1
  iapply (wp_fetched d L X s0 cc1_scratch2.sem q.left) $$ [Hf0 HO]
  · isplitl [Hf0]; · iexact Hf0
    isplitl [HO]; · iexact HO
    iexact Hmw
  iintro ⟨Hx0, ⟨%f0, %hf0, Hs0⟩, Hv0, HO⟩
  ihave HO' := (owing_insert d L hW1 _) $$ HO
  icases HO' with ⟨%W2, %hW2, HO⟩
  -- the first half's words counted
  iapply (Scf.wp_for_bind frame (wpE (defs₀ (F := F)) 𝒱₀ (thr d L) none) Set.univ _ _ _ k1_t3_ok 0#32 _
    (fun n _ => iprop(sPts d L s0 f0 ∗ hPts d L (H fun k => cnt (words X) (bL L) (16384 * t.val) k + cnt (words X) (bL L + 16384 * t.val) (128 * n) k)))
    (fun k acc => trip_lo d L hX hf0 _ _ _ _ k acc)) $$ [Hs0 Hh]
  · isplitl [Hs0]; · iexact Hs0
    iapply (hPts_congr d L ?e) $$ Hh
    intro k; rw [Nat.mul_zero, Hist.cnt_zero, Nat.add_zero]
  iintro %_ ⟨Hs0, Hh⟩
  ihave Hh' := (hPts_congr d L (n' := fun k => cnt (words X) (bL L) (16384 * t.val + 8192) k) ?e1) $$ Hh
  case e1 =>
    intro k
    rw [show Scf.trips k1_t3_loop.lb k1_t3_loop.ub k1_t3_loop.st = 64 from trips3, Hist.cnt_add]
  by_cases hc : k1_cond1 t = 1#1
  · -- the first half's next fetch starts
    have ht' : t.val + 1 < 19 := (cond1_iff t).mp hc
    rw [dif_pos hc, if_pos ht']
    iapply (wp_fetch d L X s0 cc1_scratch2.sem q.left (o := bL L + 16384 * (t.val + 1)) ((k1_off6_eq L t).trans (by rw [bL_eq, Nat.mul_succ, Nat.add_assoc])) (k1_off6_inb L t hc)) $$ [Hx0 Hs0 Hv0]
    · isplitl [Hx0]; · iexact Hx0
      isplitl [Hs0]; · iexists _; iexact Hs0
      iexact Hv0
    iintro Hf0
    iapply (trip_end d L hX q O W w2 t.val _)
    isplitr; · iexact Hmw
    isplitl [HO]
    · iexists W2; isplitr
      · ipureintro; exact hW2
      · iexact HO
    isplitl [Hh']; · iexact Hh'
    isplitl [Hf1]; · iexact Hf1
    iexact Hf0
  · rw [dif_neg hc, if_neg (fun h => hc ((cond1_iff t).mpr h))]
    iapply (trip_end d L hX q O W w2 t.val _)
    isplitr; · iexact Hmw
    isplitl [HO]
    · iexists W2; isplitr
      · ipureintro; exact hW2
      · iexact HO
    isplitl [Hh']; · iexact Hh'
    isplitl [Hf1]; · iexact Hf1
    isplitl [Hs0]; · iexists _; iexact Hs0
    isplitl [Hv0]; · iexact Hv0
    iexact Hx0

/-! ## The task whole -/

theorem sdiv : 2 ∣ S16384.size 0 := ⟨8192, rfl⟩
omit [FloatOps F] in
theorem set_half (s : Memref sig .scVector .vmem S8192 .i32) (o : ℕ) (inb : ∀ a, (![o] : Fin 1 → ℕ) a + S8192.size a ≤ S16384.size a)
    (e : s = sV.slice (Rect.unit (s := S16384) ![o] S8192.size inb) (fun _ => rfl)) (w : Fin 2) (hw : o = 8192 * w.val) :
    ∀ i : S16384.Idx, i ∈ (sV.slice (Rect.unit (s := S16384) ![o] S8192.size inb) (fun _ => rfl)).view.set ↔ (8192 * w.val ≤ (i 0).val ∧ (i 0).val < 8192 * w.val + 8192) := by
  subst hw
  intro i
  constructor
  · intro h
    obtain ⟨j, -, rfl⟩ := Finset.mem_map.mp h
    have hj : (j 0).val < 8192 := (j 0).isLt
    have e : ((Rect.unit (s := S16384) ![8192 * w.val] S8192.size inb).emb j 0).val = 8192 * w.val + (j 0).val := ValueKit.rect_emb_unit_val _ _ _ _ _
    show 8192 * w.val ≤ ((Rect.unit (s := S16384) ![8192 * w.val] S8192.size inb).emb j 0).val ∧ ((Rect.unit (s := S16384) ![8192 * w.val] S8192.size inb).emb j 0).val < _
    omega
  · intro ⟨h1, h2⟩
    refine Finset.mem_map.mpr ⟨(ix1 ⟨(i 0).val - 8192 * w.val, by omega⟩ : S8192.Idx), Finset.mem_univ _, ?_⟩
    funext a
    obtain rfl : a = 0 := Subsingleton.elim _ _
    refine Fin.ext ((ValueKit.rect_emb_unit_val _ _ _ _ _).trans ?_)
    show 8192 * w.val + ((i 0).val - 8192 * w.val) = (i 0).val
    omega

omit [FloatOps F] in
theorem halves : (Finset.univ : Finset S16384.Idx) \ s0.view.set = s1.view.set := by
  ext i
  have hi : (i 0).val < 16384 := (i 0).isLt
  have h0 := set_half s0 0 inb_S16384_S8192_0 rfl 0 rfl i
  have h1 := set_half s1 8192 inb_S16384_S8192_8192 rfl 1 rfl i
  rw [Finset.mem_sdiff]
  constructor
  · intro ⟨_, h⟩
    refine h1.mpr ⟨?_, ?_⟩
    · by_contra hc; exact h (h0.mpr ⟨by simp, by simp at hc ⊢; omega⟩)
    · simpa using hi
  · intro h
    refine ⟨Finset.mem_univ _, fun h' => ?_⟩
    have := h1.mp h; have := h0.mp h'
    simp at *; omega

omit [FloatOps F] in
theorem stage_split : iprop(∃ f, (thr d L).loc cc1_scratch0 ↦{fullShare} f) ⊢ (iprop((∃ f, sPts d L s0 f) ∗ ∃ f, sPts d L s1 f) : sProp 𝕄) := by
  iintro ⟨%f, H⟩
  ihave H' := (pointsTo_split_subset (q := fullShare) (f := f) (ℓ := (thr d L).loc cc1_scratch0) (S := Finset.univ) (Finset.subset_univ s0.view.set)).1 $$ H
  icases H' with ⟨H0, H1⟩
  isplitl [H0]; · iexists f; iexact H0
  iexists f
  iapply (Entails.of_eq (show ((thr d L).loc cc1_scratch0 ↦[Finset.univ \ s0.view.set]{fullShare} f : sProp 𝕄) = sPts d L s1 f by rw [halves]))
  iexact H1

omit [FloatOps F] in
theorem stage_join : (iprop((∃ f, sPts d L s0 f) ∗ ∃ f, sPts d L s1 f) : sProp 𝕄) ⊢ iprop(∃ f, (thr d L).loc cc1_scratch0 ↦{fullShare} f) := by
  iintro ⟨⟨%f0, H0⟩, ⟨%f1, H1⟩⟩
  iexists (fun i : S16384.Idx => if i ∈ s0.view.set then (f0 : S16384.Idx → BitVec 32) i else (f1 : S16384.Idx → BitVec 32) i)
  iapply (pointsTo_split_subset (q := fullShare) (ℓ := (thr d L).loc cc1_scratch0) (S := Finset.univ) (Finset.subset_univ s0.view.set)).2
  isplitl [H0]
  · iapply (Entails.of_eq (pointsTo_congr (ℓ := (thr d L).loc cc1_scratch0) (q := fullShare) (f := f0) fun i hi => (if_pos hi).symm)); iexact H0
  · rw [halves]
    iapply (Entails.of_eq (pointsTo_congr (ℓ := (thr d L).loc cc1_scratch0) (q := fullShare) (f := f1) fun i hi =>
      (if_neg (Finset.mem_sdiff.mp (halves ▸ hi)).2).symm)); iexact H1

abbrev cell2 (d : Dev nD) (L : grid1.Coords) : GSem nD τ sig := (thr d L, .dma cc1_scratch2.sem)
abbrev cell3 (d : Dev nD) (L : grid1.Coords) : GSem nD τ sig := (thr d L, .dma cc1_scratch3.sem)
abbrev cellO (d : Dev nD) (L : grid1.Coords) : GSem nD τ sig := (thr d L, .dma cc1_scoped0.sem)

omit [FloatOps F] in
theorem ownSems0_thr :
    (ownSems0 (thr d L) : sProp 𝕄)
      = iprop(semVal (cell2 d L) 0 ∗ semVal (cell3 d L) 0 ∗ semVal (cellO d L) 0
          ∗ bigSep ((((ownCells (thr d L)).erase (cell2 d L)).erase (cell3 d L)).erase (cellO d L)) fun g => semVal g 0) := by
  unfold SparseCore.Cfg.ownSems0
  have own : ∀ s : DmaSem sig, (SemLoc.dma s : SemLoc sig).isScoped .scVector = true → ((thr d L, .dma s) : GSem nD τ sig) ∈ ownCells (thr d L) :=
    fun s h => mem_ownCells.mpr ⟨rfl, h⟩
  rw [SparseCore.bigSep_erase' (own cc1_scratch2.sem (by decide)),
    SparseCore.bigSep_erase' (Finset.mem_erase.mpr ⟨by simp [cell2, cell3]; decide, own cc1_scratch3.sem (by decide)⟩),
    SparseCore.bigSep_erase' (Finset.mem_erase.mpr ⟨by simp [cell3, cellO]; decide, Finset.mem_erase.mpr ⟨by simp [cell2, cellO]; decide, own cc1_scoped0.sem (by decide)⟩⟩)]

omit [FloatOps F] in
theorem ownBufs_thr :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  have own : ∀ b : Ref sig .scVector, ((Proc.scVector (cV L) (jV L)).devRef b : DevRef τ sig).owner = .proc (.scVector (cV L) (jV L)) →
      (Proc.scVector (cV L) (jV L)).devRef b ∈ ownRefs (τ := τ) (.scVector (cV L) (jV L)) := fun b h => SparseCore.Cfg.mem_ownRefs_of_owner h
  refine (SparseCore.bigSep_erase' (own cc1_scratch0 rfl)).trans ?_
  rw [SparseCore.bigSep_erase' (Finset.mem_erase.mpr ⟨fun e => absurd (Proc.devRef_injective _ e) (show (cc1_scratch1 : Ref sig .scVector) ≠ cc1_scratch0 by decide), own cc1_scratch1 rfl⟩)]

omit [FloatOps F] in
theorem pts_hV (f : Buf (Elt F) ((thr d L).loc cc1_scratch1)) : (hPts d L f : sProp 𝕄) = ((thr d L).loc cc1_scratch1 ↦{fullShare} f) := by
  unfold hPts; rw [set_hV]

/-- The counters written over the task's row leave it what `parts` says. -/
theorem row_parts (X : S9961472.Idx → BitVec 32) (fo : S32x38912.Idx → BitVec 32) :
    ((oRowK L).view.loc (thr d L) ↦[(oRowK L).view.set]{fullShare} ((oRowK L).view.write (Elt F) fo
        (hV.view.read (Elt F) (H fun k => cnt (words X) (bL L) 311296 k)) Finset.univ) : sProp 𝕄)
      ⊢ (oLoc d ↦[oRowSet (wL L)]{fullShare} parts X) := by
  refine Entails.of_eq ?_
  rw [← set_oRowK]
  refine pointsTo_congr (Ix := HIx 1) (Name := ℕ) (U := UU) (Lvl := ℕ) (ℓ := oLoc d) (q := fullShare) fun i hi => ?_
  obtain ⟨k, -, rfl⟩ := Finset.mem_map.mp hi
  refine (View.write_emb_of_mem _ _ (Finset.mem_univ k)).trans ?_
  show BitVec.ofNat 32 (cnt (words X) (bL L) 311296 (k 0).val) = parts X ((oRowK L).view.emb k)
  rw [emb_oRowK]
  rfl

/-- The packed words at a share, and a row of the partial histograms. -/
abbrev xPts (d : Dev nD) (q : PosShare TreeShare) (X : S9961472.Idx → BitVec 32) : sProp 𝕄 := iLoc d ↦{q} X
abbrev rowPts (d : Dev nD) (w : Fin 32) (f : S32x38912.Idx → BitVec 32) : sProp 𝕄 := oLoc d ↦[oRowSet w]{fullShare} f

set_option maxHeartbeats 4000000 in
/-- The task on vector subcore `(L 0, L 1)` of device `d`. -/
theorem tile_body {X : S9961472.Idx → BitVec 32} (hX : InRange X) (fo : S32x38912.Idx → BitVec 32) (q : PosShare TreeShare)
    (O : CellTallies nD τ sig (HIx 1)) (W : Waits sig (HIx 1)) (hO : ∀ g, O g none = 0) :
    iprop(levAts (K (F := F)).L (K (F := F)).lev ∗ emp
        ∗ (xPts d q X ∗ rowPts d (wL L) fo)
        ∗ scopedBufs (thr d L) ∗ scopedSems0 (thr d L) ∗ owes (thr d L) O W)
      ⊢ wp frame (wpE (defs₀ (F := F)) 𝒱₀ (thr d L) none) Set.univ
          (cc1__hist_body L iV (Memref.isWhole_whole _) oV (Memref.isWhole_whole _)
            sV (Memref.isWhole_whole _) hV (Memref.isWhole_whole _) cc1_scratch2 cc1_scratch3 cc1_scoped0)
          fun _ => iprop((xPts d q X ∗ rowPts d (wL L) (parts X))
            ∗ scopedBufs (thr d L) ∗ scopedSems0 (thr d L)
            ∗ ∃ W', ⌜∀ p ∈ W', p ∈ W ∨ p.2 = none⌝ ∗ owes (thr d L) O W') := by
  simp only [cc1__hist_body_eq_skeleton]; unfold cc1__hist_body_skel
  rw [(K (F := F)).scopedBufs_V facts d (cV L) (jV L), SparseCore.Cfg.scopedSems0_V (Val := Elt F) d (cV L) (jV L), ownSems0_thr, ownBufs_thr]
  simp only [Prog.lift, Prog.bind_op, Prog.bind_ret, Prog.pure_eq_ret]
  iintro ⟨#Hlv, -, ⟨Hx, Ho⟩, ⟨Hst, ⟨%fh, Hh⟩, Hbufs⟩, ⟨Hv0, Hv1, HvO, Hsems⟩, HO⟩
  ihave #Hmw := (show levAts (K (F := F)).L (K (F := F)).lev ⊢ Transfers.MayWaits (thr d L) (none : HIx 1) O from
    (K (F := F)).mayWaits_none (thr := thr d L) hO) $$ Hlv
  ihave Hst' := (stage_split (F := F) d L) $$ Hst
  icases Hst' with ⟨Hs0, Hs1⟩
  ihave Hh' := (Entails.of_eq (pts_hV (F := F) d L fh).symm) $$ Hh
  ihave Hx' := (pointsTo_share (PosShare.mem_left_op_right q)).1 $$ Hx
  icases Hx' with ⟨Hx0, Hx1⟩
  -- the counters zeroed
  iapply (Scf.wp_for_bind frame (wpE (defs₀ (F := F)) 𝒱₀ (thr d L) none) Set.univ _ _ _ k1_t1_ok 0#32 _
    (fun n _ => iprop(∃ f, ⌜∀ j : S38912.Idx, (j 0).val < 16 * n → f j = 0#32⌝ ∗ hPts d L f))
    (fun k acc => zero_trip d L _ _ _ k acc)) $$ [Hh']
  · iexists fh; isplitr
    · ipureintro; intro j hj; exact absurd hj (by simp)
    · iexact Hh'
  iintro %_ ⟨%fz, %hfz, Hh⟩
  have ez : fz = H fun k => cnt (words X) (bL L) (16384 * 0) k := by
    funext j
    refine (hfz j ?_).trans ?_
    · rw [show Scf.trips k1_t1_loop.lb k1_t1_loop.ub k1_t1_loop.st = 2432 from trips1]; exact (j 0).isLt
    · show _ = BitVec.ofNat 32 (cnt (words X) (bL L) (16384 * 0) (j 0).val)
      rw [Nat.mul_zero, Hist.cnt_zero]
  rw [ez]
  -- the first fetch
  iapply (wp_fetch d L X s0 cc1_scratch2.sem q.left ((k1_off2_eq L).trans (by rw [bL_eq])) (k1_off2_inb L)) $$ [Hx0 Hs0 Hv0]
  · isplitl [Hx0]; · iexact Hx0
    isplitl [Hs0]; · iexact Hs0
    iexact Hv0
  iintro Hf0
  -- the loop
  iapply (Scf.wp_for_bind frame (wpE (defs₀ (F := F)) 𝒱₀ (thr d L) none) Set.univ _ _ _ k1_t2_ok 0#32 _
    (inv d L X q O W) (fun t acc => trip d L hX q O W _ t acc)) $$ [HO Hh Hs1 Hv1 Hx1 Hf0]
  · unfold inv
    isplitr; · iexact Hmw
    isplitl [HO]
    · iexists W; isplitr
      · ipureintro; exact fun p hp => .inl hp
      · iexact HO
    isplitl [Hh]; · iexact Hh
    isplitl [Hs1]; · iexact Hs1
    isplitl [Hv1]; · iexact Hv1
    isplitl [Hx1]; · iexact Hx1
    rw [if_pos (by decide)]
    iexact Hf0
  rw [show Scf.trips k1_t2_loop.lb k1_t2_loop.ub k1_t2_loop.st = 19 from trips2]
  unfold inv
  rw [if_neg (by decide)]
  iintro %_ ⟨-, ⟨%W1, %hW1, HO⟩, Hh, Hs1, Hv1, Hx1, Hs0, Hv0, Hx0⟩
  -- the counters written out
  ihave Ho' := (Entails.of_eq (show (oLoc d ↦[oRowSet (wL L)]{fullShare} fo : sProp 𝕄)
      = (oRowK L).view.loc (thr d L) ↦[(oRowK L).view.set]{fullShare} fo by rw [set_oRowK])) $$ Ho
  iapply (Transfers.wp_dmaLocal countersEmb 𝒱₀ (thr d L) none (src := hV) (dst := oRowK L) (none : HIx 1) (oRowK L).view.dmaCredit rfl (View.dmaCredit_pos _ (by decide)) subset_rfl) $$ [Hh Ho' HvO]
  · isplitl [Hh]
    · iapply (Entails.of_eq (show (hPts d L (H fun k => cnt (words X) (bL L) (16384 * 19) k) : sProp 𝕄)
        = hV.view.loc (thr d L) ↦[hV.view.set]{fullShare} (H fun k => cnt (words X) (bL L) 311296 k) by
          unfold hPts; rw [set_hV, show hV.view.set = Finset.univ from View.set_whole _])); iexact Hh
    isplitl [Ho']; · iexact Ho'
    iexact HvO
  iintro HfO
  iapply (Transfers.wp_waitLocalO countersEmb 𝒱₀ (thr d L) none (none : HIx 1) rfl) $$ [HfO HO]
  · isplitl [HfO]; · iexact HfO
    isplitl [HO]; · iexact HO
    iapply (Transfers.MayWaits.elim (SemLoc.dma cc1_scoped0.sem)) $$ Hmw
  iintro ⟨⟨Ho, Hh⟩, HvO, HO⟩
  ihave HO' := (owing_insert d L hW1 _) $$ HO
  sl_step
  isplitl [Hx0 Hx1 Ho]
  · isplitl [Hx0 Hx1]
    · iapply (pointsTo_share (PosShare.mem_left_op_right q)).2
      isplitl [Hx0] <;> iassumption
    · iapply (row_parts d L X fo); iexact Ho
  isplitl [Hs0 Hs1 Hh Hbufs]
  · isplitl [Hs0 Hs1]
    · iapply (stage_join (F := F) d L); isplitl [Hs0] <;> iassumption
    isplitl [Hh]
    · iexists _
      iapply (Entails.of_eq (show (hV.view.loc (thr d L) ↦[hV.view.set]{fullShare} (H fun k => cnt (words X) (bL L) 311296 k) : sProp 𝕄)
        = ((thr d L).loc cc1_scratch1 ↦{fullShare} (H fun k => cnt (words X) (bL L) 311296 k)) by rw [show hV.view.set = Finset.univ from View.set_whole _]))
      iexact Hh
    iexact Hbufs
  isplitl [Hv0 Hv1 HvO Hsems]
  · isplitl [Hv0]; · iexact Hv0
    isplitl [Hv1]; · iexact Hv1
    isplitl [HvO]; · iexact HvO
    iexact Hsems
  iexact HO'

end Tile

end Cert.Proof.Whole

end
-- ==== Proof.Whole.Launch.lean ====
/-
  The SparseCore call as the launch sees it: each SparseCore takes a share of the packed words and sixteen rows of the
  partial histograms, each vector subcore a share of the share and one row; the rows come back as `parts`.
-/
module

public import proofs.«01_k».proof.Proof.Whole.Tile

@[expose] public section

noncomputable section

namespace Cert.Proof.Whole

open Cert.KernelIdeal Cert.KernelIdeal.Gen
open Cert.Proof.Tail (words parts InRange)

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The handshakes' ghost state, and the pipelines', in the program's. -/
abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- SparseCore `c`'s share of the packed words, and vector subcore `i`'s of that. -/
def qC (c : Fin 2) : PosShare TreeShare := piece fullShare 1 c
def qT (c : Fin 2) (i : Fin 16) : PosShare TreeShare := piece (qC c) 15 i

variable (X : Dev nD → S9961472.Idx → BitVec 32) (fo : Dev nD → S32x38912.Idx → BitVec 32)

/-- SparseCore `c`'s sixteen rows. -/
abbrev rowsPts (d : Dev nD) (c : Fin 2) (f : S32x38912.Idx → BitVec 32) : sProp 𝕄 :=
  bigSep Finset.univ fun i : Fin 16 => rowPts (F := F) d (wid c i) f

theorem nCore_zero : (K (F := F)).nCore 0 = 2 := rfl

def P : (K (F := F)).Pay (nD := nD) (Val := Elt F) (Name := ℕ) (U := UU) where
  st := fun q d c => match q with | 0 => iprop(xPts d (qC (Fin.cast nCore_zero c)) (X d) ∗ rowsPts d (Fin.cast nCore_zero c) (fo d))
  dn := fun q d c => match q with | 0 => iprop(xPts d (qC (Fin.cast nCore_zero c)) (X d) ∗ rowsPts d (Fin.cast nCore_zero c) (parts (X d)))
  go := fun q d c i => match q with
    | 0 => iprop(xPts d (qT (Fin.cast nCore_zero c) (Fin.cast nSub_zero i)) (X d) ∗ rowPts d (wid (Fin.cast nCore_zero c) (Fin.cast nSub_zero i)) (fo d))
  td := fun q d c i => match q with
    | 0 => iprop(xPts d (qT (Fin.cast nCore_zero c) (Fin.cast nSub_zero i)) (X d) ∗ rowPts d (wid (Fin.cast nCore_zero c) (Fin.cast nSub_zero i)) (parts (X d)))
  x := fun _ _ => iprop(emp)

instance P_storable : (P (F := F) X fo).IsStorable where
  st q d c := match q with
    | 0 => (inferInstance : BI.Storable (upEmb : UEmb _ 𝕄) iprop(xPts d (qC (Fin.cast nCore_zero c)) (X d) ∗ rowsPts d (Fin.cast nCore_zero c) (fo d)))
  dn q d c := match q with
    | 0 => (inferInstance : BI.Storable (upEmb : UEmb _ 𝕄) iprop(xPts d (qC (Fin.cast nCore_zero c)) (X d) ∗ rowsPts d (Fin.cast nCore_zero c) (parts (X d))))
  go q d c i := match q with
    | 0 => (inferInstance : BI.Storable (upEmb : UEmb _ 𝕄)
      iprop(xPts d (qT (Fin.cast nCore_zero c) (Fin.cast nSub_zero i)) (X d) ∗ rowPts d (wid (Fin.cast nCore_zero c) (Fin.cast nSub_zero i)) (fo d)))
  td q d c i := match q with
    | 0 => (inferInstance : BI.Storable (upEmb : UEmb _ 𝕄)
      iprop(xPts d (qT (Fin.cast nCore_zero c) (Fin.cast nSub_zero i)) (X d) ∗ rowPts d (wid (Fin.cast nCore_zero c) (Fin.cast nSub_zero i)) (parts (X d))))

/-! ## The task's obligation -/

/-- The coordinates of vector subcore `(c, s)`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__hist_body (coordsV c s)
          iV (Memref.isWhole_whole _) oV (Memref.isWhole_whole _)
          sV (Memref.isWhole_whole _) hV (Memref.isWhole_whole _) cc1_scratch2 cc1_scratch3 cc1_scoped0) ⟨⟩ c s := rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl [FloatOps F] (hX : ∀ d, InRange (X d)) : (K (F := F)).TileObl (D (F := F)) 𝒱 (P X fo) v₀ 0 := by
  intro d c i O W hO _ _
  simp only [show (P (F := F) X fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (hX d) (fo d) (qT (Fin.cast nCore_zero c) (Fin.cast nSub_zero i)) O W hO).trans
    (wp_mono frame _ _ fun _ => task_post)

/-! ## Rows and shares -/

theorem oRowSet_eq (w : Fin 32) : oRowSet w = (orow w).set := by
  show ((View.whole (main_v2_scv : Ref sig .scVector)).slice (orow w)).set = _
  rw [View.set_slice]; exact Finset.map_refl

theorem wid_inj {p q : Fin 2 × Fin 16} (h : wid p.1 p.2 = wid q.1 q.2) : p = q := by
  have h1 : 2 * p.2.val + p.1.val = 2 * q.2.val + q.1.val := congrArg Fin.val h
  have := p.1.isLt; have := q.1.isLt
  exact Prod.ext (Fin.ext (by omega)) (Fin.ext (by omega))

theorem wid_surj (w : Fin 32) : ∃ p : Fin 2 × Fin 16, wid p.1 p.2 = w :=
  ⟨(⟨w.val % 2, by omega⟩, ⟨w.val / 2, by omega⟩), Fin.ext (by show 2 * (w.val / 2) + w.val % 2 = w.val; omega)⟩

theorem rows_disjoint : ∀ p ∈ (Finset.univ : Finset (Fin 2 × Fin 16)), ∀ q ∈ (Finset.univ : Finset (Fin 2 × Fin 16)), p ≠ q →
    Disjoint (oRowSet (wid p.1 p.2)) (oRowSet (wid q.1 q.2)) :=
  fun p _ q _ h => by rw [oRowSet_eq, oRowSet_eq]; exact Rect.part_disjoint odiv fun e => h (wid_inj e)

theorem rows_cover : (Finset.univ : Finset (Fin 2 × Fin 16)).biUnion (fun p => oRowSet (wid p.1 p.2)) = Finset.univ := by
  refine Finset.eq_univ_of_forall fun j => ?_
  have hj : j ∈ (Finset.univ : Finset (Fin 32)).biUnion fun w => (orow w).set := by
    rw [Rect.biUnion_part odiv]; exact Finset.mem_univ j
  obtain ⟨w, -, hw⟩ := Finset.mem_biUnion.mp hj
  obtain ⟨p, rfl⟩ := wid_surj w
  exact Finset.mem_biUnion.mpr ⟨p, Finset.mem_univ _, by rw [oRowSet_eq]; exact hw⟩

/-- The partial histograms whole are their rows, SparseCore by SparseCore. -/
theorem rows_split (d : Dev nD) (f : S32x38912.Idx → BitVec 32) :
    (iprop(oLoc d ↦{fullShare} f) : sProp 𝕄) = bigSep Finset.univ fun c : Fin 2 => rowsPts (F := F) d c f := by
  rw [← bigSep_univ_prod (fun p : Fin 2 × Fin 16 => rowPts (F := F) d (wid p.1 p.2) f),
    ← pointsTo_biUnion Finset.univ (ℓ := oLoc d) (fun p : Fin 2 × Fin 16 => oRowSet (wid p.1 p.2)) rows_disjoint, rows_cover]

/-- The packed words at a share are the words at its pieces. -/
theorem pointsTo_split_pieces (d : Dev nD) (f : Buf (Elt F) (iLoc d)) (n : ℕ) (q : PosShare TreeShare) :
    (iprop(iLoc d ↦{q} f) : sProp 𝕄) = bigSep Finset.univ fun k : Fin (n + 1) => iLoc d ↦{piece q n k} f :=
  pointsTo_pieces (Finset.univ : Finset (Idx (iLoc d))) f n q

/-- The packed words whole are the SparseCores' shares, -/
theorem x_cores (d : Dev nD) (f : S9961472.Idx → BitVec 32) :
    (iprop(iLoc d ↦{fullShare} f) : sProp 𝕄) = bigSep Finset.univ fun c : Fin 2 => xPts (F := F) d (qC c) f :=
  pointsTo_split_pieces d f 1 fullShare

/-- and a SparseCore's share its tasks' shares. -/
theorem x_tasks (d : Dev nD) (c : Fin 2) (f : S9961472.Idx → BitVec 32) :
    xPts (F := F) d (qC c) f = bigSep Finset.univ fun i : Fin 16 => xPts (F := F) d (qT c i) f :=
  pointsTo_split_pieces d f 15 (qC c)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands dealt to its tasks and gathered from them. -/
theorem vecSplit : (K (F := F)).VecSplit' (P X fo) 0 := by
  intro d c
  show iprop(xPts d (qC (Fin.cast nCore_zero c)) (X d) ∗ rowsPts d (Fin.cast nCore_zero c) (fo d)) ⊢ |={Set.univ}=> iprop(
      (bigSep Finset.univ fun i : Fin ((K (F := F)).nSub 0) =>
        iprop(xPts d (qT (Fin.cast nCore_zero c) (Fin.cast nSub_zero i)) (X d) ∗ rowPts d (wid (Fin.cast nCore_zero c) (Fin.cast nSub_zero i)) (fo d)))
      ∗ ((bigSep Finset.univ fun i : Fin ((K (F := F)).nSub 0) =>
          iprop(xPts d (qT (Fin.cast nCore_zero c) (Fin.cast nSub_zero i)) (X d) ∗ rowPts d (wid (Fin.cast nCore_zero c) (Fin.cast nSub_zero i)) (parts (X d))))
          -∗ iprop(xPts d (qC (Fin.cast nCore_zero c)) (X d) ∗ rowsPts d (Fin.cast nCore_zero c) (parts (X d)))))
  rw [bigSep_tasks (F := F) (fun i => iprop(xPts d (qT (Fin.cast nCore_zero c) i) (X d) ∗ rowPts d (wid (Fin.cast nCore_zero c) i) (fo d))),
    bigSep_tasks (F := F) (fun i => iprop(xPts d (qT (Fin.cast nCore_zero c) i) (X d) ∗ rowPts d (wid (Fin.cast nCore_zero c) i) (parts (X d)))),
    bigSep_sep', bigSep_sep', x_tasks]
  iintro H; imodintro
  isplitl [H]; · iexact H
  iintro H; iexact H

theorem st0_eq (d : Dev nD) : (bigSep Finset.univ fun c : Fin ((K (F := F)).nCore 0) => (P (F := F) X fo).st 0 d c)
    = iprop((iLoc d ↦{fullShare} X d) ∗ oLoc d ↦{fullShare} fo d) := by
  rw [x_cores, rows_split, ← bigSep_sep']
  exact bigSep_cores (F := F) fun c => iprop(xPts d (qC c) (X d) ∗ rowsPts d c (fo d))
theorem dn0_eq (d : Dev nD) : (bigSep Finset.univ fun c : Fin ((K (F := F)).nCore 0) => (P (F := F) X fo).dn 0 d c)
    = iprop((iLoc d ↦{fullShare} X d) ∗ oLoc d ↦{fullShare} parts (X d)) := by
  rw [x_cores, rows_split, ← bigSep_sep']
  exact bigSep_cores (F := F) fun c => iprop(xPts d (qC c) (X d) ∗ rowsPts d c (parts (X d)))

/-! ## The launch's ghost state -/

/-- No pipeline's tables vary: none has one. -/
abbrev adm : (p : Fin 2) → (pcfgs (F := F) p).Adm := fun p => (cfgs p).toPCfg_adm

end Cert.Proof.Whole

end
-- ==== Proof.Whole.Bucket.lean ====
/-
  The bucket call: its body run at any of its grid's points — the block of predictions and the block of labels loaded,
  the packed bucket codes stored in four stretches of rows — and the call as a region of the host program, entered with
  the unscoped buffers at any contents `V` and left with the packed words' buffer at `words0` of the two arguments.
-/
module

public import proofs.«01_k».proof.Proof.Whole.Launch
public import proofs.«01_k».proof.Proof.Gen.KernelIdeal.Launch
public import proofs.«01_k».proof.Proof.Gen.KernelIdeal.Points
public import Idealize.ShloMosaic.Lib.Pipeline.RegionsLoop
public import Idealize.ShloMosaic.Lib.VecWindow
public import Idealize.ShloMosaic.Lib.Pointwise
public import Idealize.ShloMosaic.Lib.Pipeline.ValueKit

@[expose] public section

noncomputable section

namespace Cert.Proof.Whole

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-- The rows of packed words that a body's run stores, from its block of predictions and its block of labels: row `r` is
    the class `r % 608 / 32` and the row `r % 32` of the block's first half, and the row's place among the four stretches
    of 608 is the quarter of the image's columns. -/
def blk (v0 : S1x19x64x512.Idx → F .f32) (v2 : S1x64x512.Idx → BitVec 32) : S2432x128.Idx → BitVec 32 := fun y =>
  k0_pay4 v0 v2 (ix3 (n0 := 19) (n1 := 32) (n2 := 512) ⟨(y 0).val % 608 / 32, by have := Nat.mod_lt (y 0).val (show 0 < 608 by decide); omega⟩
    ⟨(y 0).val % 32, Nat.mod_lt _ (by decide)⟩ ⟨128 * ((y 0).val / 608) + (y 1).val, by have : (y 0).val < 2432 := (y 0).isLt; have : (y 1).val < 128 := (y 1).isLt; omega⟩)

/-- One stretch of 608 rows: the columns from `128 * q` on of the packed words, reshaped, are the block's rows from
    `608 * q` on. -/
theorem stretch (w : S19x32x512.Idx → BitVec 32) (q : ℕ) (hq : q < 4) (off : Fin 3 → ℕ) (ho : off = ![0, 0, 128 * q]) (hs : S19x32x512.Slices off S19x32x128) (x : S608x128.Idx) :
    shapeCast S608x128 (extractStridedSlice S19x32x128 off w hs) shapeCasts_S19x32x128_S608x128 x
      = w (ix3 (n0 := 19) (n1 := 32) (n2 := 512) ⟨(x 0).val / 32, by have : (x 0).val < 608 := (x 0).isLt; omega⟩ ⟨(x 0).val % 32, Nat.mod_lt _ (by decide)⟩
          ⟨128 * q + (x 1).val, by have : (x 1).val < 128 := (x 1).isLt; omega⟩) := by
  subst ho
  pointwise

/-- The four stretches stored, newest first. -/
def stretches (X0 : S1x19x64x512.Idx → F .f32) (X1 : S1x64x512.Idx → BitVec 32) : List (View.Piece (Elt F) S2432x128 .i32) :=
  [⟨Rect.unit ![1824, 0] ![608, 128] inb_S2432x128_S608x128_1824_0, k0_pay3 (k0_pay4 X0 X1)⟩,
    ⟨Rect.unit ![1216, 0] ![608, 128] inb_S2432x128_S608x128_1216_0, k0_pay2 (k0_pay4 X0 X1)⟩,
    ⟨Rect.unit ![608, 0] ![608, 128] inb_S2432x128_S608x128_608_0, k0_pay1 (k0_pay4 X0 X1)⟩,
    ⟨Rect.unit ![0, 0] ![608, 128] inb_S2432x128_S608x128_0_0, k0_pay5 X0 X1⟩]

/-- A stretch stored at row `608 * q` holds the block's rows there. -/
theorem blk_stretch (X0 : S1x19x64x512.Idx → F .f32) (X1 : S1x64x512.Idx → BitVec 32) (q : ℕ) (hq : q < 4) (x : S608x128.Idx) (y : S2432x128.Idx)
    (h0 : (y 0).val = 608 * q + (x 0).val) (h1 : (y 1).val = (x 1).val) :
    k0_pay4 X0 X1 (ix3 (n0 := 19) (n1 := 32) (n2 := 512) ⟨(x 0).val / 32, by have : (x 0).val < 608 := (x 0).isLt; omega⟩ ⟨(x 0).val % 32, Nat.mod_lt _ (by decide)⟩
          ⟨128 * q + (x 1).val, by have : (x 1).val < 128 := (x 1).isLt; omega⟩) = blk X0 X1 y := by
  have hx : (x 0).val < 608 := (x 0).isLt
  unfold blk
  congr 1
  congr 1 <;> apply Fin.ext <;> dsimp only <;> omega

/-- Every stretch stored agrees with the block, -/
theorem stretches_eq (X0 : S1x19x64x512.Idx → F .f32) (X1 : S1x64x512.Idx → BitVec 32) :
    ∀ p ∈ stretches X0 X1, ∀ x : p.1.shape.Idx, p.2 x = blk X0 X1 (p.1.emb x) := by
  intro p hp
  simp only [stretches, List.mem_cons, List.not_mem_nil, or_false] at hp
  rcases hp with rfl | rfl | rfl | rfl <;> intro x
  · exact (stretch (k0_pay4 X0 X1) 3 (by decide) _ rfl slices_S19x32x512_o0_0_384_S19x32x128 x).trans (blk_stretch X0 X1 3 (by decide) x _ (by show 1824 + 1 * (x 0).val = _; omega) (by show 0 + 1 * (x 1).val = _; omega))
  · exact (stretch (k0_pay4 X0 X1) 2 (by decide) _ rfl slices_S19x32x512_o0_0_256_S19x32x128 x).trans (blk_stretch X0 X1 2 (by decide) x _ (by show 1216 + 1 * (x 0).val = _; omega) (by show 0 + 1 * (x 1).val = _; omega))
  · exact (stretch (k0_pay4 X0 X1) 1 (by decide) _ rfl slices_S19x32x512_o0_0_128_S19x32x128 x).trans (blk_stretch X0 X1 1 (by decide) x _ (by show 608 + 1 * (x 0).val = _; omega) (by show 0 + 1 * (x 1).val = _; omega))
  · exact (stretch (k0_pay4 X0 X1) 0 (by decide) _ rfl slices_S19x32x512_o0_0_0_S19x32x128 x).trans (blk_stretch X0 X1 0 (by decide) x _ (by show 0 + 1 * (x 0).val = _; omega) (by show 0 + 1 * (x 1).val = _; omega))

/-- and every row of the block lies in one of them. -/
theorem stretches_cover (X0 : S1x19x64x512.Idx → F .f32) (X1 : S1x64x512.Idx → BitVec 32) (y : S2432x128.Idx) : ∃ p ∈ stretches X0 X1, y ∈ p.1.set := by
  have h0 : (y 0).val < 2432 := (y 0).isLt
  have h1 : (y 1).val < 128 := (y 1).isLt
  have key : ∀ (o : ℕ) inb, o ≤ (y 0).val → (y 0).val < o + 608 → y ∈ (Rect.unit (s := S2432x128) ![o, 0] ![608, 128] inb).set := by
    intro o inb ha hb
    refine Rect.mem_set_unit.mpr fun a => ?_
    fin_cases a
    · exact ⟨ha, hb⟩
    · exact ⟨Nat.zero_le _, by show (y 1).val < 0 + 128; omega⟩
  unfold stretches
  by_cases c3 : 1824 ≤ (y 0).val
  · exact ⟨_, List.mem_cons_self, key 1824 inb_S2432x128_S608x128_1824_0 c3 (by omega)⟩
  by_cases c2 : 1216 ≤ (y 0).val
  · exact ⟨_, List.mem_cons_of_mem _ List.mem_cons_self, key 1216 inb_S2432x128_S608x128_1216_0 c2 (by omega)⟩
  by_cases c1 : 608 ≤ (y 0).val
  · exact ⟨_, List.mem_cons_of_mem _ (List.mem_cons_of_mem _ List.mem_cons_self), key 608 inb_S2432x128_S608x128_608_0 c1 (by omega)⟩
  exact ⟨_, List.mem_cons_of_mem _ (List.mem_cons_of_mem _ (List.mem_cons_of_mem _ List.mem_cons_self)), key 0 inb_S2432x128_S608x128_0_0 (Nat.zero_le _) (by omega)⟩

/-- The body from its three buffers: the blocks kept, the packed words stored. -/
theorem bucket_run (c : Dev nD) (i : grid0.Coords) (a2 : Memref sig .tc .vmem S1x19x64x512 .f32) (h2 : a2.IsWhole) (a3 : Memref sig .tc .vmem S1x64x512 .i32) (h3 : a3.IsWhole)
    (a4 : Memref sig .tc .vmem S2432x128 .i32) (h4 : a4.IsWhole) (X0 : S1x19x64x512.Idx → F .f32) (X1 : S1x64x512.Idx → BitVec 32) (X2 : S2432x128.Idx → BitVec 32) (Q : PUnit → sProp 𝕄) :
    iprop(owns (c : Thread nD τ) a2 fullShare X0 ∗ owns (c : Thread nD τ) a3 fullShare X1 ∗ owns (c : Thread nD τ) a4 fullShare X2
        ∗ (iprop(owns (c : Thread nD τ) a2 fullShare X0 ∗ owns (c : Thread nD τ) a3 fullShare X1 ∗ owns (c : Thread nD τ) a4 fullShare (blk X0 X1)) -∗ Q ⟨⟩))
      ⊢ wp frame (wpE (defs₀ (F := F)) 𝒱₀ c none) Set.univ (cc0__bucket_body i a2 h2 a3 h3 a4 h4) Q := by
  simp only [cc0__bucket_body_eq_skeleton]; unfold cc0__bucket_body_skel
  simp only [k0_part1_eq_skeleton]; unfold k0_part1_skel
  unfold owns
  iintro ⟨⟨%f0, %hf0, H0⟩, ⟨%f1, %hf1, H1⟩, ⟨%f2, %hf2, H2⟩, Hk⟩
  subst hf0 hf1
  sl_exec!
  sl_step
  iapply Hk
  isplitl [H0]
  · iexists f0; isplitr; · ipureintro; rfl
    iexact H0
  isplitl [H1]
  · iexists f1; isplitr; · ipureintro; rfl
    iexact H1
  iexists _; isplitr; swap; · iexact H2
  ipureintro
  have a0 : View.readAt (Elt F) a2.view (Rect.unit ![0, 0, 0, 0] S1x19x64x512.size inb_S1x19x64x512_S1x19x64x512_0_0_0_0).toLoadRect f0 = View.read (Elt F) a2.view f0 :=
    View.readAt_full a2.view _ _
  have a1 : View.readAt (Elt F) a3.view (Rect.unit ![0, 0, 0] S1x64x512.size inb_S1x64x512_S1x64x512_0_0_0).toLoadRect f1 = View.read (Elt F) a3.view f1 :=
    View.readAt_full a3.view _ _
  unfold bucket_run.sl.H2_4
  rw [a0, a1]
  exact funext fun y => View.read_writes_apply_of_pieces a4.view _ (blk (View.read (Elt F) a2.view f0) (View.read (Elt F) a3.view f1))
    (stretches (View.read (Elt F) a2.view f0) (View.read (Elt F) a3.view f1)) (stretches_eq _ _) y (stretches_cover _ _ y)

/-! ## The call's proof data -/

/-- The block of predictions and the block of labels that grid point `t` reads. -/
def predBlk (P : S4x19x512x512.Idx → F .f32) (t : Fin 32) : S1x19x64x512.Idx → F .f32 := fun x =>
  P (ix4 (n0 := 4) (n1 := 19) (n2 := 512) (n3 := 512) ⟨t.val / 8, by omega⟩ (x 1) ⟨64 * (t.val % 8) + (x 2).val, by have : (x 2).val < 64 := (x 2).isLt; omega⟩ (x 3))
def labBlk (L : S4x512x512.Idx → BitVec 32) (t : Fin 32) : S1x64x512.Idx → BitVec 32 := fun x =>
  L (ix3 (n0 := 4) (n1 := 512) (n2 := 512) ⟨t.val / 8, by omega⟩ ⟨64 * (t.val % 8) + (x 1).val, by have : (x 1).val < 64 := (x 1).isLt; omega⟩ (x 2))

/-- The packed words the call leaves, from the predictions and the labels. -/
def words0 (P : S4x19x512x512.Idx → F .f32) (L : S4x512x512.Idx → BitVec 32) : S77824x128.Idx → BitVec 32 := fun y =>
  let t : Fin 32 := ⟨(y 0).val / 2432, by have : (y 0).val < 77824 := (y 0).isLt; omega⟩
  blk (predBlk P t) (labBlk L t) (ix2 (n0 := 2432) (n1 := 128) ⟨(y 0).val % 2432, Nat.mod_lt _ (by decide)⟩ (y 1))

/-- The words of grid point `t` lie in the rows from `2432 * t` on. -/
theorem words0_at (P : S4x19x512x512.Idx → F .f32) (L : S4x512x512.Idx → BitVec 32) (t : Fin 32) (y : S2432x128.Idx) (z : S77824x128.Idx)
    (h0 : (z 0).val = t.val * 2432 + (y 0).val) (h1 : (z 1).val = (y 1).val) : words0 P L z = blk (predBlk P t) (labBlk L t) y := by
  have hy : (y 0).val < 2432 := (y 0).isLt
  unfold words0
  have et : (⟨(z 0).val / 2432, by have : (z 0).val < 77824 := (z 0).isLt; omega⟩ : Fin 32) = t := Fin.ext (by dsimp only; omega)
  dsimp only
  rw [et]
  congr 1
  funext a
  fin_cases a
  · exact Fin.ext (by show (z 0).val % 2432 = (y 0).val; omega)
  · exact Fin.ext h1

variable (V : (c : Dev nD) → (b : Ref sig .tc) → Buf (Elt F) ((c : Thread nD τ).loc b))

/-- The proof data: the arrays at `V`, the other call's staging buffers kept; the blocks as fetched and the packed words of the point; owed, what the core owes
    before its first SparseCore call. -/
def dat0 (c : Dev nD) : Dat τ (Elt F) (HIx 1) ℕ UU ℕ cfg0 c where
  A w := V c (Pipeline.arrRef spec0 w)
  after w t := match w with
    | ⟨0, _⟩ => predBlk (V c main_arg0) t
    | ⟨1, _⟩ => labBlk (V c main_arg1) t
    | ⟨2, _⟩ => blk (predBlk (V c main_arg0) t) (labBlk (V c main_arg1) t)
  Φ _ := Pipeline.scopedRest (Ix := HIx 1) (Name := ℕ) (U := UU) (Lvl := ℕ) (Val := Elt F) spec0 c
  q _ := fullShare
  owed _ := (K (F := F)).Otc c 0
  recorded _ := {p | (K (F := F)).lev ((c : Thread nD τ), p.1) p.2 ≤ 0}

theorem index0 : ∀ t : Fin grid0.N, win0_0.index t = ![t.val / 8, 0, t.val % 8, 0] := by decide +kernel
theorem index1 : ∀ t : Fin grid0.N, win0_1.index t = ![t.val / 8, t.val % 8, 0] := by decide +kernel
theorem index2 : ∀ t : Fin grid0.N, win0_2.index t = ![t.val, 0] := by decide +kernel

theorem before0_0 (c : Dev nD) (t : Fin cfg0.N) (d : (cfg0.win 0).block.Idx → Elt F (cfg0.win 0).elt) : (dat0 V c).before 0 t d = predBlk (V c main_arg0) t := by
  unfold Dat.before; rw [if_pos (fetch0_0 t)]
  funext x
  show V c main_arg0 (((cfg0.win 0).blk t).view.emb x) = _
  unfold predBlk
  congr 1
  blk_ext [index0]
theorem before0_1 (c : Dev nD) (t : Fin cfg0.N) (d : (cfg0.win 1).block.Idx → Elt F (cfg0.win 1).elt) : (dat0 V c).before 1 t d = labBlk (V c main_arg1) t := by
  unfold Dat.before; rw [if_pos (fetch0_1 t)]
  funext x
  show V c main_arg1 (((cfg0.win 1).blk t).view.emb x) = _
  unfold labBlk
  congr 1
  blk_ext [index1]

theorem body_obligation0 (c : Dev nD) : BodyObligation (dat0 V c) (defs₀ (F := F)) 𝒱₀ none Set.univ := fun t => by
  rw [bigSep_W0, bigSep_W0]
  rw [show (dat0 V c).Φ t.succ = (dat0 V c).Φ t.castSucc from rfl,
    show (dat0 V c).owesAt none t.succ = (dat0 V c).owesAt none t.castSucc from rfl]
  iintro ⟨HΦ, Howes, ⟨%d0, H0⟩, ⟨%d1, H1⟩, ⟨%d2, H2⟩⟩
  rw [before0_0, before0_1]
  iapply (bucket_run c (grid0.coords t) _ _ _ _ _ _ (predBlk (V c main_arg0) t) (labBlk (V c main_arg1) t) _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

/-- The packed words' array after the write-backs. -/
theorem arr0 (c : Dev nD) : (dat0 V c).arrAt 2 cfg0.N = words0 (V c main_arg0) (V c main_arg1) := by
  refine (dat0 V c).arrAt_eq_of_covers 2 _ (by decide +kernel) fun t hf y => ?_
  blk_simp
  have ht : t.val < 32 := t.isLt
  have hy : (y 0).val < 2432 := (y 0).isLt
  have e0 : (((win0_2.blk t).view.emb y) 0).val = t.val * 2432 + (y 0).val := by blk_simp [index2]
  have e1 : (((win0_2.blk t).view.emb y) 1).val = (y 1).val := by blk_simp [index2]
  exact (words0_at _ _ _ _ _ e0 e1).symm

end Cert.Proof.Whole

end
-- ==== Proof.Whole.Finish.lean ====
/-
  The finish call: its body run once — the partial histograms and the triangle loaded whole, the loss stored — and the
  call as a region of the host program, entered with the unscoped buffers at any contents `V` and left with the loss's
  buffer at `finish` of the two operands.
-/
module

public import proofs.«01_k».proof.Proof.Whole.Bucket
public import proofs.«01_k».proof.Proof.Gen.KernelIdeal.Launch
public import proofs.«01_k».proof.Proof.Gen.KernelIdeal.Points
public import Idealize.ShloMosaic.Lib.Pipeline.RegionsLoop
public import Idealize.ShloMosaic.Lib.VecWindow

@[expose] public section

noncomputable section

namespace Cert.Proof.Whole

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-- The loss the finish body stores, from the partial histograms and the triangle. -/
def finish (p : S32x2x19x1024.Idx → BitVec 32) (tri : S1024x1024.Idx → F .f32) : S1x1.Idx → F .f32 :=
  k2_pay1 (k2_pay8 p tri) (k2_pay9 p tri) (k2_pay12 p tri) (k2_pay13 p tri) (k2_pay14 p tri)

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The finish body from its three buffers held whole: the operands kept, the loss stored. -/
theorem fin_run (c : Dev nD) (f0 : Bf (F := F) c (stage2_0 0)) (f1 : Bf (F := F) c (stage2_1 0)) (f2 : Bf (F := F) c (stage2_2 0)) (Q : PUnit → sProp 𝕄) :
    iprop(pt c (stage2_0 0) f0 ∗ pt c (stage2_1 0) f1 ∗ pt c (stage2_2 0) f2
        ∗ (iprop(pt c (stage2_0 0) f0 ∗ pt c (stage2_1 0) f1 ∗ pt c (stage2_2 0) (finish f0 f1)) -∗ Q ⟨⟩))
      ⊢ wp frame (wpE (defs₀ (F := F)) 𝒱₀ c none) Set.univ
          (cc2__finish_body (stage2_0 0) (hstage2_0 0) (stage2_1 0) (hstage2_1 0) (stage2_2 0) (hstage2_2 0)) Q := by
  simp only [cc2__finish_body_eq_skeleton]; unfold cc2__finish_body_skel
  iintro ⟨H0, H1, H2, Hk⟩
  sl_exec!
  sl_step
  iapply Hk
  isplitl [H0]; · iexact H0
  isplitl [H1]; · iexact H1
  have e : (stage2_2 0).view.writes (Elt F) (stage2_2 0).view.junk (fin_run.sl.H2_1 c f0 f1) = finish f0 f1 := by
    unfold fin_run.sl.H2_1 fin_run.sl.r fin_run.sl.r_1 fin_run.sl.r_2 fin_run.sl.r_3 fin_run.sl.r_4
    have a0 : View.readAt (Elt F) (stage2_0 0).view (Rect.unit ![0, 0, 0, 0] S32x2x19x1024.size inb_S32x2x19x1024_S32x2x19x1024_0_0_0_0).toLoadRect f0 = f0 :=
      View.readAt_full (stage2_0 0).view _ _
    have a1 : View.readAt (Elt F) (stage2_1 0).view (Rect.unit ![0, 0] S1024x1024.size inb_S1024x1024_S1024x1024_0_0).toLoadRect f1 = f1 :=
      View.readAt_full (stage2_1 0).view _ _
    rw [a0, a1]
    exact View.read_writes_full (Val := Elt F) (stage2_2 0).view (stage2_2 0).view.junk inb_S1x1_S1x1_0_0 _ []
  rw [← e]
  iexact H2

/-! ## The call as a region -/

variable (V : (c : Dev nD) → (b : Ref sig .tc) → Buf (Elt F) ((c : Thread nD τ).loc b))

/-- What the call leaves the loss's buffer holding. -/
abbrev finOut (c : Dev nD) : S1x1.Idx → F .f32 := finish (V c main_v7) (V c main_v6)

/-- The operands' blocks are their arrays. -/
theorem blk0_read (c : Dev nD) : ((cfg2.win 0).blk t2_0).view.read (Elt F) (V c main_v7) = V c main_v7 := by
  funext x
  show V c main_v7 _ = V c main_v7 x
  congr 1; funext a; apply Fin.ext; exact Window.rect_emb_val_of_index_zero _ _ _ rfl x
theorem blk2_read (c : Dev nD) : ((cfg2.win 1).blk t2_0).view.read (Elt F) (V c main_v6) = V c main_v6 := by
  funext x
  show V c main_v6 _ = V c main_v6 x
  congr 1; funext a; apply Fin.ext; exact Window.rect_emb_val_of_index_zero _ _ _ rfl x

/-- The proof data: the arrays at `V`, the other call's staging buffers kept; the operands' staging buffers as fetched, the loss's at the loss; nothing owed. -/
def dat (c : Dev nD) : Dat τ (Elt F) (HIx 1) ℕ UU ℕ cfg2 c where
  A w := V c (Pipeline.arrRef spec2 w)
  after w _ := match w with
    | ⟨0, _⟩ => V c main_v7
    | ⟨1, _⟩ => V c main_v6
    | ⟨2, _⟩ => finOut V c
  Φ _ := Pipeline.scopedRest (Ix := HIx 1) (Name := ℕ) (U := UU) (Lvl := ℕ) (Val := Elt F) spec2 c
  q _ := fullShare
  owed _ := 0
  recorded _ := {p | (K (F := F)).lev ((c : Thread nD τ), p.1) p.2 ≤ 8}

theorem before0 (c : Dev nD) (d : (cfg2.win 0).block.Idx → Elt F (cfg2.win 0).elt) : (dat V c).before 0 t2_0 d = V c main_v7 := by
  unfold Dat.before; rw [if_pos (by decide)]; exact blk0_read V c
theorem before1 (c : Dev nD) (d : (cfg2.win 1).block.Idx → Elt F (cfg2.win 1).elt) : (dat V c).before 1 t2_0 d = V c main_v6 := by
  unfold Dat.before; rw [if_pos (by decide)]; exact blk2_read V c

theorem body_obligation (c : Dev nD) : BodyObligation (dat V c) (defs₀ (F := F)) 𝒱₀ none Set.univ := fun t => by
  obtain rfl := fin_N2 t
  rw [bigSep_W2, bigSep_W2]
  simp only [owns_whole_eq]
  rw [show (dat V c).Φ t2_0.succ = (dat V c).Φ t2_0.castSucc from rfl,
    show (dat V c).owesAt none t2_0.succ = (dat V c).owesAt none t2_0.castSucc from rfl]
  iintro ⟨HΦ, Howes, ⟨%d0, %f0, %hf0, H0⟩, ⟨%d1, %f1, %hf1, H1⟩, ⟨%d2, %f2, -, H2⟩⟩
  rw [before0] at hf0
  rw [before1] at hf1
  subst hf0 hf1
  iapply (fin_run c (V c main_v7) (V c main_v6) f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The loss's array after the write-back. -/
theorem arr2 (c : Dev nD) : (dat V c).arrAt 2 cfg2.N = finOut V c :=
  (dat V c).arrAt_eq_of_after_last 2 t2_0 (by decide +kernel) _ fun j => rfl

/-! ## What a core owes around the two calls -/

/-- Before its `n`th SparseCore call a core owes that call and the later ones, and every wait it has recorded is within
    the earlier calls' levels. -/
def tcOwes (n : ℕ) (c : Dev nD) : sProp 𝕄 :=
  iprop(∃ W, ⌜∀ p ∈ W, (K (F := F)).lev ((c : Thread nD τ), p.1) p.2 ≤ 8 * n⌝ ∗ owes (c : Thread nD τ) ((K (F := F)).Otc c n) W)

theorem Otc_none (c : Dev nD) (n : ℕ) (g : GSem nD τ sig) : (K (F := F)).Otc c n g none = 0 := by
  unfold SparseCore.Cfg.Otc
  simp only [Finset.sum_apply, Finsupp.coe_finset_sum]
  refine Finset.sum_eq_zero fun q _ => ?_
  split_ifs
  · simp only [Finset.sum_apply, Finsupp.coe_finset_sum]
    exact Finset.sum_eq_zero fun k _ => (tallyAt_apply _ _ _ _ _).trans (if_neg fun h => nomatch h.2)
  · rfl

theorem Otc_one (d : Dev nD) : (K (F := F)).Otc d 1 = 0 := by
  unfold SparseCore.Cfg.Otc
  exact Finset.sum_eq_zero fun q _ => if_neg (by have := q.isLt; omega)

theorem owesAt0_in (c : Dev nD) (t : Fin (cfg0.N + 1)) : tcOwes (F := F) 0 c ⊢ (dat0 V c).owesAt none t := by
  unfold tcOwes Pipeline.Dat.owesAt Pipeline.owesWithin
  iintro ⟨%W, %hW, HO⟩; iexists W
  isplitr; · ipureintro; exact fun p hp => Or.inl (hW p hp)
  iexact HO
theorem owesAt0_out (c : Dev nD) (t : Fin (cfg0.N + 1)) : (dat0 V c).owesAt none t ⊢ tcOwes (F := F) 0 c := by
  unfold tcOwes Pipeline.Dat.owesAt Pipeline.owesWithin
  iintro ⟨%W, %hW, HO⟩; iexists W
  isplitr
  · ipureintro; intro p hp
    rcases hW hp with h | ⟨w, s, rfl⟩
    · exact h
    · exact Nat.zero_le _
  iexact HO
theorem owesAt_in (c : Dev nD) (t : Fin (cfg2.N + 1)) : tcOwes (F := F) 1 c ⊢ (dat V c).owesAt none t := by
  unfold tcOwes Pipeline.Dat.owesAt Pipeline.owesWithin
  rw [Otc_one]
  iintro ⟨%W, %hW, HO⟩; iexists W
  isplitr; · ipureintro; exact fun p hp => Or.inl (hW p hp)
  iexact HO
theorem owesAt_out (c : Dev nD) (t : Fin (cfg2.N + 1)) : (dat V c).owesAt none t ⊢ tcOwes (F := F) 1 c := by
  unfold tcOwes Pipeline.Dat.owesAt Pipeline.owesWithin
  rw [Otc_one]
  iintro ⟨%W, %hW, HO⟩; iexists W
  isplitr
  · ipureintro; intro p hp
    rcases hW hp with h | ⟨w, s, rfl⟩
    · exact h
    · exact Nat.zero_le _
  iexact HO

/-! ## The two calls as regions -/

variable (U V' : (c : Dev nD) → (b : Ref sig .tc) → Buf (Elt F) ((c : Thread nD τ).loc b))

/-- The proof data of both calls: the bucket call entered at `U`, the finish call at `V`. -/
def pdats : (p : Fin 2) → (c : Dev nD) → Dat τ (Elt F) (HIx 1) ℕ UU ℕ (Pipeline.pin (pcfgs (F := F)) adm p) c
  | ⟨0, _⟩ => fun c => dat0 U c
  | ⟨1, _⟩ => fun c => dat V c

set_option backward.isDefEq.respectTransparency.types false in
/-- The bucket call over the unscoped buffers: entered at `U`, left at any `U'` that has the packed words and is `U` off them. -/
def regB (hout : ∀ c, V' c main_v0 = words0 (U c main_arg0) (U c main_arg1)) (hne : ∀ c (b : Ref sig .tc), b ≠ main_v0 → V' c b = U c b) :
    Pipeline.RegionSeg (pcfgs (F := F)) adm (pdats V U) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation0 U c).loose
  hwaits c := Pipeline.cellsWaits_intro _ _ _ _ _ fun w s t => (K (F := F)).mayWait_none _ (Otc_none c 0)
  pre c := iprop(unscopedBufs c (U c) ∗ tcOwes 0 c)
  post c := iprop(unscopedBufs c (V' c) ∗ tcOwes 0 c)
  X _ := BI.emp
  Y _ := BI.emp
  Z c := Pipeline.unscopedRest (Ix := HIx 1) (Name := ℕ) (U := UU) (Lvl := ℕ) spec0 c (U c)
  hentry c := by
    rw [Pipeline.ownSems0_none]
    have hsplit := Pipeline.arrays_of_unscopedBufs (p := 0) (pcfgs (F := F)) adm (pdats V U) (launch0).win (launch0).arr_whole c
      ((pdats V U 0 c).share_full fun _ => rfl) (U c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt0_in U c 0) $$ HO
    isplitr; · iempintro
    iexact Hrest
  hin c := by
    rw [show (pdats V U 0 c).Φ 0 = Pipeline.scopedRest (Ix := HIx 1) (Name := ℕ) (U := UU) (Lvl := ℕ) (Val := Elt F) spec0 c from rfl, show Pipeline.scopedRest (pcfgs (F := F) 0).spec c = Pipeline.scopedRest spec0 c from rfl]
    iintro ⟨-, -, H⟩
    iexact H
  hout c := by
    rw [Pipeline.ownSems0_none, show (pdats V U 0 c).Φ (Fin.last _) = Pipeline.scopedRest (Ix := HIx 1) (Name := ℕ) (U := UU) (Lvl := ℕ) (Val := Elt F) spec0 c from rfl,
      show Pipeline.scopedRest (pcfgs (F := F) 0).spec c = Pipeline.scopedRest spec0 c from rfl]
    iintro H
    isplitr; · iempintro
    isplitr; · iempintro
    iexact H
  hexit c := by
    have hjoin := Pipeline.unscopedBufs_of_arrays (p := 0) (pcfgs (F := F)) adm (Ix := HIx 1) (Name := ℕ) (U := UU) (Lvl := ℕ) (launch0).win (launch0).arr_whole c
      (pdats V U) ((pdats V U 0 c).share_full fun _ => rfl) (U c) (V' c) ((pdats V U 0 c).arrAt · cfg0.N)
      (fun w => by
        fin_cases w
        · exact ((pdats V U 0 c).arrAt_in 0 rfl _).trans (hne c main_arg0 (by decide)).symm
        · exact ((pdats V U 0 c).arrAt_in 1 rfl _).trans (hne c main_arg1 (by decide)).symm
        · exact (arr0 U c).trans (hout c).symm)
      (fun b hb => hne c b fun h => hb (h ▸ Finset.mem_image.mpr ⟨2, Finset.mem_univ _, rfl⟩))
    have hO : (pdats V U 0 c).owesAt none (Fin.last (Pipeline.pin (pcfgs (F := F)) adm 0).N) ⊢ tcOwes (F := F) 0 c := owesAt0_out U c (Fin.last cfg0.N)
    iintro ⟨Ha, HO, -, Hrest⟩
    imodintro
    isplitl [Ha Hrest]
    · iapply hjoin; isplitl [Ha] <;> iassumption
    iapply hO $$ HO

set_option backward.isDefEq.respectTransparency.types false in
/-- The finish call over the unscoped buffers: entered at `V`, left at any `V'` that has the loss's array and is `V` off it. -/
def regF (hout : ∀ c, V' c main_v8 = finOut V c) (hne : ∀ c (b : Ref sig .tc), b ≠ main_v8 → V' c b = V c b) :
    Pipeline.RegionSeg (pcfgs (F := F)) adm (pdats V U) none defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body_obligation V c).loose
  hwaits := Pipeline.hwaits_of_owed_zero _ _ _ _ (K (F := F)).L (K (F := F)).lev 1 fun _ _ => rfl
  pre c := iprop(unscopedBufs c (V c) ∗ tcOwes 1 c)
  post c := iprop(unscopedBufs c (V' c) ∗ tcOwes 1 c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V U) (launch2).win (launch2).arr_whole c
      ((pdats V U 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_in V c 0) $$ HO
    isplitr; · iempintro
    iexact Hrest
  hin c := by
    rw [show (pdats V U 1 c).Φ 0 = Pipeline.scopedRest (Ix := HIx 1) (Name := ℕ) (U := UU) (Lvl := ℕ) (Val := Elt F) spec2 c from rfl, show Pipeline.scopedRest (pcfgs (F := F) 1).spec c = Pipeline.scopedRest spec2 c from rfl]
    iintro ⟨-, -, H⟩
    iexact H
  hout c := by
    rw [Pipeline.ownSems0_none, show (pdats V U 1 c).Φ (Fin.last _) = Pipeline.scopedRest (Ix := HIx 1) (Name := ℕ) (U := UU) (Lvl := ℕ) (Val := Elt F) spec2 c from rfl,
      show Pipeline.scopedRest (pcfgs (F := F) 1).spec c = Pipeline.scopedRest spec2 c from rfl]
    iintro H
    isplitr; · iempintro
    isplitr; · iempintro
    iexact H
  hexit c := by
    have hjoin := Pipeline.unscopedBufs_of_arrays (p := 1) (pcfgs (F := F)) adm (Ix := HIx 1) (Name := ℕ) (U := UU) (Lvl := ℕ) (launch2).win (launch2).arr_whole c
      (pdats V U) ((pdats V U 1 c).share_full fun _ => rfl) (V c) (V' c) ((pdats V U 1 c).arrAt · cfg2.N)
      (fun w => by
        fin_cases w
        · exact ((pdats V U 1 c).arrAt_in 0 rfl _).trans (hne c main_v7 (by decide)).symm
        · exact ((pdats V U 1 c).arrAt_in 1 rfl _).trans (hne c main_v6 (by decide)).symm
        · exact (arr2 V c).trans (hout c).symm)
      (fun b hb => hne c b fun h => hb (h ▸ Finset.mem_image.mpr ⟨2, Finset.mem_univ _, rfl⟩))
    have hO : (pdats V U 1 c).owesAt none (Fin.last (Pipeline.pin (pcfgs (F := F)) adm 1).N) ⊢ tcOwes (F := F) 1 c := owesAt_out V c (Fin.last cfg2.N)
    iintro ⟨Ha, HO, -, Hrest⟩
    imodintro
    isplitl [Ha Hrest]
    · iapply hjoin; isplitl [Ha] <;> iassumption
    iapply hO $$ HO

end Cert.Proof.Whole

end
-- ==== Proof.Whole.Run.lean ====
/-
  The program's run: the bucket call, its packed words flattened, the SparseCore call, the triangle of ones, the finish call, the loss
  read off. At any floats.
-/
module

public import proofs.«01_k».proof.Proof.Whole.Finish
public import Idealize.ShloMosaic.Lib.Pipeline.Frame
public import Idealize.ShloMosaic.Lib.StableHlo.Run

@[expose] public section

noncomputable section

namespace Cert.Proof.Whole

open Cert.KernelIdeal Cert.KernelIdeal.Gen
open Cert.Proof.Tail (words parts InRange)

open Idealize.ShloMosaic Idealize.ShloMosaic.ValueIdx Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

abbrev dv (b : Ref sig .tc) : DevRef τ sig := Proc.devRef .tc b

/-! ## The contents between the steps -/

abbrev opFlat : HloOp τ sig (Elt F) := StableHlo.reshape main_v0 main_v1 (rfl : (.i32 : EltTy) = .i32) shapeCasts_S77824x128_S9961472
abbrev opRow : HloOp τ sig (Elt F) := StableHlo.nullary main_v3 (iotaInDim S1024x1024 32 0)
abbrev opCol : HloOp τ sig (Elt F) := StableHlo.nullary main_v4 (iotaInDim S1024x1024 32 1)
abbrev opGe : HloOp τ sig (Elt F) := StableHlo.binary main_v3 main_v4 main_v5 (cmpi .sge : (⟨S1024x1024, .i32⟩ : BufTy).Contents (Elt F) → (⟨S1024x1024, .i32⟩ : BufTy).Contents (Elt F) → (⟨S1024x1024, .i1⟩ : BufTy).Contents (Elt F))
abbrev opTri : HloOp τ sig (Elt F) := StableHlo.unary main_v5 main_v6 (uitofp .f32 : (⟨S1024x1024, .i1⟩ : BufTy).Contents (Elt F) → (⟨S1024x1024, .f32⟩ : BufTy).Contents (Elt F))
abbrev opSplit : HloOp τ sig (Elt F) := StableHlo.reshape main_v2 main_v7 (rfl : (.i32 : EltTy) = .i32) shapeCasts_S32x38912_S32x2x19x1024
abbrev opLoss : HloOp τ sig (Elt F) := StableHlo.reshape main_v8 main_v9 (rfl : (.f32 : EltTy) = .f32) shapeCasts_S1x1_S_
abbrev opsMid : List (HloOp τ sig (Elt F)) := [opRow, opCol, opGe, opTri, opSplit]

abbrev S0 : Finset (DevRef τ sig) := Pipeline.ucRefs τ sig

def V0 (d : Dev nD) : Valuation τ sig (Elt F) := fun b => m (d, b)
def Vb (d : Dev nD) : Valuation τ sig (Elt F) := Function.update (V0 m d) (dv main_v0) (words0 (V0 m d (dv main_arg0)) (V0 m d (dv main_arg1)))
def V1 (d : Dev nD) : Valuation τ sig (Elt F) := opFlat.result (Vb m d)

/-- The packed words the SparseCore call reads, and what its result's buffer held. -/
def X (d : Dev nD) : S9961472.Idx → BitVec 32 := V1 m d (dv main_v1)
def fo (d : Dev nD) : S32x38912.Idx → BitVec 32 := V1 m d (dv main_v2)

def V2 (d : Dev nD) : Valuation τ sig (Elt F) := Function.update (V1 m d) (dv main_v2) (parts (X m d))
def V3 (d : Dev nD) : Valuation τ sig (Elt F) := after opsMid (V2 m d)
def V4 (d : Dev nD) : Valuation τ sig (Elt F) := Function.update (V3 m d) (dv main_v8) (finOut (fun c b => V3 m c (dv b)) d)
def V5 (d : Dev nD) : Valuation τ sig (Elt F) := opLoss.result (V4 m d)

abbrev scRefs : Finset (DevRef τ sig) := {dv main_v1, dv main_v2}

theorem scRefs_sub : scRefs ⊆ S0 := fun b hb => by
  have : b = dv main_v1 ∨ b = dv main_v2 := by simpa [scRefs] using hb
  rcases this with rfl | rfl <;> exact Finset.mem_filter.mpr ⟨Finset.mem_map_of_mem _ (Finset.mem_univ _), by decide⟩

theorem held_sc (d : Dev nD) (W : Valuation τ sig (Elt F)) :
    (held (T d) S0 W : sProp 𝕄) = iprop(((iLoc d ↦{fullShare} W (dv main_v1)) ∗ oLoc d ↦{fullShare} W (dv main_v2)) ∗ held (T d) (S0 \ scRefs) W) := by
  rw [held_sub_split (T d) scRefs_sub W]
  congr 1
  unfold held scRefs
  rw [SparseCore.bigSep_insert' (by decide), bigSep_singleton]

theorem V2_rest (d : Dev nD) : (held (T d) (S0 \ scRefs) (V2 m d) : sProp 𝕄) = held (T d) (S0 \ scRefs) (V1 m d) :=
  held_congr (T d) fun b hb => Function.update_of_ne
    (fun h : b = dv main_v2 => (Finset.mem_sdiff.mp hb).2 (by rw [h]; exact Finset.mem_insert_of_mem (Finset.mem_singleton_self _))) _ _
theorem V2_v0 (d : Dev nD) : V2 m d (dv main_v1) = X m d := Function.update_of_ne (show dv main_v1 ≠ (dv main_v2) by decide) _ _
theorem V2_v1 (d : Dev nD) : V2 m d (dv main_v2) = parts (X m d) := Function.update_self _ _ _

/-! ## The launch's ghost state -/

def uP : UP := initOf (Pipeline.cells cfgs cellOf_inj) (Pipeline.launchToks cfgs cellOf_inj)
def u₀ : UU := (initOf (K (F := F)).hsCells (K (F := F)).hsToks, (uP, 1))

/-- The two pipelines' shares of it. -/
def G (d : Dev nD) : sProp 𝕄 :=
  iprop((Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d)

theorem own_uP : (BI.own ((embR : Emb (UP × Counters) 𝕄) (uP, 1)) : sProp 𝕄) ⊢ BI.own ((EP : Emb UP 𝕄) uP) := by
  refine (BI.own_op_elim ((embR : Emb (UP × Counters) 𝕄).op_of_mem (Prod.mk_mem_op (URA.mem_op_one uP) (URA.mem_one_op (1 : Counters))))).trans ?_
  exact (sep_elim_left : iprop(BI.own ((EP : Emb UP 𝕄) uP) ∗ BI.own ((embR : Emb (UP × Counters) 𝕄) (1, 1))) ⊢ BI.own ((EP : Emb UP 𝕄) uP))

theorem fund : (BI.own ((EP : Emb UP 𝕄) uP) : sProp 𝕄) ⊢ |==> bigSep Finset.univ fun d : Dev nD => G (F := F) d := by
  have h (Ψ : Dev nD → sProp 𝕄) : (bigSep Finset.univ Ψ : sProp 𝕄) = Ψ 0 := bigSep_univ_of_subsingleton (0 : Fin 1)
  have h2 (Ψ : Fin 2 → sProp 𝕄) : (bigSep Finset.univ Ψ : sProp 𝕄) = iprop(Ψ 0 ∗ Ψ 1) :=
    bigSep_univ_eq_bigSepL [(0 : Fin 2), (1 : Fin 2)] (by decide) (by decide) Ψ
  have e : (BI.own ((EP : Emb UP 𝕄) uP) : sProp 𝕄) ⊢ |==> iprop((bigSep Finset.univ fun c : Dev nD => bigSep Finset.univ fun p : Fin 2 => Pipeline.cellsGhost cfgs (EP : Emb UP 𝕄) p c)
      ∗ bigSep Finset.univ fun c : Dev nD => bigSep Finset.univ fun p : Fin 2 => Pipeline.toksInit cfgs (EP : Emb UP 𝕄) p c) :=
    Pipeline.fund_ghost cfgs (EP : Emb UP 𝕄) cellOf_inj
  simp only [h, h2] at e
  unfold G
  simp only [h]
  exact e

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (X m) (fo m)).x q thr) := by
  unfold u₀
  iintro Hu
  ihave H := (ownU_pair (initOf (K (F := F)).hsCells (K (F := F)).hsToks) ((uP, 1) : UP × Counters)) $$ Hu
  icases H with ⟨HH, HP⟩
  ihave HP := own_uP $$ HP
  imod fund $$ HP with Hg
  imodintro
  isplitl [HH]; · iexact HH
  isplitl [Hg]; · iexact Hg
  rw [show (bigSep Finset.univ fun thr : Thread nD τ => bigSep Finset.univ fun q : Fin 1 => (P (F := F) (X m) (fo m)).x q thr) = bigSep Finset.univ fun _ => iprop(emp) from
    bigSep_congr fun _ _ => bigSep_univ_of_subsingleton (0 : Fin 1), show (bigSep (Finset.univ : Finset (Thread nD τ)) fun _ => iprop(emp)) = (iprop(emp) : sProp 𝕄) from bigSep_emp_const _]
  iempintro

/-! ## @main on the TensorCore -/

/-- What each call is entered and left with. -/
abbrev Cb : (c : Dev nD) → (b : Ref sig .tc) → Buf (Elt F) ((T c : Thread nD τ).loc b) := fun c b => V0 m c (dv b)
abbrev Cb' : (c : Dev nD) → (b : Ref sig .tc) → Buf (Elt F) ((T c : Thread nD τ).loc b) := fun c b => Vb m c (dv b)
abbrev Cf : (c : Dev nD) → (b : Ref sig .tc) → Buf (Elt F) ((T c : Thread nD τ).loc b) := fun c b => V3 m c (dv b)
abbrev Cf' : (c : Dev nD) → (b : Ref sig .tc) → Buf (Elt F) ((T c : Thread nD τ).loc b) := fun c b => V4 m c (dv b)

/-- The bucket call's segment, and the finish call's, from the contents after the middle line. -/
abbrev segB : Pipeline.RegionSeg (pcfgs (F := F)) adm (pdats (Cf m) (Cb m)) none defs₀ 𝒱₀ (K (F := F)).L (K (F := F)).lev 0 :=
  regB (Cf m) (Cb m) (Cb' m) (fun c => Function.update_self _ _ _) fun c b hb => Function.update_of_ne (StableHlo.devRef_ne_of_ne hb) _ _
abbrev segF : Pipeline.RegionSeg (pcfgs (F := F)) adm (pdats (Cf m) (Cb m)) none defs₀ 𝒱₀ (K (F := F)).L (K (F := F)).lev 1 :=
  regF (Cf m) (Cb m) (Cf' m) (fun c => Function.update_self _ _ _) fun c b hb => Function.update_of_ne (StableHlo.devRef_ne_of_ne hb) _ _

/-- What @main leaves: every unscoped buffer at the last contents. -/
abbrev FIN (d : Dev nD) : sProp 𝕄 := held (T d) S0 (V5 m d)

theorem unscoped_V0 (d : Dev nD) : (unscopedBufs d (fun b => m ((SparseCore.T d).loc b)) : sProp 𝕄) = held (T d) S0 (V0 m d) :=
  Pipeline.unscopedBufs_held d (V0 m d)

theorem mid_sub : ∀ op ∈ (opsMid : List (HloOp τ sig (Elt F))), op.bufs ⊆ S0 := by
  intro op h
  simp only [opsMid, List.mem_cons, List.not_mem_nil, or_false] at h
  rcases h with rfl | rfl | rfl | rfl | rfl
  · exact Pipeline.sub_ucRefs _ (StableHlo.nullary_bufs_sub ..)
  · exact Pipeline.sub_ucRefs _ (StableHlo.nullary_bufs_sub ..)
  · exact Pipeline.sub_ucRefs _ (StableHlo.binary_bufs_sub ..)
  · exact Pipeline.sub_ucRefs _ (StableHlo.unary_bufs_sub ..)
  · exact Pipeline.sub_ucRefs _ (StableHlo.reshape_bufs_sub ..)

/-- The program's line, as its parts. -/
theorem main_eq (d : Dev nD) : main (F := F) d = (do
    SparseCore.liftProg (.op (.customCall (Pipeline.entry 0) ()) fun _ => .ret ⟨⟩)
    hlo rfl opFlat (fun _ => .ret ⟨⟩)
    (K (F := F)).run d 0
    (StableHlo.seq opsMid >>= fun _ => do
      SparseCore.liftProg (.op (.customCall (Pipeline.entry 1) ()) fun _ => .ret ⟨⟩)
      hlo rfl opLoss (fun _ => .ret ⟨⟩)
      pure ⟨⟩)) := rfl

/-- What the core holds before its `n`th SparseCore call besides what it owes. -/
def tcRest (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))

theorem hmain [∀ e, Nonempty (Elt F e)] (κ : GSem nD τ sig → ℕ) (d : Dev nD) :
    iprop((K (F := F)).ctx EH (P (X m) (fo m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_V0, main_eq]
  simp only [wp_bind, wp_pure]
  iintro ⟨#Hctx, Hst, ⟨Hb, Hheld, Hts, -⟩, HG⟩
  ihave Hlev := (SparseCore.Cfg.ctx_levAts κ) $$ Hctx
  unfold G
  icases HG with ⟨⟨Hg0, Hg1⟩, Ht0, Ht1⟩
  iapply ((K (F := F)).wp_liftProg (D (F := F)) 𝒱 (T d) Set.univ none _ _)
  iapply ((segB m).wp (pcfgs (F := F)) adm (pdats (Cf m) (Cb m)) none cellOf_inj EP defs₀ 𝒱₀ (K (F := F)).L (K (F := F)).lev d none (by intro u hu; cases hu) _ _)
  ihave Hst := (show (K (F := F)).tcSt EH d 0 ⊢ iprop(tcOwes (F := F) 0 d ∗ tcRest (F := F) 0 d) from Entails.rfl) $$ Hst
  icases Hst with ⟨HO, Hst⟩
  isplitr [Hb Hheld HO Hg0 Ht0]
  swap
  · isplitl [Hb]; · iexact Hb
    isplitl [Hheld HO]
    · rw [show (segB m).pre d = iprop(unscopedBufs d (Cb m d) ∗ tcOwes (F := F) 0 d) from rfl]
      isplitl [Hheld]
      · iapply (show (held (T d) S0 (V0 m d) : sProp 𝕄) ⊢ unscopedBufs d (Cb m d) from Entails.of_eq (Pipeline.unscopedBufs_held d (V0 m d)).symm) $$ Hheld
      iexact HO
    isplitr; · iexact Hlev
    isplitl [Hg0] <;> iassumption
  iintro ⟨Hb, Hpost⟩
  ihave Hpost := (show (segB m).post d ⊢ iprop(unscopedBufs d (Cb' m d) ∗ tcOwes (F := F) 0 d) from Entails.rfl) $$ Hpost
  icases Hpost with ⟨Hheld, HO⟩
  ihave Hheld := (show (unscopedBufs d (Cb' m d) : sProp 𝕄) ⊢ held (T d) S0 (Vb m d) from Entails.of_eq (Pipeline.unscopedBufs_held d (Vb m d))) $$ Hheld
  ihave Hst := (show iprop(tcOwes (F := F) 0 d ∗ tcRest (F := F) 0 d) ⊢ (K (F := F)).tcSt EH d 0 from Entails.rfl) $$ [HO Hst]
  · isplitl [HO] <;> iassumption
  rw [wp_ret]; imodintro
  iapply (wp_hlo_within 𝒱 (T d) none Set.univ (op := opFlat) (S := S0) (Pipeline.sub_ucRefs _ (StableHlo.reshape_bufs_sub ..)) (V := Vb m d)) $$ [Hb Hheld]
  · isplitl [Hb] <;> iassumption
  iintro ⟨Hb, Hheld⟩
  rw [wp_ret]; imodintro
  ihave Hh := (show (held (T d) S0 (opFlat.result (Vb m d)) : sProp 𝕄) ⊢ iprop(((iLoc d ↦{fullShare} X m d) ∗ oLoc d ↦{fullShare} fo m d) ∗ held (T d) (S0 \ scRefs) (V1 m d))
    from Entails.of_eq (held_sc d (V1 m d))) $$ Hheld
  icases Hh with ⟨⟨Hi, Ho⟩, Hrest⟩
  iapply ((K (F := F)).wp_run (D (F := F)) 𝒱 (EH := EH) (P := P (X m) (fo m)) κ d 0) $$ [Hst Hi Ho Hb Hrest Hts Hg1 Ht1]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq (X m) (fo m) d)) $$ Hdn
  icases Hdn' with ⟨Hi, Ho⟩
  ihave Hheld := (show iprop(((iLoc d ↦{fullShare} X m d) ∗ oLoc d ↦{fullShare} parts (X m d)) ∗ held (T d) (S0 \ scRefs) (V1 m d)) ⊢ (held (T d) S0 (V2 m d) : sProp 𝕄)
    from Entails.of_eq (by rw [held_sc, V2_v0, V2_v1, V2_rest])) $$ [Hi Ho Hrest]
  · isplitl [Hi Ho]
    · isplitl [Hi] <;> iassumption
    iexact Hrest
  rw [← wp_bind]
  iapply (StableHlo.wp_seq 𝒱 none Set.univ d S0 _ opsMid mid_sub (by intro op h; simp only [opsMid, List.mem_cons, List.not_mem_nil, or_false] at h; rcases h with rfl | rfl | rfl | rfl | rfl <;> rfl) (V2 m d)) $$ [Hb Hheld]
  · isplitl [Hb] <;> iassumption
  iintro ⟨Hb, Hheld⟩
  simp only [wp_bind, wp_pure]
  unfold SparseCore.Cfg.tcSt
  iapply ((K (F := F)).wp_liftProg (D (F := F)) 𝒱 (T d) Set.univ none _ _)
  iapply ((segF m).wp (pcfgs (F := F)) adm (pdats (Cf m) (Cb m)) none cellOf_inj EP defs₀ 𝒱₀ (K (F := F)).L (K (F := F)).lev d none (by intro u hu; cases hu) _ _)
  icases Hst with ⟨⟨%W, %hW, HO⟩, Hst⟩
  isplitr [Hb Hheld HO Hg1 Ht1]
  swap
  · isplitl [Hb]; · iexact Hb
    isplitl [Hheld HO]
    · rw [show (segF m).pre d = iprop(unscopedBufs d (fun b => V3 m d (dv b)) ∗ tcOwes (F := F) 1 d) from rfl]
      isplitl [Hheld]
      · iapply (show (held (T d) S0 (after opsMid (V2 m d)) : sProp 𝕄) ⊢ unscopedBufs d (fun b => V3 m d (dv b)) from Entails.of_eq (Pipeline.unscopedBufs_held d (V3 m d)).symm) $$ Hheld
      unfold tcOwes
      iexists W
      isplitr; · ipureintro; exact hW
      iexact HO
    isplitr; · iexact Hlev
    isplitl [Hg1] <;> iassumption
  iintro ⟨Hb, Hpost⟩
  ihave Hpost := (show (segF m).post d ⊢ iprop(unscopedBufs d (fun b => V4 m d (dv b)) ∗ tcOwes (F := F) 1 d) from Entails.rfl) $$ Hpost
  icases Hpost with ⟨Hheld, HO⟩
  ihave Hheld := (show (unscopedBufs d (fun b => V4 m d (dv b)) : sProp 𝕄) ⊢ held (T d) S0 (V4 m d) from Entails.of_eq (Pipeline.unscopedBufs_held d (V4 m d))) $$ Hheld
  rw [wp_ret]; imodintro
  iapply (wp_hlo_within 𝒱 (T d) none Set.univ (op := opLoss) (S := S0) (Pipeline.sub_ucRefs _ (StableHlo.reshape_bufs_sub ..)) (V := V4 m d)) $$ [Hb Hheld]
  · isplitl [Hb] <;> iassumption
  iintro ⟨Hb, Hheld⟩
  rw [wp_ret]; imodintro; imodintro
  isplitl [HO Hst]
  · isplitl [HO]
    · unfold tcOwes
      icases HO with ⟨%W', %hW', HO⟩
      iexists W'
      isplitr; · ipureintro; exact hW'
      iexact HO
    iexact Hst
  isplitl [Hheld]; · iexact Hheld
  isplitl [Hb] <;> iassumption

/-! ## What the run leaves -/

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v9

abbrev finRefs : Finset (DevRef τ sig) := {dv main_arg0, dv main_arg1, dv main_v9}
theorem finRefs_sub : finRefs ⊆ S0 := fun b hb => by
  have : b = dv main_arg0 ∨ b = dv main_arg1 ∨ b = dv main_v9 := by simpa [finRefs] using hb
  rcases this with rfl | rfl | rfl <;> exact Finset.mem_filter.mpr ⟨Finset.mem_map_of_mem _ (Finset.mem_univ _), by decide⟩

theorem held_fin (d : Dev nD) (W : Valuation τ sig (Elt F)) :
    (held (T d) S0 W : sProp 𝕄) = iprop(((aLoc d ↦{fullShare} W (dv main_arg0)) ∗ (bLoc d ↦{fullShare} W (dv main_arg1)) ∗ rLoc d ↦{fullShare} W (dv main_v9)) ∗ held (T d) (S0 \ finRefs) W) := by
  rw [held_sub_split (T d) finRefs_sub W]
  congr 1
  unfold held finRefs
  rw [SparseCore.bigSep_insert' (by decide), SparseCore.bigSep_insert' (by decide), bigSep_singleton]

def fq (d : Dev nD) (s' : Phys nD τ sig (Elt F)) : Prop :=
  s'.mem.mem (aLoc d) = V5 m d (dv main_arg0) ∧ s'.mem.mem (bLoc d) = V5 m d (dv main_arg1) ∧ s'.mem.mem (rLoc d) = V5 m d (dv main_v9)

theorem hfin (d : Dev nD) (s' : Phys nD τ sig (Elt F)) : iprop(FIN m d ∗ SI s') ⊢ (⌜fq m d s'⌝ : sProp 𝕄) := by
  unfold FIN
  rw [held_fin]
  iintro ⟨⟨⟨Ha, Hb, Hr⟩, -⟩, HSI⟩
  ihave H := (persistent_entails_right (SI_pointsTo_agree (st := s') (ℓ := aLoc d) (I := Finset.univ) (q := fullShare) (f := V5 m d (dv main_arg0)))) $$ [HSI Ha]
  · isplitl [HSI] <;> iassumption
  icases H with ⟨%h1, HSI, -⟩
  ihave H := (persistent_entails_right (SI_pointsTo_agree (st := s') (ℓ := bLoc d) (I := Finset.univ) (q := fullShare) (f := V5 m d (dv main_arg1)))) $$ [HSI Hb]
  · isplitl [HSI] <;> iassumption
  icases H with ⟨%h2, HSI, -⟩
  ihave H := (SI_pointsTo_agree (st := s') (ℓ := rLoc d) (I := Finset.univ) (q := fullShare) (f := V5 m d (dv main_v9))) $$ [HSI Hr]
  · isplitl [HSI] <;> iassumption
  icases H with %h3
  ipureintro; exact ⟨funext fun i => h1 i (Finset.mem_univ i), funext fun i => h2 i (Finset.mem_univ i), funext fun i => h3 i (Finset.mem_univ i)⟩

/-- Nothing writes a buffer that is none of the written ones, -/
theorem V5_ne (d : Dev nD) (b : Ref sig .tc) (h : b ∉ ({main_v0, main_v1, main_v2, main_v3, main_v4, main_v5, main_v6, main_v7, main_v8, main_v9} : Finset (Ref sig .tc))) :
    V5 m d (dv b) = V0 m d (dv b) := by
  simp only [Finset.mem_insert, Finset.mem_singleton, not_or] at h
  obtain ⟨h0, h1, h2, h3, h4, h5, h6, h7, h8, h9⟩ := h
  unfold V5 V4 V3 V2 V1 Vb opsMid
  rw [StableHlo.result_of_writes_ne opLoss _ main_v9 b rfl h9, Function.update_of_ne (devRef_ne_of_ne h8)]
  simp only [after_cons, after_nil]
  rw [StableHlo.result_of_writes_ne opSplit _ main_v7 b rfl h7, StableHlo.result_of_writes_ne opTri _ main_v6 b rfl h6,
    StableHlo.result_of_writes_ne opGe _ main_v5 b rfl h5, StableHlo.result_of_writes_ne opCol _ main_v4 b rfl h4,
    StableHlo.result_of_writes_ne opRow _ main_v3 b rfl h3, Function.update_of_ne (devRef_ne_of_ne h2),
    StableHlo.result_of_writes_ne opFlat _ main_v1 b rfl h1, Function.update_of_ne (devRef_ne_of_ne h0)]
/-- so the arguments stay. -/
theorem V5_arg0 (d : Dev nD) : V5 m d (dv main_arg0) = m (aLoc d) := V5_ne m d main_arg0 (by decide)
theorem V5_arg1 (d : Dev nD) : V5 m d (dv main_arg1) = m (bLoc d) := V5_ne m d main_arg1 (by decide)

/-! ## The program's run -/

def QC : PUnit × MemSt nD τ sig (Elt F) → Prop :=
  fun r => (∀ c : Dev nD, r.2.mem (aLoc c) = m (aLoc c) ∧ r.2.mem (bLoc c) = m (bLoc c) ∧ r.2.mem (rLoc c) = V5 m c (dv main_v9)) ∧ r.2.sem = fun _ => 0

theorem run_main [∀ e, Nonempty (Elt F e)] (hX : ∀ d, InRange (X m d)) : θ_run (defs (F := F)) (threads (F := F)) ⟨m, fun _ => 0, ρ⟩ (QC m) :=
  SparseCore.Cfg.θ_run_sc_quiescent (K := K (F := F)) (D := D (F := F)) (𝒱 := 𝒱) (EH := EH) (P := P (X m) (fo m)) (A := ∅) facts v₀
    (fun q hq => match q with | 0 => nomatch hq)
    (fun q _ => match q with | 0 => tileObl (X m) (fo m) hX)
    (fun q _ => match q with | 0 => SparseCore.Cfg.VecSplit.of_plain (vecSplit (X m) (fo m)))
    m ρ main G (FIN m) (u₀ (F := F)) (sep_elim_left.trans (hu₀ m)) (hmain m ρ) (fq m) (hfin m) (QC m)
    (fun _ h hz => ⟨fun c => ⟨(h c).1.trans (V5_arg0 m c), (h c).2.1.trans (V5_arg1 m c), (h c).2.2⟩, hz⟩)

end Cert.Proof.Whole

end
-- ==== Proof.Whole.Codes.lean ====
/-
  The kernel's packed words over the extended reals, where the predictions are reals: each word holds the codes of one
  class at two pixels, so the counts of the codes are the pixels' counts by flag, class
  and bucket; and the program's result, the loss of those counts.
-/
module

public import proofs.«01_k».proof.Proof.Whole.Value
public import proofs.«01_k».proof.Proof.Whole.Run

@[expose] public section

noncomputable section

namespace Cert.Proof.Whole

open Idealize.ShloMosaic Idealize.ShloMosaic.StableHlo
open Cert.KernelIdeal Cert.KernelIdeal.Gen Cert.Proof.Loss
open Cert.Proof.Hist (lo hi cnt hits)
open Cert.Proof.Tail (code counts counts_lt parts_sum words parts InRange triangle triangle_at)

/-- The code of a pixel at a class as the kernel computes it from the pixel's predictions. -/
theorem code_kernel (x : Fin 19 → ℝ) (v : Fin 19 → EReal) (hv : ∀ c, v c = ((x c : ℝ) : EReal)) (l : BitVec 32) (c : Fin 19) :
    IntOp.addi (IntOp.addi (Scalar.select (IntOp.cmpi .eq l (BitVec.ofNat 32 c.val)) 19456#32 0#32) (IntOp.muli (BitVec.ofNat 32 c.val) 1024#32))
        (IntOp.minsi (FloatOps.fptosi (F := Ideal) (φ := .f32) 32 (Scalar.select (IntOp.cmpi .eq l (BitVec.ofNat 32 c.val))
          (1 - Ideal.exp (v c - Finset.fold max (Ideal.ofBits .f32 4286578688#32) (fun k => v k) Finset.univ)
            * Ideal.div 1 (∑ k, Ideal.exp (v k - Finset.fold max (Ideal.ofBits .f32 4286578688#32) (fun k => v k) Finset.univ)))
          (Ideal.exp (v c - Finset.fold max (Ideal.ofBits .f32 4286578688#32) (fun k => v k) Finset.univ)
            * Ideal.div 1 (∑ k, Ideal.exp (v k - Finset.fold max (Ideal.ofBits .f32 4286578688#32) (fun k => v k) Finset.univ)))
          * Ideal.ofBits .f32 1149239296#32)) 1023#32)
      = BitVec.ofNat 32 (code (flag l c) c (bucket x l c)) := by
  obtain rfl : v = fun c => ((x c : ℝ) : EReal) := funext hv
  obtain ⟨t, ht⟩ := fold_max_coe x
  simp only [ht]
  exact code_word x l c _ (prob_mul x c t)

variable (P : S4x19x512x512.Idx → Ideal .f32) (L : S4x512x512.Idx → BitVec 32)

/-- The code of pixel `k` at class `c`, by number; zero where there is no such pixel or class. -/
def codeAt (k c : ℕ) : ℕ :=
  if h : k < 1048576 ∧ c < 19 then code (flag (lab L ⟨k, h.1⟩) ⟨c, h.2⟩) ⟨c, h.2⟩ (bucket (pix P ⟨k, h.1⟩) (lab L ⟨k, h.1⟩) ⟨c, h.2⟩) else 0

/-- Every such code names a counter. -/
theorem codeAt_lt (k c : ℕ) : codeAt P L k c < 38912 := by
  unfold codeAt
  split
  · exact code_lt _ _ _
  · omega

/-- The code of a pixel and a class there are. -/
theorem codeAt_eq (k : Fin 1048576) (c : Fin 19) : codeAt P L k.val c.val = code (flag (lab L k) c) c (bucket (pix P k) (lab L k) c) :=
  dif_pos ⟨k.isLt, c.isLt⟩

/-- A label of a grid point's block. -/
theorem labBlk_at (t : Fin 32) (h : Fin 64) (w : Fin 512) (k : Fin 1048576) (hk : k.val = (t.val * 64 + h.val) * 512 + w.val) :
    labBlk L t (ix3 0 h w) = lab L k := by
  unfold lab
  show L (ix3 ⟨t.val / 8, _⟩ ⟨64 * (t.val % 8) + h.val, _⟩ w) = _
  have := t.isLt; have := h.isLt; have := w.isLt
  congr 1
  have e0 : t.val / 8 = k.val / 262144 := by omega
  have e1 : 64 * (t.val % 8) + h.val = k.val / 512 % 512 := by omega
  have e2 : w.val = k.val % 512 := by omega
  funext a
  match a with
  | ⟨0, _⟩ => exact Fin.ext e0
  | ⟨1, _⟩ => exact Fin.ext e1
  | ⟨2, _⟩ => exact Fin.ext e2

section real
variable (hP : ∀ i, ∃ r : ℝ, P i = (r : EReal))
include hP

/-- A prediction of a grid point's block. -/
theorem predBlk_at (t : Fin 32) (h : Fin 64) (w : Fin 512) (k : Fin 1048576) (hk : k.val = (t.val * 64 + h.val) * 512 + w.val) (c : Fin 19) :
    predBlk P t (ix4 0 c h w) = ((pix P k c : ℝ) : EReal) := by
  rw [← pix_at P hP]
  show P (ix4 ⟨t.val / 8, _⟩ c ⟨64 * (t.val % 8) + h.val, _⟩ w) = _
  have := t.isLt; have := h.isLt; have := w.isLt
  congr 1
  have e0 : t.val / 8 = k.val / 262144 := by omega
  have e1 : 64 * (t.val % 8) + h.val = k.val / 512 % 512 := by omega
  have e2 : w.val = k.val % 512 := by omega
  funext a
  match a with
  | ⟨0, _⟩ => exact Fin.ext e0
  | ⟨1, _⟩ => rfl
  | ⟨2, _⟩ => exact Fin.ext e1
  | ⟨3, _⟩ => exact Fin.ext e2

/-- A packed word of a grid point's block: a class's codes at two pixels 32 rows apart. -/
theorem pay4_at (t : Fin 32) (c : Fin 19) (r : Fin 32) (w : Fin 512) :
    k0_pay4 (predBlk P t) (labBlk L t) (ix3 c r w)
      = IntOp.ori (BitVec.ofNat 32 (codeAt P L ((t.val * 64 + r.val) * 512 + w.val) c.val))
          (IntOp.shli .vector (BitVec.ofNat 32 (codeAt P L ((t.val * 64 + (32 + r.val)) * 512 + w.val) c.val)) 16#32) := by
  have := t.isLt; have := r.isLt; have := w.isLt
  have a (h : Fin 64) (k : Fin 1048576) (hk : k.val = (t.val * 64 + h.val) * 512 + w.val) :=
    (code_kernel (pix P k) (fun c => predBlk P t (ix4 0 c h w)) (predBlk_at P hP t h w k hk) (labBlk L t (ix3 0 h w)) c).trans
      ((congrArg (fun l => BitVec.ofNat 32 (code (flag l c) c (bucket (pix P k) l c))) (labBlk_at L t h w k hk)).trans
        (congrArg (BitVec.ofNat 32) (codeAt_eq P L k c).symm))
  unfold k0_pay4
  pointwise
  exact congrArg₂ (fun a b => IntOp.ori a (IntOp.shli .vector b 16#32))
    (a ⟨r.val, by omega⟩ ⟨(t.val * 64 + r.val) * 512 + w.val, by omega⟩ rfl)
    (a ⟨32 + r.val, by omega⟩ ⟨(t.val * 64 + (32 + r.val)) * 512 + w.val, by omega⟩ rfl)

/-- A packed word of all the words: a class's codes at two pixels 32 rows apart. -/
theorem words0_pack (t q c r l : ℕ) (ht : t < 32) (hq : q < 4) (hc : c < 19) (hr : r < 32) (hl : l < 128) (z : S77824x128.Idx)
    (h0 : (z 0).val = t * 2432 + (q * 608 + (c * 32 + r))) (h1 : (z 1).val = l) :
    words0 P L z = IntOp.ori (BitVec.ofNat 32 (codeAt P L ((t * 64 + r) * 512 + (q * 128 + l)) c))
      (IntOp.shli .vector (BitVec.ofNat 32 (codeAt P L ((t * 64 + (32 + r)) * 512 + (q * 128 + l)) c)) 16#32) := by
  rw [words0_at P L ⟨t, ht⟩ (ix2 (n0 := 2432) (n1 := 128) ⟨q * 608 + (c * 32 + r), by omega⟩ ⟨l, hl⟩) z h0 h1]
  have e : blk (predBlk P ⟨t, ht⟩) (labBlk L ⟨t, ht⟩) (ix2 (n0 := 2432) (n1 := 128) ⟨q * 608 + (c * 32 + r), by omega⟩ ⟨l, hl⟩)
      = k0_pay4 (predBlk P ⟨t, ht⟩) (labBlk L ⟨t, ht⟩) (ix3 (n0 := 19) (n1 := 32) (n2 := 512) ⟨c, hc⟩ ⟨r, hr⟩ ⟨q * 128 + l, by omega⟩) := by
    unfold blk
    congr 1
    have e0 : (q * 608 + (c * 32 + r)) % 608 / 32 = c := by omega
    have e1 : (q * 608 + (c * 32 + r)) % 32 = r := by omega
    have e2 : 128 * ((q * 608 + (c * 32 + r)) / 608) + l = q * 128 + l := by omega
    funext a
    match a with
    | ⟨0, _⟩ => exact Fin.ext e0
    | ⟨1, _⟩ => exact Fin.ext e1
    | ⟨2, _⟩ => exact Fin.ext e2
  rw [e]
  exact pay4_at P L hP ⟨t, ht⟩ ⟨c, hc⟩ ⟨r, hr⟩ ⟨q * 128 + l, by omega⟩

end real

/-! ## Counting -/

/-- A sum over the numbers below a product, in rows. -/
theorem sum_rows (M N : ℕ) (g : ℕ → ℕ) : ∑ n ∈ Finset.range (M * N), g n = ∑ i ∈ Finset.range M, ∑ j ∈ Finset.range N, g (i * N + j) := by
  induction M with
  | zero => simp
  | succ M ih => rw [Nat.succ_mul, Finset.sum_range_add, ih, Finset.sum_range_succ]

/-- The pixels of all the classes, summed word by word: 32 grid points, four stretches of columns, the classes, the rows of
    the block's first half, and 128 columns. -/
theorem sum_pixels (I : ℕ → ℕ → ℕ) :
    (∑ t ∈ Finset.range 32, ∑ q ∈ Finset.range 4, ∑ c ∈ Finset.range 19, ∑ r ∈ Finset.range 32, ∑ l ∈ Finset.range 128,
        (I ((t * 64 + r) * 512 + (q * 128 + l)) c + I ((t * 64 + (32 + r)) * 512 + (q * 128 + l)) c))
      = ∑ c ∈ Finset.range 19, ∑ k ∈ Finset.range 1048576, I k c := by
  have e (c : ℕ) : ∑ k ∈ Finset.range 1048576, I k c = ∑ t ∈ Finset.range 32, ∑ r ∈ Finset.range 32,
      ((∑ q ∈ Finset.range 4, ∑ l ∈ Finset.range 128, I ((t * 64 + r) * 512 + (q * 128 + l)) c)
        + ∑ q ∈ Finset.range 4, ∑ l ∈ Finset.range 128, I ((t * 64 + (32 + r)) * 512 + (q * 128 + l)) c) := by
    rw [show 1048576 = 2048 * 512 from rfl, sum_rows, show 2048 = 32 * 64 from rfl, sum_rows]
    refine Finset.sum_congr rfl fun t _ => ?_
    rw [show 64 = 32 + 32 from rfl, Finset.sum_range_add, ← Finset.sum_add_distrib]
    refine Finset.sum_congr rfl fun r _ => ?_
    rw [show 512 = 4 * 128 from rfl, sum_rows, sum_rows]
  rw [Finset.sum_congr rfl fun c _ => e c]
  refine Eq.trans ?_ Finset.sum_comm
  refine Finset.sum_congr rfl fun t _ => ?_
  refine Finset.sum_comm.trans ?_
  refine Finset.sum_congr rfl fun c _ => ?_
  refine Finset.sum_comm.trans ?_
  refine Finset.sum_congr rfl fun r _ => ?_
  simp only [Finset.sum_add_distrib]

/-- A sum over the words, word by word. -/
theorem sum_words (g : ℕ → ℕ) : ∑ n ∈ Finset.range 9961472, g n
    = ∑ t ∈ Finset.range 32, ∑ q ∈ Finset.range 4, ∑ c ∈ Finset.range 19, ∑ r ∈ Finset.range 32, ∑ l ∈ Finset.range 128,
        g ((t * 2432 + (q * 608 + (c * 32 + r))) * 128 + l) := by
  rw [show 9961472 = 77824 * 128 from rfl, sum_rows, show 77824 = 32 * 2432 from rfl, sum_rows]
  refine Finset.sum_congr rfl fun t _ => ?_
  rw [show 2432 = 4 * 608 from rfl, sum_rows]
  refine Finset.sum_congr rfl fun q _ => ?_
  rw [show 608 = 19 * 32 from rfl, sum_rows]

/-- The pixels of a flag, class and bucket are those of its code, whatever the class. -/
theorem sum_codeAt (f : Fin 2) (c : Fin 19) (b : Fin 1024) :
    (∑ c' ∈ Finset.range 19, ∑ k ∈ Finset.range 1048576, if codeAt P L k c' = code f c b then 1 else 0) = tally P L f c b := by
  rw [← Fin.sum_univ_eq_sum_range (fun c' => ∑ k ∈ Finset.range 1048576, if codeAt P L k c' = code f c b then 1 else 0) 19]
  have e (c' : Fin 19) : (∑ k ∈ Finset.range 1048576, if codeAt P L k c'.val = code f c b then 1 else 0)
      = ∑ k : Fin 1048576, if c' = c ∧ flag (lab L k) c' = f ∧ bucket (pix P k) (lab L k) c' = b then 1 else 0 := by
    rw [← Fin.sum_univ_eq_sum_range (fun k => if codeAt P L k c'.val = code f c b then 1 else 0) 1048576]
    refine Finset.sum_congr rfl fun k _ => ?_
    rw [codeAt_eq]
    exact if_congr (code_inj ..) rfl rfl
  rw [Finset.sum_congr rfl fun c' _ => e c', Finset.sum_eq_single c]
  · unfold tally pixels
    rw [Finset.card_filter]
    refine Finset.sum_congr rfl fun k _ => if_congr ?_ rfl rfl
    simp
  · intro c' _ h
    refine Finset.sum_eq_zero fun k _ => if_neg fun hh => h hh.1
  · intro h; exact absurd (Finset.mem_univ c) h

/-! ## The program's buffers -/

variable (m : (ℓ : Loc nD τ sig) → Buf (Elt Ideal) ℓ) (d : Dev nD)

/-- The predictions the program is given. -/
abbrev preds : S4x19x512x512.Idx → Ideal .f32 := m (aLoc d)
/-- The labels the program is given. -/
abbrev labels : S4x512x512.Idx → BitVec 32 := m (bLoc d)

/-- The flattened words, read at a number. -/
theorem words_flat (n : ℕ) (hn : n < 9961472) :
    words (X m d) n = words0 (preds m d) (labels m d) (ix2 (n0 := 77824) (n1 := 128) ⟨n / 128, by omega⟩ ⟨n % 128, by omega⟩) := by
  unfold words
  rw [dif_pos hn]
  have : X m d = shapeCast S9961472 (words0 (preds m d) (labels m d)) shapeCasts_S77824x128_S9961472 := by
    unfold X V1
    have h : Vb m d (dv main_v0) = words0 (preds m d) (labels m d) := Function.update_self _ _ _
    rw [← h]
    rfl
  rw [this]
  pointwise

variable (hP : ∀ i, ∃ r : ℝ, preds m d i = (r : EReal))
include hP

/-- A flattened word's two codes. -/
theorem words_codes (t q c r l : ℕ) (ht : t < 32) (hq : q < 4) (hc : c < 19) (hr : r < 32) (hl : l < 128) :
    lo (words (X m d) ((t * 2432 + (q * 608 + (c * 32 + r))) * 128 + l)) = codeAt (preds m d) (labels m d) ((t * 64 + r) * 512 + (q * 128 + l)) c
      ∧ hi (words (X m d) ((t * 2432 + (q * 608 + (c * 32 + r))) * 128 + l)) = codeAt (preds m d) (labels m d) ((t * 64 + (32 + r)) * 512 + (q * 128 + l)) c := by
  have h0 : ((t * 2432 + (q * 608 + (c * 32 + r))) * 128 + l) / 128 = t * 2432 + (q * 608 + (c * 32 + r)) := by omega
  have h1 : ((t * 2432 + (q * 608 + (c * 32 + r))) * 128 + l) % 128 = l := by omega
  rw [words_flat m d _ (by omega), words0_pack (preds m d) (labels m d) hP t q c r l ht hq hc hr hl _ h0 h1]
  exact pack _ _ (codeAt_lt ..) (codeAt_lt ..)

/-- The counts of the codes among the words are the pixels' counts. -/
theorem counts_words : counts (words (X m d)) = tally (preds m d) (labels m d) := by
  funext f c b
  unfold counts cnt
  rw [← sum_codeAt, ← sum_pixels fun k c' => if codeAt (preds m d) (labels m d) k c' = code f c b then 1 else 0, sum_words]
  refine Finset.sum_congr rfl fun t ht => Finset.sum_congr rfl fun q hq => Finset.sum_congr rfl fun c' hc => Finset.sum_congr rfl fun r hr =>
    Finset.sum_congr rfl fun l hl => ?_
  have h := words_codes m d hP t q c' r l (Finset.mem_range.1 ht) (Finset.mem_range.1 hq) (Finset.mem_range.1 hc) (Finset.mem_range.1 hr) (Finset.mem_range.1 hl)
  rw [Nat.zero_add]
  unfold hits
  rw [h.1, h.2]

omit hP

/-- Before the finishing call the split counts are the tiles' histograms, -/
theorem V3_parts : V3 m d (dv main_v7) = shapeCast S32x2x19x1024 (parts (X m d)) shapeCasts_S32x38912_S32x2x19x1024 := by
  unfold V3 opsMid
  simp only [after_cons, after_nil]
  rw [← V2_v1 m d]
  rfl

/-- and the matrix is the triangle. -/
theorem V3_tri : V3 m d (dv main_v6) = triangle := by
  unfold V3 opsMid
  simp only [after_cons, after_nil]
  rw [StableHlo.result_of_writes_ne opSplit _ main_v7 main_v6 rfl (by decide)]
  rfl

/-- The whole program's finish body computes what the tail's does. -/
theorem finish_eq (p : S32x2x19x1024.Idx → BitVec 32) (tri : S1024x1024.Idx → Ideal .f32) : finish (F := Ideal) p tri = Cert.Proof.Tail.finish (F := Ideal) p tri := rfl

include hP

/-- The program's result is the loss of the pixels' counts. -/
theorem V5_out : V5 m d (dv main_v9) = fun _ => ((loss (tally (preds m d) (labels m d)) : ℝ) : EReal) := by
  have h : V5 m d (dv main_v9) = shapeCast S_ (finish (F := Ideal) (V3 m d (dv main_v7)) (V3 m d (dv main_v6))) shapeCasts_S1x1_S_ := by
    unfold V5 V4
    have : Function.update (V3 m d) (dv main_v8) (finOut (fun c b => V3 m c (dv b)) d) (dv main_v8) = finish (F := Ideal) (V3 m d (dv main_v7)) (V3 m d (dv main_v6)) :=
      Function.update_self _ _ _
    rw [← this]
    rfl
  rw [h, V3_parts, V3_tri, finish_eq, ← counts_words m d hP]
  funext j
  refine Eq.trans ?_ (finish_apply _ triangle _ (parts_sum (X m d)) (counts_lt _) triangle_at)
  pointwise

end Cert.Proof.Whole
-- ==== Proof.Whole.Range.lean ====
/-
  The kernel's packed words over the extended reals, whatever the predictions: an exponential by the reciprocal of a sum that
  it is in is a number of the unit interval, so every code of a word names a counter.
-/
module

public import proofs.«01_k».proof.Proof.Whole.Codes

@[expose] public section

noncomputable section

namespace Cert.Proof.Whole

open Idealize.ShloMosaic Idealize.ShloMosaic.StableHlo
open Cert.KernelIdeal Cert.KernelIdeal.Gen Cert.Proof.Loss
open Cert.Proof.Tail (code words InRange)

/-- An exponential is not negative. -/
theorem exp_nonneg (x : EReal) : 0 ≤ Ideal.exp x := by
  induction x using EReal.rec with
  | bot => exact le_refl _
  | coe r => exact EReal.coe_nonneg.2 (Real.exp_pos r).le
  | top => exact le_top

/-- A term by the reciprocal of a sum of terms none of which is negative is a real of the unit interval. -/
theorem share_unit (a : Fin 19 → EReal) (ha : ∀ k, 0 ≤ a k) (c : Fin 19) : ∃ r : ℝ, 0 ≤ r ∧ r ≤ 1 ∧ a c * Ideal.div 1 (∑ k, a k) = (r : EReal) := by
  have h : a c ≤ ∑ k, a k := Finset.single_le_sum (fun k _ => ha k) (Finset.mem_univ c)
  have h0 := ha c
  revert h h0
  generalize ∑ k, a k = s
  generalize a c = p
  intro h h0
  induction s using EReal.rec with
  | bot => exact absurd (h0.trans h) (by simp)
  | top => exact ⟨0, le_refl _, zero_le_one, by simp [Ideal.div]⟩
  | coe s =>
    induction p using EReal.rec with
    | bot => exact absurd h0 (by simp)
    | top => exact absurd h (by simp)
    | coe p =>
      have h0 := EReal.coe_nonneg.1 h0
      have h := EReal.coe_le_coe_iff.1 h
      by_cases hs : s = 0
      · subst hs
        obtain rfl : p = 0 := le_antisymm h h0
        exact ⟨0, le_refl _, zero_le_one, by simp⟩
      · have sp : 0 < s := lt_of_le_of_ne (h0.trans h) (Ne.symm hs)
        refine ⟨p / s, div_nonneg h0 sp.le, (div_le_one sp).2 h, ?_⟩
        rw [← EReal.coe_one, div_cast _ _ hs, ← EReal.coe_mul, mul_one_div]

/-- The code that the kernel computes at a class from any predictions names a counter. -/
theorem code_range (v : Fin 19 → EReal) (t : EReal) (l : BitVec 32) (c : Fin 19) :
    ∃ n < 38912, IntOp.addi (IntOp.addi (Scalar.select (IntOp.cmpi .eq l (BitVec.ofNat 32 c.val)) 19456#32 0#32) (IntOp.muli (BitVec.ofNat 32 c.val) 1024#32))
        (IntOp.minsi (FloatOps.fptosi (F := Ideal) (φ := .f32) 32 (Scalar.select (IntOp.cmpi .eq l (BitVec.ofNat 32 c.val))
          (1 - Ideal.exp (v c - t) * Ideal.div 1 (∑ k, Ideal.exp (v k - t)))
          (Ideal.exp (v c - t) * Ideal.div 1 (∑ k, Ideal.exp (v k - t)))
          * Ideal.ofBits .f32 1149239296#32)) 1023#32)
      = BitVec.ofNat 32 n := by
  obtain ⟨r, r0, r1, e⟩ := share_unit (fun k => Ideal.exp (v k - t)) (fun k => exp_nonneg _) c
  rw [e, WordCmp.cmpi_eq_eq]
  have := c.isLt
  by_cases h : l = BitVec.ofNat 32 c.val
  · rw [decide_eq_true h]
    have w := unit_word (1 - r) (by linarith) (by linarith)
    rw [EReal.coe_sub, EReal.coe_one] at w
    refine ⟨19456 + c.val * 1024 + min ⌊(1 - r) * 1024⌋₊ 1023, by omega, ?_⟩
    rw [← WordCmp.addi_ofNat, ← WordCmp.addi_ofNat, ← w, ← WordCmp.muli_ofNat]
    rfl
  · rw [decide_eq_false h]
    have w := unit_word r r0 r1
    refine ⟨0 + c.val * 1024 + min ⌊r * 1024⌋₊ 1023, by omega, ?_⟩
    rw [← WordCmp.addi_ofNat, ← WordCmp.addi_ofNat, ← w, ← WordCmp.muli_ofNat]
    rfl

/-- Both codes of a grid point's packed word name counters. -/
theorem pay4_range (x : S1x19x64x512.Idx → Ideal .f32) (y : S1x64x512.Idx → BitVec 32) (c : Fin 19) (r : Fin 32) (w : Fin 512) :
    ∃ a < 38912, ∃ b < 38912, k0_pay4 (F := Ideal) x y (ix3 c r w) = IntOp.ori (BitVec.ofNat 32 a) (IntOp.shli .vector (BitVec.ofNat 32 b) 16#32) := by
  have := r.isLt
  have n (h : Fin 64) := code_range (fun c => x (ix4 0 c h w)) (Finset.fold max (Ideal.ofBits .f32 4286578688#32) (fun k => x (ix4 0 k h w)) Finset.univ) (y (ix3 0 h w)) c
  obtain ⟨a, ha, ea⟩ := n ⟨r.val, by omega⟩
  obtain ⟨b, hb, eb⟩ := n ⟨32 + r.val, by omega⟩
  refine ⟨a, ha, b, hb, ?_⟩
  unfold k0_pay4
  pointwise
  exact congrArg₂ (fun a b => IntOp.ori a (IntOp.shli .vector b 16#32)) ea eb

variable (m : (ℓ : Loc nD τ sig) → Buf (Elt Ideal) ℓ) (d : Dev nD)

/-- Every code is in the histograms' range. -/
theorem inRange : InRange (X m d) := by
  intro n
  by_cases hn : n < 9961472
  · have e : n / 128 = (n / 128 / 2432) * 2432 + n / 128 % 2432 := by omega
    rw [words_flat m d n hn, words0_at (preds m d) (labels m d) ⟨n / 128 / 2432, by omega⟩
      (ix2 (n0 := 2432) (n1 := 128) ⟨n / 128 % 2432, by omega⟩ ⟨n % 128, by omega⟩) _ e rfl]
    obtain ⟨a, ha, b, hb, h⟩ := pay4_range (predBlk (preds m d) ⟨n / 128 / 2432, by omega⟩) (labBlk (labels m d) ⟨n / 128 / 2432, by omega⟩)
      ⟨n / 128 % 2432 % 608 / 32, by omega⟩ ⟨n / 128 % 2432 % 608 % 32, by omega⟩ ⟨128 * (n / 128 % 2432 / 608) + n % 128, by omega⟩
    have := pack a b ha hb
    rw [← h] at this
    have g : blk (predBlk (preds m d) ⟨n / 128 / 2432, by omega⟩) (labBlk (labels m d) ⟨n / 128 / 2432, by omega⟩)
        (ix2 (n0 := 2432) (n1 := 128) ⟨n / 128 % 2432, by omega⟩ ⟨n % 128, by omega⟩)
      = k0_pay4 (predBlk (preds m d) ⟨n / 128 / 2432, by omega⟩) (labBlk (labels m d) ⟨n / 128 / 2432, by omega⟩)
        (ix3 (n0 := 19) (n1 := 32) (n2 := 512) ⟨n / 128 % 2432 % 608 / 32, by omega⟩ ⟨n / 128 % 2432 % 608 % 32, by omega⟩ ⟨128 * (n / 128 % 2432 / 608) + n % 128, by omega⟩) := by
      unfold blk
      congr 1
      have e1 : n / 128 % 2432 % 32 = n / 128 % 2432 % 608 % 32 := by omega
      funext a
      match a with
      | ⟨0, _⟩ => rfl
      | ⟨1, _⟩ => exact Fin.ext e1
      | ⟨2, _⟩ => rfl
    rw [g]
    rw [this.1, this.2]
    exact ⟨ha, hb⟩
  · unfold words
    rw [dif_neg hn]
    exact ⟨by decide, by decide⟩

end Cert.Proof.Whole
-- ==== Proof.Whole.Finite.lean ====
/-
  The precondition on the predictions read at the extended reals: each of them is a real.
-/
module

public import proofs.«01_k».proof.Proof.Gen.Pre_finite_pred
public import Idealize.ShloMosaic.Lib.Pointwise
public import Idealize.ShloMosaic.Lib.WordCmp

@[expose] public section

noncomputable section

namespace Cert.Proof.Whole

open Idealize.ShloMosaic
open Cert.Pre_finite_pred Cert.Pre_finite_pred.Gen

/-- A conjunction taken one after another that ends in one started at one. -/
theorem foldl_and_start {ι : Type} (l : List ι) (op : ι → BitVec 1) (b : BitVec 1) (h : l.foldl (fun r n => IntOp.andi r (op n)) b = 1#1) : b = 1#1 := by
  induction l generalizing b with
  | nil => exact h
  | cons a l ih =>
    have both : ∀ x y : BitVec 1, IntOp.andi x y = 1#1 → x = 1#1 := by decide
    exact both _ _ (ih _ h)

/-- A conjunction taken one after another that ends in one is of ones. -/
theorem foldl_and_one {ι : Type} (l : List ι) (op : ι → BitVec 1) (b : BitVec 1) (h : l.foldl (fun r n => IntOp.andi r (op n)) b = 1#1) (n : ι) (hn : n ∈ l) :
    op n = 1#1 := by
  induction l generalizing b with
  | nil => exact absurd hn List.not_mem_nil
  | cons a l ih =>
    rcases List.mem_cons.1 hn with rfl | hn
    · have both : ∀ x y : BitVec 1, IntOp.andi x y = 1#1 → y = 1#1 := by decide
      exact both _ _ (foldl_and_start l op _ h)
    · exact ih _ h hn

/-- A conjunction over a whole array that is one is of ones. -/
theorem reduce_and_one {s t u : Shape} {axes : List (Fin s.rank)} (x : s.Idx → BitVec 1) (init : u.Idx → BitVec 1) (h : s.ReducesTo axes t) (hu : 0 < u.numel)
    (j : t.Idx) (i : s.Idx) (hj : h.drop i = j) (e : Host.reduce IntOp.andi x init h hu j = 1#1) : x i = 1#1 := by
  unfold Host.reduce at e
  have := foldl_and_one _ (fun n => x (s.rowMajor.symm n)) _ e (s.rowMajor i) (by rw [List.mem_filter]; simpa using hj)
  simpa using this

/-- Every prediction is a real. -/
theorem real_of_pre (P : S4x19x512x512.Idx → Ideal .f32) (L : S4x512x512.Idx → BitVec 32) (h : Cert.Pre_finite_pred.fn (F := Ideal) P L = fun _ => 1#1)
    (i : S4x19x512x512.Idx) : ∃ r : ℝ, P i = (r : EReal) := by
  unfold fn at h
  have e := reduce_and_one _ _ Facts.reducesTo_S4x19x512x512_S_d0_1_2_3 Facts.h_S_ ix0 i (funext fun a => a.elim0) (congrFun h ix0)
  have top : (FloatOps.ofBits .f32 0x7F800000#32 : Ideal .f32) = (⊤ : EReal) := by show Ideal.ofBits .f32 _ = _; simp [Ideal.ofBits, Ideal.ieee]
  have lt : max (P i : EReal) (-(P i : EReal)) < (⊤ : EReal) := by
    rw [← top]
    exact of_decide_eq_true ((WordCmp.ofBool_eq_one_iff _).1 e)
  generalize P i = p at lt ⊢
  induction p using EReal.rec with
  | bot => simp at lt
  | coe r => exact ⟨r, rfl⟩
  | top => simp at lt

end Cert.Proof.Whole
-- ==== Proof.lean ====
/-
  The claims about the whole kernel and about its tail: each program ends without fault and leaves its arguments
  and its semaphores as they were, and over the extended reals the kernel's loss is the reference's.
-/
module

public import proofs.«01_k».proof.Proof.Gen.TailReferenceIdeal.Run
public import proofs.«01_k».proof.Proof.Gen.ReferenceIdeal.Run
public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_pred
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailReferenceIdeal
public import proofs.«01_k».proof.Proof.Gen.Pre_codes_in_range
public import proofs.«01_k».proof.Proof.Ref
public import proofs.«01_k».proof.Proof.Same
public import proofs.«01_k».proof.Proof.Whole.Range
public import proofs.«01_k».proof.Proof.Whole.Finite
public import Idealize.ShloMosaic.Adequacy
public import Idealize.ShloMosaic.Init

@[expose] public section

noncomputable section

namespace Cert.Proof

open Idealize.ShloMosaic Idealize.SL.Sem Cert.Tail

/-- The tail at the machine's floats: the run of the same text at any floats, the counts' values dropped. -/
theorem frame_tail : Cert.quiescent_Tail := fun m ρ hpre => by
  rw [Cert.Proof.Tail.defs_eq]
  exact (show θ_run (Cert.TailIdeal.defs (F := Bits)) (Cert.TailIdeal.threads (F := Bits)) ⟨m, fun _ => 0, ρ⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0))
      ∧ r.2.sem = fun _ => 0) from
    (θ_run Cert.TailIdeal.defs _ _).mono (fun _ h => ⟨fun c => (h.1 c).1, h.2⟩)
      (Cert.Proof.Tail.run_main (F := Bits) m ρ fun d => Cert.Proof.Tail.inRange_of_pre m d (hpre d)))

/-- The tail at the extended reals. -/
theorem frame_tailIdeal : Cert.quiescent_TailIdeal := fun m ρ hpre =>
  (θ_run Cert.TailIdeal.defs _ _).mono (fun _ h => ⟨fun c => (h.1 c).1, h.2⟩)
    (Cert.Proof.Tail.run_main (F := Ideal) m ρ fun d => Cert.Proof.Tail.inRange_of_pre m d (hpre d))

/-- The reference, a straight line of host operations with no semaphore. -/
theorem frame_ref : Cert.quiescent_TailReferenceIdeal := fun m ρ _ =>
  (θ_run Cert.TailReferenceIdeal.defs _ _).mono (fun r h => ⟨fun c => (h c).2, Idealize.ShloMosaic.sem_eq_zero_of_no_sems (by decide) r.2⟩)
    (Cert.TailReferenceIdeal.Value.run (F := Ideal) m ρ)

/-- The reference where the codes are in range: the same run. -/
theorem frame_ref_pre : Cert.quiescent_TailReferenceIdeal_pre_codes_in_range := fun m ρ _ =>
  (θ_run Cert.TailReferenceIdeal.defs _ _).mono (fun r h => ⟨fun c => (h c).2, Idealize.ShloMosaic.sem_eq_zero_of_no_sems (by decide) r.2⟩)
    (Cert.TailReferenceIdeal.Value.run (F := Ideal) m ρ)

/-- Both programs end with the loss of the packed words' counts. -/
theorem algebraic : Cert.algebraic_TailIdeal_TailReferenceIdeal := fun m ρ m' ρ' hpre hargs =>
  ⟨fun c => Cert.Proof.Tail.V5 m c (Cert.Proof.Tail.dv Cert.TailIdeal.main_v8),
    (θ_run Cert.TailIdeal.defs _ _).mono (fun _ h c => ⟨(h.1 c).2, (h.1 c).1⟩)
      (Cert.Proof.Tail.run_main (F := Ideal) m ρ fun d => Cert.Proof.Tail.inRange_of_pre m d (hpre d)),
    (θ_run Cert.TailReferenceIdeal.defs _ _).mono (fun _ h c => ⟨(h c).1.trans
        ((Cert.Proof.Ref.res_apply m' c (Cert.Proof.Tail.words (Cert.Proof.Tail.X m c)) (fun i j => (Cert.Proof.Tail.words_at m c i j).trans (congrFun (hargs c).symm _))).trans (Cert.Proof.Tail.V5_out m c).symm), (h c).2⟩)
      (Cert.TailReferenceIdeal.Value.run (F := Ideal) m' ρ')⟩

/-- The whole kernel at the extended reals: its run, the loss dropped. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.Proof.Whole.run_main (F := Ideal) m ρ fun d => Cert.Proof.Whole.inRange m d)

/-- The whole kernel where the predictions are finite: the same run. -/
theorem frame_kernelIdeal_pre : Cert.quiescent_KernelIdeal_pre_finite_pred := fun m ρ _ => frame_kernelIdeal m ρ trivial

/-- The whole kernel's reference, a straight line of host operations with no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The whole kernel's reference where the predictions are finite: the same run. -/
theorem frame_reference_pre : Cert.quiescent_ReferenceIdeal_pre_finite_pred := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's loss of a device's predictions and labels is the loss of their counts. -/
theorem loss_reference (m : (ℓ : Loc Cert.ReferenceIdeal.nD Cert.ReferenceIdeal.τ Cert.ReferenceIdeal.sig) → Buf (Elt Ideal) ℓ) (c : Dev Cert.ReferenceIdeal.nD)
    (P : Cert.ReferenceIdeal.S4x19x512x512.Idx → Ideal .f32) (L : Cert.ReferenceIdeal.S4x512x512.Idx → BitVec 32)
    (ha : m ((c.tc : Thread Cert.ReferenceIdeal.nD Cert.ReferenceIdeal.τ).loc Cert.ReferenceIdeal.main_arg0) = P)
    (hb : m ((c.tc : Thread Cert.ReferenceIdeal.nD Cert.ReferenceIdeal.τ).loc Cert.ReferenceIdeal.main_arg1) = L)
    (hP : ∀ i, ∃ r : ℝ, P i = (r : EReal)) :
    Cert.ReferenceIdeal.Value.res_main_v65 m c = fun _ => ((Cert.Proof.Loss.loss (Cert.Proof.Whole.tally P L) : ℝ) : EReal) := by
  subst ha hb
  exact (Cert.Proof.Whole.res_eq m c).trans (Cert.Proof.Whole.ref_loss _ _ hP)

/-- Both whole programs end with the loss of the counts of the predictions and labels. -/
theorem algebraic_whole : Cert.algebraic_KernelIdeal_ReferenceIdeal_pre_finite_pred := fun m ρ m' ρ' hpre hargs =>
  ⟨fun c => Cert.Proof.Whole.V5 m c (Cert.Proof.Whole.dv Cert.KernelIdeal.main_v9),
    (θ_run Cert.KernelIdeal.defs _ _).mono (fun _ h c => ⟨(h.1 c).2.2, (h.1 c).1, (h.1 c).2.1⟩)
      (Cert.Proof.Whole.run_main (F := Ideal) m ρ fun d => Cert.Proof.Whole.inRange m d),
    (θ_run Cert.ReferenceIdeal.defs _ _).mono (fun _ h c => ⟨(h c).1.trans
        ((loss_reference m' c _ _ (hargs c).1 (hargs c).2 (Cert.Proof.Whole.real_of_pre _ _ (hpre c))).trans
          (Cert.Proof.Whole.V5_out m c (Cert.Proof.Whole.real_of_pre _ _ (hpre c))).symm), (h c).2⟩)
      (Cert.ReferenceIdeal.Value.run (F := Ideal) m' ρ')⟩

/-- All the claims, after the facts that the printed programs state. -/
theorem claim : Cert.Claim := ⟨Cert.Tail.Gen.facts, Cert.TailIdeal.Gen.facts, Cert.TailReferenceIdeal.Gen.facts, Cert.KernelIdeal.Gen.facts,
  Cert.ReferenceIdeal.Gen.facts, Cert.Pre_codes_in_range.Gen.facts, Cert.Pre_finite_pred.Gen.facts,
  frame_tail, frame_tailIdeal, frame_ref, frame_ref_pre, frame_kernelIdeal, frame_kernelIdeal_pre, frame_reference, frame_reference_pre, trivial, algebraic, algebraic_whole⟩

end Cert.Proof

end
